-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S4x128x1024 : Shape := ⟨3, ![4, 128, 1024]⟩
abbrev S4x1024x2048 : Shape := ⟨3, ![4, 1024, 2048]⟩
abbrev S128x2048 : Shape := ⟨2, ![128, 2048]⟩
abbrev S32x128x256 : Shape := ⟨3, ![32, 128, 256]⟩
abbrev S8x128 : Shape := ⟨2, ![8, 128]⟩
abbrev S32x128 : Shape := ⟨2, ![32, 128]⟩
abbrev S4 : Shape := ⟨1, ![4]⟩
abbrev S32 : Shape := ⟨1, ![32]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S128x1024 : Shape := ⟨2, ![128, 1024]⟩
abbrev S1x128x1024 : Shape := ⟨3, ![1, 128, 1024]⟩
abbrev S128x256 : Shape := ⟨2, ![128, 256]⟩
abbrev S1x128x256 : Shape := ⟨3, ![1, 128, 256]⟩
abbrev S1x128x2048 : Shape := ⟨3, ![1, 128, 2048]⟩
abbrev S1x1x1 : Shape := ⟨3, ![1, 1, 1]⟩
abbrev S1x128 : Shape := ⟨2, ![1, 128]⟩
abbrev S1x32x128 : Shape := ⟨3, ![1, 32, 128]⟩

abbrev nBuf : Space → Nat
  | .hbm => 3
  | .vmem => 10
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4x128x1024, .f32⟩
  | .local _ .vmem, ⟨3, _⟩ => ⟨S4x1024x2048, .f32⟩
  | .local _ .vmem, ⟨4, _⟩ => ⟨S128x2048, .f32⟩
  | .local _ .vmem, ⟨5, _⟩ => ⟨S128x2048, .f32⟩
  | .local _ .vmem, ⟨6, _⟩ => ⟨S32x128x256, .bf16⟩
  | .local _ .vmem, ⟨7, _⟩ => ⟨S32x128x256, .bf16⟩
  | .local _ .vmem, ⟨8, _⟩ => ⟨S8x128, .f32⟩
  | .local _ .vmem, ⟨9, _⟩ => ⟨S32x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v5 : BitVec 1 := Scalar.cmpi .eq v1 c0_i32
  let v6 : BitVec 32 := Scalar.extui v5
  let c0_i32_0 : BitVec 32 := 0#32
  let v7 : BitVec 1 := Scalar.cmpi .ne v6 c0_i32_0
  v7

def k0_dev1 (d2 : Dev nD) : Nat :=
  let c0_i32_57 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c1_i32_53 : BitVec 32 := 1#32
  let v81 : BitVec 32 := Scalar.addi v4 c1_i32_53
  let c32_i32_54 : BitVec 32 := 32#32
  let v82 : BitVec 32 := Scalar.remsi v81 c32_i32_54
  let c1_i32_56 : BitVec 32 := 1#32
  let v83 : BitVec 32 := Scalar.muli v82 c1_i32_56
  let v84 : BitVec 32 := Scalar.addi c0_i32_57 v83
  v84.toNat
def k0_dev2 (d2 : Dev nD) : Nat :=
  let c0_i32_62 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c2_i32_58 : BitVec 32 := 2#32
  let v85 : BitVec 32 := Scalar.addi v4 c2_i32_58
  let c32_i32_59 : BitVec 32 := 32#32
  let v86 : BitVec 32 := Scalar.remsi v85 c32_i32_59
  let c1_i32_61 : BitVec 32 := 1#32
  let v87 : BitVec 32 := Scalar.muli v86 c1_i32_61
  let v88 : BitVec 32 := Scalar.addi c0_i32_62 v87
  v88.toNat
def k0_dev3 (d2 : Dev nD) : Nat :=
  let c0_i32_67 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c3_i32_63 : BitVec 32 := 3#32
  let v89 : BitVec 32 := Scalar.addi v4 c3_i32_63
  let c32_i32_64 : BitVec 32 := 32#32
  let v90 : BitVec 32 := Scalar.remsi v89 c32_i32_64
  let c1_i32_66 : BitVec 32 := 1#32
  let v91 : BitVec 32 := Scalar.muli v90 c1_i32_66
  let v92 : BitVec 32 := Scalar.addi c0_i32_67 v91
  v92.toNat
def k0_dev4 (d2 : Dev nD) : Nat :=
  let c0_i32_72 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c4_i32_68 : BitVec 32 := 4#32
  let v93 : BitVec 32 := Scalar.addi v4 c4_i32_68
  let c32_i32_69 : BitVec 32 := 32#32
  let v94 : BitVec 32 := Scalar.remsi v93 c32_i32_69
  let c1_i32_71 : BitVec 32 := 1#32
  let v95 : BitVec 32 := Scalar.muli v94 c1_i32_71
  let v96 : BitVec 32 := Scalar.addi c0_i32_72 v95
  v96.toNat
def k0_dev5 (d2 : Dev nD) : Nat :=
  let c0_i32_76 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c5_i32 : BitVec 32 := 5#32
  let v97 : BitVec 32 := Scalar.addi v4 c5_i32
  let c32_i32_73 : BitVec 32 := 32#32
  let v98 : BitVec 32 := Scalar.remsi v97 c32_i32_73
  let c1_i32_75 : BitVec 32 := 1#32
  let v99 : BitVec 32 := Scalar.muli v98 c1_i32_75
  let v100 : BitVec 32 := Scalar.addi c0_i32_76 v99
  v100.toNat
def k0_dev6 (d2 : Dev nD) : Nat :=
  let c0_i32_80 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c6_i32 : BitVec 32 := 6#32
  let v101 : BitVec 32 := Scalar.addi v4 c6_i32
  let c32_i32_77 : BitVec 32 := 32#32
  let v102 : BitVec 32 := Scalar.remsi v101 c32_i32_77
  let c1_i32_79 : BitVec 32 := 1#32
  let v103 : BitVec 32 := Scalar.muli v102 c1_i32_79
  let v104 : BitVec 32 := Scalar.addi c0_i32_80 v103
  v104.toNat
def k0_dev7 (d2 : Dev nD) : Nat :=
  let c0_i32_84 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c7_i32 : BitVec 32 := 7#32
  let v105 : BitVec 32 := Scalar.addi v4 c7_i32
  let c32_i32_81 : BitVec 32 := 32#32
  let v106 : BitVec 32 := Scalar.remsi v105 c32_i32_81
  let c1_i32_83 : BitVec 32 := 1#32
  let v107 : BitVec 32 := Scalar.muli v106 c1_i32_83
  let v108 : BitVec 32 := Scalar.addi c0_i32_84 v107
  v108.toNat
def k0_dev8 (d2 : Dev nD) : Nat :=
  let c0_i32_88 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c8_i32 : BitVec 32 := 8#32
  let v109 : BitVec 32 := Scalar.addi v4 c8_i32
  let c32_i32_85 : BitVec 32 := 32#32
  let v110 : BitVec 32 := Scalar.remsi v109 c32_i32_85
  let c1_i32_87 : BitVec 32 := 1#32
  let v111 : BitVec 32 := Scalar.muli v110 c1_i32_87
  let v112 : BitVec 32 := Scalar.addi c0_i32_88 v111
  v112.toNat
def k0_dev9 (d2 : Dev nD) : Nat :=
  let c0_i32_92 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c9_i32 : BitVec 32 := 9#32
  let v113 : BitVec 32 := Scalar.addi v4 c9_i32
  let c32_i32_89 : BitVec 32 := 32#32
  let v114 : BitVec 32 := Scalar.remsi v113 c32_i32_89
  let c1_i32_91 : BitVec 32 := 1#32
  let v115 : BitVec 32 := Scalar.muli v114 c1_i32_91
  let v116 : BitVec 32 := Scalar.addi c0_i32_92 v115
  v116.toNat
def k0_dev10 (d2 : Dev nD) : Nat :=
  let c0_i32_96 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c10_i32 : BitVec 32 := 10#32
  let v117 : BitVec 32 := Scalar.addi v4 c10_i32
  let c32_i32_93 : BitVec 32 := 32#32
  let v118 : BitVec 32 := Scalar.remsi v117 c32_i32_93
  let c1_i32_95 : BitVec 32 := 1#32
  let v119 : BitVec 32 := Scalar.muli v118 c1_i32_95
  let v120 : BitVec 32 := Scalar.addi c0_i32_96 v119
  v120.toNat
def k0_dev11 (d2 : Dev nD) : Nat :=
  let c0_i32_100 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c11_i32 : BitVec 32 := 11#32
  let v121 : BitVec 32 := Scalar.addi v4 c11_i32
  let c32_i32_97 : BitVec 32 := 32#32
  let v122 : BitVec 32 := Scalar.remsi v121 c32_i32_97
  let c1_i32_99 : BitVec 32 := 1#32
  let v123 : BitVec 32 := Scalar.muli v122 c1_i32_99
  let v124 : BitVec 32 := Scalar.addi c0_i32_100 v123
  v124.toNat
def k0_dev12 (d2 : Dev nD) : Nat :=
  let c0_i32_104 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c12_i32 : BitVec 32 := 12#32
  let v125 : BitVec 32 := Scalar.addi v4 c12_i32
  let c32_i32_101 : BitVec 32 := 32#32
  let v126 : BitVec 32 := Scalar.remsi v125 c32_i32_101
  let c1_i32_103 : BitVec 32 := 1#32
  let v127 : BitVec 32 := Scalar.muli v126 c1_i32_103
  let v128 : BitVec 32 := Scalar.addi c0_i32_104 v127
  v128.toNat
def k0_dev13 (d2 : Dev nD) : Nat :=
  let c0_i32_108 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c13_i32 : BitVec 32 := 13#32
  let v129 : BitVec 32 := Scalar.addi v4 c13_i32
  let c32_i32_105 : BitVec 32 := 32#32
  let v130 : BitVec 32 := Scalar.remsi v129 c32_i32_105
  let c1_i32_107 : BitVec 32 := 1#32
  let v131 : BitVec 32 := Scalar.muli v130 c1_i32_107
  let v132 : BitVec 32 := Scalar.addi c0_i32_108 v131
  v132.toNat
def k0_dev14 (d2 : Dev nD) : Nat :=
  let c0_i32_112 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c14_i32 : BitVec 32 := 14#32
  let v133 : BitVec 32 := Scalar.addi v4 c14_i32
  let c32_i32_109 : BitVec 32 := 32#32
  let v134 : BitVec 32 := Scalar.remsi v133 c32_i32_109
  let c1_i32_111 : BitVec 32 := 1#32
  let v135 : BitVec 32 := Scalar.muli v134 c1_i32_111
  let v136 : BitVec 32 := Scalar.addi c0_i32_112 v135
  v136.toNat
def k0_dev15 (d2 : Dev nD) : Nat :=
  let c0_i32_116 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c15_i32 : BitVec 32 := 15#32
  let v137 : BitVec 32 := Scalar.addi v4 c15_i32
  let c32_i32_113 : BitVec 32 := 32#32
  let v138 : BitVec 32 := Scalar.remsi v137 c32_i32_113
  let c1_i32_115 : BitVec 32 := 1#32
  let v139 : BitVec 32 := Scalar.muli v138 c1_i32_115
  let v140 : BitVec 32 := Scalar.addi c0_i32_116 v139
  v140.toNat
def k0_dev16 (d2 : Dev nD) : Nat :=
  let c0_i32_121 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c16_i32_117 : BitVec 32 := 16#32
  let v141 : BitVec 32 := Scalar.addi v4 c16_i32_117
  let c32_i32_118 : BitVec 32 := 32#32
  let v142 : BitVec 32 := Scalar.remsi v141 c32_i32_118
  let c1_i32_120 : BitVec 32 := 1#32
  let v143 : BitVec 32 := Scalar.muli v142 c1_i32_120
  let v144 : BitVec 32 := Scalar.addi c0_i32_121 v143
  v144.toNat
def k0_dev17 (d2 : Dev nD) : Nat :=
  let c0_i32_125 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c17_i32 : BitVec 32 := 17#32
  let v145 : BitVec 32 := Scalar.addi v4 c17_i32
  let c32_i32_122 : BitVec 32 := 32#32
  let v146 : BitVec 32 := Scalar.remsi v145 c32_i32_122
  let c1_i32_124 : BitVec 32 := 1#32
  let v147 : BitVec 32 := Scalar.muli v146 c1_i32_124
  let v148 : BitVec 32 := Scalar.addi c0_i32_125 v147
  v148.toNat
def k0_dev18 (d2 : Dev nD) : Nat :=
  let c0_i32_129 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c18_i32 : BitVec 32 := 18#32
  let v149 : BitVec 32 := Scalar.addi v4 c18_i32
  let c32_i32_126 : BitVec 32 := 32#32
  let v150 : BitVec 32 := Scalar.remsi v149 c32_i32_126
  let c1_i32_128 : BitVec 32 := 1#32
  let v151 : BitVec 32 := Scalar.muli v150 c1_i32_128
  let v152 : BitVec 32 := Scalar.addi c0_i32_129 v151
  v152.toNat
def k0_dev19 (d2 : Dev nD) : Nat :=
  let c0_i32_133 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c19_i32 : BitVec 32 := 19#32
  let v153 : BitVec 32 := Scalar.addi v4 c19_i32
  let c32_i32_130 : BitVec 32 := 32#32
  let v154 : BitVec 32 := Scalar.remsi v153 c32_i32_130
  let c1_i32_132 : BitVec 32 := 1#32
  let v155 : BitVec 32 := Scalar.muli v154 c1_i32_132
  let v156 : BitVec 32 := Scalar.addi c0_i32_133 v155
  v156.toNat
def k0_dev20 (d2 : Dev nD) : Nat :=
  let c0_i32_137 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c20_i32 : BitVec 32 := 20#32
  let v157 : BitVec 32 := Scalar.addi v4 c20_i32
  let c32_i32_134 : BitVec 32 := 32#32
  let v158 : BitVec 32 := Scalar.remsi v157 c32_i32_134
  let c1_i32_136 : BitVec 32 := 1#32
  let v159 : BitVec 32 := Scalar.muli v158 c1_i32_136
  let v160 : BitVec 32 := Scalar.addi c0_i32_137 v159
  v160.toNat
def k0_dev21 (d2 : Dev nD) : Nat :=
  let c0_i32_141 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c21_i32 : BitVec 32 := 21#32
  let v161 : BitVec 32 := Scalar.addi v4 c21_i32
  let c32_i32_138 : BitVec 32 := 32#32
  let v162 : BitVec 32 := Scalar.remsi v161 c32_i32_138
  let c1_i32_140 : BitVec 32 := 1#32
  let v163 : BitVec 32 := Scalar.muli v162 c1_i32_140
  let v164 : BitVec 32 := Scalar.addi c0_i32_141 v163
  v164.toNat
def k0_dev22 (d2 : Dev nD) : Nat :=
  let c0_i32_145 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c22_i32 : BitVec 32 := 22#32
  let v165 : BitVec 32 := Scalar.addi v4 c22_i32
  let c32_i32_142 : BitVec 32 := 32#32
  let v166 : BitVec 32 := Scalar.remsi v165 c32_i32_142
  let c1_i32_144 : BitVec 32 := 1#32
  let v167 : BitVec 32 := Scalar.muli v166 c1_i32_144
  let v168 : BitVec 32 := Scalar.addi c0_i32_145 v167
  v168.toNat
def k0_dev23 (d2 : Dev nD) : Nat :=
  let c0_i32_149 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c23_i32 : BitVec 32 := 23#32
  let v169 : BitVec 32 := Scalar.addi v4 c23_i32
  let c32_i32_146 : BitVec 32 := 32#32
  let v170 : BitVec 32 := Scalar.remsi v169 c32_i32_146
  let c1_i32_148 : BitVec 32 := 1#32
  let v171 : BitVec 32 := Scalar.muli v170 c1_i32_148
  let v172 : BitVec 32 := Scalar.addi c0_i32_149 v171
  v172.toNat
def k0_dev24 (d2 : Dev nD) : Nat :=
  let c0_i32_153 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c24_i32 : BitVec 32 := 24#32
  let v173 : BitVec 32 := Scalar.addi v4 c24_i32
  let c32_i32_150 : BitVec 32 := 32#32
  let v174 : BitVec 32 := Scalar.remsi v173 c32_i32_150
  let c1_i32_152 : BitVec 32 := 1#32
  let v175 : BitVec 32 := Scalar.muli v174 c1_i32_152
  let v176 : BitVec 32 := Scalar.addi c0_i32_153 v175
  v176.toNat
def k0_dev25 (d2 : Dev nD) : Nat :=
  let c0_i32_157 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c25_i32 : BitVec 32 := 25#32
  let v177 : BitVec 32 := Scalar.addi v4 c25_i32
  let c32_i32_154 : BitVec 32 := 32#32
  let v178 : BitVec 32 := Scalar.remsi v177 c32_i32_154
  let c1_i32_156 : BitVec 32 := 1#32
  let v179 : BitVec 32 := Scalar.muli v178 c1_i32_156
  let v180 : BitVec 32 := Scalar.addi c0_i32_157 v179
  v180.toNat
def k0_dev26 (d2 : Dev nD) : Nat :=
  let c0_i32_161 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c26_i32 : BitVec 32 := 26#32
  let v181 : BitVec 32 := Scalar.addi v4 c26_i32
  let c32_i32_158 : BitVec 32 := 32#32
  let v182 : BitVec 32 := Scalar.remsi v181 c32_i32_158
  let c1_i32_160 : BitVec 32 := 1#32
  let v183 : BitVec 32 := Scalar.muli v182 c1_i32_160
  let v184 : BitVec 32 := Scalar.addi c0_i32_161 v183
  v184.toNat
def k0_dev27 (d2 : Dev nD) : Nat :=
  let c0_i32_165 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c27_i32 : BitVec 32 := 27#32
  let v185 : BitVec 32 := Scalar.addi v4 c27_i32
  let c32_i32_162 : BitVec 32 := 32#32
  let v186 : BitVec 32 := Scalar.remsi v185 c32_i32_162
  let c1_i32_164 : BitVec 32 := 1#32
  let v187 : BitVec 32 := Scalar.muli v186 c1_i32_164
  let v188 : BitVec 32 := Scalar.addi c0_i32_165 v187
  v188.toNat
def k0_dev28 (d2 : Dev nD) : Nat :=
  let c0_i32_169 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c28_i32 : BitVec 32 := 28#32
  let v189 : BitVec 32 := Scalar.addi v4 c28_i32
  let c32_i32_166 : BitVec 32 := 32#32
  let v190 : BitVec 32 := Scalar.remsi v189 c32_i32_166
  let c1_i32_168 : BitVec 32 := 1#32
  let v191 : BitVec 32 := Scalar.muli v190 c1_i32_168
  let v192 : BitVec 32 := Scalar.addi c0_i32_169 v191
  v192.toNat
def k0_dev29 (d2 : Dev nD) : Nat :=
  let c0_i32_173 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c29_i32 : BitVec 32 := 29#32
  let v193 : BitVec 32 := Scalar.addi v4 c29_i32
  let c32_i32_170 : BitVec 32 := 32#32
  let v194 : BitVec 32 := Scalar.remsi v193 c32_i32_170
  let c1_i32_172 : BitVec 32 := 1#32
  let v195 : BitVec 32 := Scalar.muli v194 c1_i32_172
  let v196 : BitVec 32 := Scalar.addi c0_i32_173 v195
  v196.toNat
def k0_dev30 (d2 : Dev nD) : Nat :=
  let c0_i32_177 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c30_i32 : BitVec 32 := 30#32
  let v197 : BitVec 32 := Scalar.addi v4 c30_i32
  let c32_i32_174 : BitVec 32 := 32#32
  let v198 : BitVec 32 := Scalar.remsi v197 c32_i32_174
  let c1_i32_176 : BitVec 32 := 1#32
  let v199 : BitVec 32 := Scalar.muli v198 c1_i32_176
  let v200 : BitVec 32 := Scalar.addi c0_i32_177 v199
  v200.toNat
def k0_dev31 (d2 : Dev nD) : Nat :=
  let c0_i32_181 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c31_i32 : BitVec 32 := 31#32
  let v201 : BitVec 32 := Scalar.addi v4 c31_i32
  let c32_i32_178 : BitVec 32 := 32#32
  let v202 : BitVec 32 := Scalar.remsi v201 c32_i32_178
  let c1_i32_180 : BitVec 32 := 1#32
  let v203 : BitVec 32 := Scalar.muli v202 c1_i32_180
  let v204 : BitVec 32 := Scalar.addi c0_i32_181 v203
  v204.toNat
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_1 : BitVec 32 := 4#32
  let v8 : BitVec 32 := Scalar.remsi v1 c4_i32_1
  ![v8.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_1 : BitVec 32 := 4#32
  let v8 : BitVec 32 := Scalar.remsi v1 c4_i32_1
  let c0_i32_2 : BitVec 32 := 0#32
  let c0_i32_3 : BitVec 32 := 0#32
  ![v8.toNat, 0, 0]
def k0_off3 (i : grid0.Coords) : Fin 2 → Nat :=
  let arg1 : BitVec 32 := BitVec.ofNat 32 (i 1).val
  let c1024_i32 : BitVec 32 := 1024#32
  let v9 : BitVec 32 := Scalar.muli arg1 c1024_i32
  let arg0 : BitVec 32 := BitVec.ofNat 32 (i 0).val
  let c2048_i32 : BitVec 32 := 2048#32
  let v10 : BitVec 32 := Scalar.muli arg0 c2048_i32
  ![v9.toNat, v10.toNat]
def k0_off4 (i : grid0.Coords) : Fin 3 → Nat :=
  let arg1 : BitVec 32 := BitVec.ofNat 32 (i 1).val
  let v16 : Index := Scalar.indexCast arg1
  let c0 : Index := 0#32
  let c0_4 : Index := 0#32
  ![v16.toNat, 0, 0]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_1 : BitVec 32 := 4#32
  let v8 : BitVec 32 := Scalar.remsi v1 c4_i32_1
  let v19 : Index := Scalar.indexCast v8
  let c0_5 : Index := 0#32
  let c0_6 : Index := 0#32
  ![v19.toNat, 0, 0]
def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v29 : BitVec 32 := Scalar.addi v1 c4_i32_11
  let c16_i32 : BitVec 32 := 16#32
  let v30 : BitVec 1 := Scalar.cmpi .slt v29 c16_i32
  let v31 : BitVec 32 := Scalar.extui v30
  let c0_i32_12 : BitVec 32 := 0#32
  let v32 : BitVec 1 := Scalar.cmpi .ne v31 c0_i32_12
  v32

def k0_off6 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_1 : BitVec 32 := 4#32
  let v8 : BitVec 32 := Scalar.remsi v1 c4_i32_1
  ![v8.toNat]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_1 : BitVec 32 := 4#32
  let v8 : BitVec 32 := Scalar.remsi v1 c4_i32_1
  let c0_i32_24 : BitVec 32 := 0#32
  let c0_i32_25 : BitVec 32 := 0#32
  ![v8.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v29 : BitVec 32 := Scalar.addi v1 c4_i32_11
  let c4_i32_21 : BitVec 32 := 4#32
  let v53 : BitVec 32 := Scalar.remsi v29 c4_i32_21
  let c1024_i32_22 : BitVec 32 := 1024#32
  let v54 : BitVec 32 := Scalar.muli v53 c1024_i32_22
  let c0_i32_15 : BitVec 32 := 0#32
  let v37 : BitVec 1 := Scalar.cmpi .sgt v29 c0_i32_15
  let v38 : BitVec 32 := Scalar.extui v37
  let c0_i32_16 : BitVec 32 := 0#32
  let v39 : BitVec 1 := Scalar.cmpi .slt v29 c0_i32_16
  let v40 : BitVec 32 := Scalar.extui v39
  let v41 : BitVec 32 := Scalar.subi v38 v40
  let c4_i32_14 : BitVec 32 := 4#32
  let c0_i32_17 : BitVec 32 := 0#32
  let v42 : BitVec 1 := Scalar.cmpi .sgt c4_i32_14 c0_i32_17
  let v43 : BitVec 32 := Scalar.extui v42
  let c0_i32_18 : BitVec 32 := 0#32
  let v44 : BitVec 1 := Scalar.cmpi .slt c4_i32_14 c0_i32_18
  let v45 : BitVec 32 := Scalar.extui v44
  let v46 : BitVec 32 := Scalar.subi v43 v45
  let v47 : BitVec 1 := Scalar.cmpi .ne v41 v46
  let v48 : BitVec 32 := Scalar.remsi v29 c4_i32_14
  let c0_i32_19 : BitVec 32 := 0#32
  let v49 : BitVec 1 := Scalar.cmpi .ne v48 c0_i32_19
  let v50 : BitVec 1 := Scalar.andi v47 v49
  let v36 : BitVec 32 := Scalar.divsi v29 c4_i32_14
  let c1_i32_20 : BitVec 32 := 1#32
  let v51 : BitVec 32 := Scalar.subi v36 c1_i32_20
  let v52 : BitVec 32 := Scalar.select v50 v51 v36
  let c2048_i32_23 : BitVec 32 := 2048#32
  let v55 : BitVec 32 := Scalar.muli v52 c2048_i32_23
  ![v54.toNat, v55.toNat]
def k0_cond5 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_13 : BitVec 32 := 0#32
  let v35 : BitVec 1 := Scalar.cmpi .ne v34 c0_i32_13
  v35

def k0_off9 (i : grid0.Coords) (c0_i32_23 : BitVec 32) : Fin 3 → Nat :=
  let arg0 : BitVec 32 := BitVec.ofNat 32 (i 0).val
  let c8_i32 : BitVec 32 := 8#32
  let v48 : BitVec 32 := Scalar.muli arg0 c8_i32
  let v49 : BitVec 32 := Scalar.addi v48 c0_i32_23
  let v52 : Index := Scalar.indexCast v49
  let c0_24 : Index := 0#32
  let c0_25 : Index := 0#32
  ![v52.toNat, 0, 0]
def k0_cond7 (i : grid0.Coords) (d2 : Dev nD) : BitVec 1 :=
  let arg0 : BitVec 32 := BitVec.ofNat 32 (i 0).val
  let c8_i32 : BitVec 32 := 8#32
  let v48 : BitVec 32 := Scalar.muli arg0 c8_i32
  let c0_i32_23 : BitVec 32 := 0#32
  let v49 : BitVec 32 := Scalar.addi v48 c0_i32_23
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v56 : BitVec 1 := Scalar.cmpi .ne v49 v4
  let v57 : BitVec 32 := Scalar.extui v56
  let c0_i32_26 : BitVec 32 := 0#32
  let v58 : BitVec 1 := Scalar.cmpi .ne v57 c0_i32_26
  v58

def k0_off10 (i : grid0.Coords) : Fin 1 → Nat :=
  let arg0 : BitVec 32 := BitVec.ofNat 32 (i 0).val
  let c8_i32 : BitVec 32 := 8#32
  let v48 : BitVec 32 := Scalar.muli arg0 c8_i32
  let c0_i32_23 : BitVec 32 := 0#32
  let v49 : BitVec 32 := Scalar.addi v48 c0_i32_23
  ![v49.toNat]
def k0_off11 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off12 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off13 (i : grid0.Coords) : Fin 3 → Nat :=
  let arg0 : BitVec 32 := BitVec.ofNat 32 (i 0).val
  let c8_i32 : BitVec 32 := 8#32
  let v48 : BitVec 32 := Scalar.muli arg0 c8_i32
  let c0_i32_23 : BitVec 32 := 0#32
  let v49 : BitVec 32 := Scalar.addi v48 c0_i32_23
  let c0_i32_64 : BitVec 32 := 0#32
  let c0_i32_65 : BitVec 32 := 0#32
  ![v49.toNat, 0, 0]
def k0_dev32 (i : grid0.Coords) : Nat :=
  let c0_i32_61 : BitVec 32 := 0#32
  let arg0 : BitVec 32 := BitVec.ofNat 32 (i 0).val
  let c8_i32 : BitVec 32 := 8#32
  let v48 : BitVec 32 := Scalar.muli arg0 c8_i32
  let c0_i32_23 : BitVec 32 := 0#32
  let v49 : BitVec 32 := Scalar.addi v48 c0_i32_23
  let c1_i32_60 : BitVec 32 := 1#32
  let v139 : BitVec 32 := Scalar.muli v49 c1_i32_60
  let v140 : BitVec 32 := Scalar.addi c0_i32_61 v139
  v140.toNat
def k0_cond8 (i : grid0.Coords) (d2 : Dev nD) : BitVec 1 :=
  let arg0 : BitVec 32 := BitVec.ofNat 32 (i 0).val
  let c8_i32_27 : BitVec 32 := 8#32
  let v59 : BitVec 32 := Scalar.muli arg0 c8_i32_27
  let c1_i32_28 : BitVec 32 := 1#32
  let v60 : BitVec 32 := Scalar.addi v59 c1_i32_28
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v67 : BitVec 1 := Scalar.cmpi .ne v60 v4
  let v68 : BitVec 32 := Scalar.extui v67
  let c0_i32_31 : BitVec 32 := 0#32
  let v69 : BitVec 1 := Scalar.cmpi .ne v68 c0_i32_31
  v69

def k0_off14 (i : grid0.Coords) : Fin 1 → Nat :=
  let arg0 : BitVec 32 := BitVec.ofNat 32 (i 0).val
  let c8_i32_27 : BitVec 32 := 8#32
  let v59 : BitVec 32 := Scalar.muli arg0 c8_i32_27
  let c1_i32_28 : BitVec 32 := 1#32
  let v60 : BitVec 32 := Scalar.addi v59 c1_i32_28
  ![v60.toNat]
def k0_off15 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off16 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off17 (i : grid0.Coords) : Fin 3 → Nat :=
  let arg0 : BitVec 32 := BitVec.ofNat 32 (i 0).val
  let c8_i32_27 : BitVec 32 := 8#32
  let v59 : BitVec 32 := Scalar.muli arg0 c8_i32_27
  let c1_i32_28 : BitVec 32 := 1#32
  let v60 : BitVec 32 := Scalar.addi v59 c1_i32_28
  let c0_i32_64 : BitVec 32 := 0#32
  let c0_i32_65 : BitVec 32 := 0#32
  ![v60.toNat, 0, 0]
def k0_dev33 (i : grid0.Coords) : Nat :=
  let c0_i32_61 : BitVec 32 := 0#32
  let arg0 : BitVec 32 := BitVec.ofNat 32 (i 0).val
  let c8_i32_27 : BitVec 32 := 8#32
  let v59 : BitVec 32 := Scalar.muli arg0 c8_i32_27
  let c1_i32_28 : BitVec 32 := 1#32
  let v60 : BitVec 32 := Scalar.addi v59 c1_i32_28
  let c1_i32_60 : BitVec 32 := 1#32
  let v139 : BitVec 32 := Scalar.muli v60 c1_i32_60
  let v140 : BitVec 32 := Scalar.addi c0_i32_61 v139
  v140.toNat
def k0_cond9 (i : grid0.Coords) (d2 : Dev nD) : BitVec 1 :=
  let arg0 : BitVec 32 := BitVec.ofNat 32 (i 0).val
  let c8_i32_32 : BitVec 32 := 8#32
  let v70 : BitVec 32 := Scalar.muli arg0 c8_i32_32
  let c2_i32 : BitVec 32 := 2#32
  let v71 : BitVec 32 := Scalar.addi v70 c2_i32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v78 : BitVec 1 := Scalar.cmpi .ne v71 v4
  let v79 : BitVec 32 := Scalar.extui v78
  let c0_i32_35 : BitVec 32 := 0#32
  let v80 : BitVec 1 := Scalar.cmpi .ne v79 c0_i32_35
  v80

def k0_off18 (i : grid0.Coords) : Fin 1 → Nat :=
  let arg0 : BitVec 32 := BitVec.ofNat 32 (i 0).val
  let c8_i32_32 : BitVec 32 := 8#32
  let v70 : BitVec 32 := Scalar.muli arg0 c8_i32_32
  let c2_i32 : BitVec 32 := 2#32
  let v71 : BitVec 32 := Scalar.addi v70 c2_i32
  ![v71.toNat]
def k0_off19 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off20 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off21 (i : grid0.Coords) : Fin 3 → Nat :=
  let arg0 : BitVec 32 := BitVec.ofNat 32 (i 0).val
  let c8_i32_32 : BitVec 32 := 8#32
  let v70 : BitVec 32 := Scalar.muli arg0 c8_i32_32
  let c2_i32 : BitVec 32 := 2#32
  let v71 : BitVec 32 := Scalar.addi v70 c2_i32
  let c0_i32_64 : BitVec 32 := 0#32
  let c0_i32_65 : BitVec 32 := 0#32
  ![v71.toNat, 0, 0]
def k0_dev34 (i : grid0.Coords) : Nat :=
  let c0_i32_61 : BitVec 32 := 0#32
  let arg0 : BitVec 32 := BitVec.ofNat 32 (i 0).val
  let c8_i32_32 : BitVec 32 := 8#32
  let v70 : BitVec 32 := Scalar.muli arg0 c8_i32_32
  let c2_i32 : BitVec 32 := 2#32
  let v71 : BitVec 32 := Scalar.addi v70 c2_i32
  let c1_i32_60 : BitVec 32 := 1#32
  let v139 : BitVec 32 := Scalar.muli v71 c1_i32_60
  let v140 : BitVec 32 := Scalar.addi c0_i32_61 v139
  v140.toNat
def k0_cond10 (i : grid0.Coords) (d2 : Dev nD) : BitVec 1 :=
  let arg0 : BitVec 32 := BitVec.ofNat 32 (i 0).val
  let c8_i32_36 : BitVec 32 := 8#32
  let v81 : BitVec 32 := Scalar.muli arg0 c8_i32_36
  let c3_i32_37 : BitVec 32 := 3#32
  let v82 : BitVec 32 := Scalar.addi v81 c3_i32_37
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v89 : BitVec 1 := Scalar.cmpi .ne v82 v4
  let v90 : BitVec 32 := Scalar.extui v89
  let c0_i32_40 : BitVec 32 := 0#32
  let v91 : BitVec 1 := Scalar.cmpi .ne v90 c0_i32_40
  v91

def k0_off22 (i : grid0.Coords) : Fin 1 → Nat :=
  let arg0 : BitVec 32 := BitVec.ofNat 32 (i 0).val
  let c8_i32_36 : BitVec 32 := 8#32
  let v81 : BitVec 32 := Scalar.muli arg0 c8_i32_36
  let c3_i32_37 : BitVec 32 := 3#32
  let v82 : BitVec 32 := Scalar.addi v81 c3_i32_37
  ![v82.toNat]
def k0_off23 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off24 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off25 (i : grid0.Coords) : Fin 3 → Nat :=
  let arg0 : BitVec 32 := BitVec.ofNat 32 (i 0).val
  let c8_i32_36 : BitVec 32 := 8#32
  let v81 : BitVec 32 := Scalar.muli arg0 c8_i32_36
  let c3_i32_37 : BitVec 32 := 3#32
  let v82 : BitVec 32 := Scalar.addi v81 c3_i32_37
  let c0_i32_64 : BitVec 32 := 0#32
  let c0_i32_65 : BitVec 32 := 0#32
  ![v82.toNat, 0, 0]
def k0_dev35 (i : grid0.Coords) : Nat :=
  let c0_i32_61 : BitVec 32 := 0#32
  let arg0 : BitVec 32 := BitVec.ofNat 32 (i 0).val
  let c8_i32_36 : BitVec 32 := 8#32
  let v81 : BitVec 32 := Scalar.muli arg0 c8_i32_36
  let c3_i32_37 : BitVec 32 := 3#32
  let v82 : BitVec 32 := Scalar.addi v81 c3_i32_37
  let c1_i32_60 : BitVec 32 := 1#32
  let v139 : BitVec 32 := Scalar.muli v82 c1_i32_60
  let v140 : BitVec 32 := Scalar.addi c0_i32_61 v139
  v140.toNat
def k0_cond11 (i : grid0.Coords) (d2 : Dev nD) : BitVec 1 :=
  let arg0 : BitVec 32 := BitVec.ofNat 32 (i 0).val
  let c8_i32_41 : BitVec 32 := 8#32
  let v92 : BitVec 32 := Scalar.muli arg0 c8_i32_41
  let c4_i32_42 : BitVec 32 := 4#32
  let v93 : BitVec 32 := Scalar.addi v92 c4_i32_42
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v100 : BitVec 1 := Scalar.cmpi .ne v93 v4
  let v101 : BitVec 32 := Scalar.extui v100
  let c0_i32_45 : BitVec 32 := 0#32
  let v102 : BitVec 1 := Scalar.cmpi .ne v101 c0_i32_45
  v102

def k0_off26 (i : grid0.Coords) : Fin 1 → Nat :=
  let arg0 : BitVec 32 := BitVec.ofNat 32 (i 0).val
  let c8_i32_41 : BitVec 32 := 8#32
  let v92 : BitVec 32 := Scalar.muli arg0 c8_i32_41
  let c4_i32_42 : BitVec 32 := 4#32
  let v93 : BitVec 32 := Scalar.addi v92 c4_i32_42
  ![v93.toNat]
def k0_off27 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off28 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off29 (i : grid0.Coords) : Fin 3 → Nat :=
  let arg0 : BitVec 32 := BitVec.ofNat 32 (i 0).val
  let c8_i32_41 : BitVec 32 := 8#32
  let v92 : BitVec 32 := Scalar.muli arg0 c8_i32_41
  let c4_i32_42 : BitVec 32 := 4#32
  let v93 : BitVec 32 := Scalar.addi v92 c4_i32_42
  let c0_i32_64 : BitVec 32 := 0#32
  let c0_i32_65 : BitVec 32 := 0#32
  ![v93.toNat, 0, 0]
def k0_dev36 (i : grid0.Coords) : Nat :=
  let c0_i32_61 : BitVec 32 := 0#32
  let arg0 : BitVec 32 := BitVec.ofNat 32 (i 0).val
  let c8_i32_41 : BitVec 32 := 8#32
  let v92 : BitVec 32 := Scalar.muli arg0 c8_i32_41
  let c4_i32_42 : BitVec 32 := 4#32
  let v93 : BitVec 32 := Scalar.addi v92 c4_i32_42
  let c1_i32_60 : BitVec 32 := 1#32
  let v139 : BitVec 32 := Scalar.muli v93 c1_i32_60
  let v140 : BitVec 32 := Scalar.addi c0_i32_61 v139
  v140.toNat
def k0_cond12 (i : grid0.Coords) (d2 : Dev nD) : BitVec 1 :=
  let arg0 : BitVec 32 := BitVec.ofNat 32 (i 0).val
  let c8_i32_46 : BitVec 32 := 8#32
  let v103 : BitVec 32 := Scalar.muli arg0 c8_i32_46
  let c5_i32 : BitVec 32 := 5#32
  let v104 : BitVec 32 := Scalar.addi v103 c5_i32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v111 : BitVec 1 := Scalar.cmpi .ne v104 v4
  let v112 : BitVec 32 := Scalar.extui v111
  let c0_i32_49 : BitVec 32 := 0#32
  let v113 : BitVec 1 := Scalar.cmpi .ne v112 c0_i32_49
  v113

def k0_off30 (i : grid0.Coords) : Fin 1 → Nat :=
  let arg0 : BitVec 32 := BitVec.ofNat 32 (i 0).val
  let c8_i32_46 : BitVec 32 := 8#32
  let v103 : BitVec 32 := Scalar.muli arg0 c8_i32_46
  let c5_i32 : BitVec 32 := 5#32
  let v104 : BitVec 32 := Scalar.addi v103 c5_i32
  ![v104.toNat]
def k0_off31 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off32 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off33 (i : grid0.Coords) : Fin 3 → Nat :=
  let arg0 : BitVec 32 := BitVec.ofNat 32 (i 0).val
  let c8_i32_46 : BitVec 32 := 8#32
  let v103 : BitVec 32 := Scalar.muli arg0 c8_i32_46
  let c5_i32 : BitVec 32 := 5#32
  let v104 : BitVec 32 := Scalar.addi v103 c5_i32
  let c0_i32_64 : BitVec 32 := 0#32
  let c0_i32_65 : BitVec 32 := 0#32
  ![v104.toNat, 0, 0]
def k0_dev37 (i : grid0.Coords) : Nat :=
  let c0_i32_61 : BitVec 32 := 0#32
  let arg0 : BitVec 32 := BitVec.ofNat 32 (i 0).val
  let c8_i32_46 : BitVec 32 := 8#32
  let v103 : BitVec 32 := Scalar.muli arg0 c8_i32_46
  let c5_i32 : BitVec 32 := 5#32
  let v104 : BitVec 32 := Scalar.addi v103 c5_i32
  let c1_i32_60 : BitVec 32 := 1#32
  let v139 : BitVec 32 := Scalar.muli v104 c1_i32_60
  let v140 : BitVec 32 := Scalar.addi c0_i32_61 v139
  v140.toNat
def k0_cond13 (i : grid0.Coords) (d2 : Dev nD) : BitVec 1 :=
  let arg0 : BitVec 32 := BitVec.ofNat 32 (i 0).val
  let c8_i32_50 : BitVec 32 := 8#32
  let v114 : BitVec 32 := Scalar.muli arg0 c8_i32_50
  let c6_i32 : BitVec 32 := 6#32
  let v115 : BitVec 32 := Scalar.addi v114 c6_i32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v122 : BitVec 1 := Scalar.cmpi .ne v115 v4
  let v123 : BitVec 32 := Scalar.extui v122
  let c0_i32_53 : BitVec 32 := 0#32
  let v124 : BitVec 1 := Scalar.cmpi .ne v123 c0_i32_53
  v124

def k0_off34 (i : grid0.Coords) : Fin 1 → Nat :=
  let arg0 : BitVec 32 := BitVec.ofNat 32 (i 0).val
  let c8_i32_50 : BitVec 32 := 8#32
  let v114 : BitVec 32 := Scalar.muli arg0 c8_i32_50
  let c6_i32 : BitVec 32 := 6#32
  let v115 : BitVec 32 := Scalar.addi v114 c6_i32
  ![v115.toNat]
def k0_off35 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off36 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off37 (i : grid0.Coords) : Fin 3 → Nat :=
  let arg0 : BitVec 32 := BitVec.ofNat 32 (i 0).val
  let c8_i32_50 : BitVec 32 := 8#32
  let v114 : BitVec 32 := Scalar.muli arg0 c8_i32_50
  let c6_i32 : BitVec 32 := 6#32
  let v115 : BitVec 32 := Scalar.addi v114 c6_i32
  let c0_i32_64 : BitVec 32 := 0#32
  let c0_i32_65 : BitVec 32 := 0#32
  ![v115.toNat, 0, 0]
def k0_dev38 (i : grid0.Coords) : Nat :=
  let c0_i32_61 : BitVec 32 := 0#32
  let arg0 : BitVec 32 := BitVec.ofNat 32 (i 0).val
  let c8_i32_50 : BitVec 32 := 8#32
  let v114 : BitVec 32 := Scalar.muli arg0 c8_i32_50
  let c6_i32 : BitVec 32 := 6#32
  let v115 : BitVec 32 := Scalar.addi v114 c6_i32
  let c1_i32_60 : BitVec 32 := 1#32
  let v139 : BitVec 32 := Scalar.muli v115 c1_i32_60
  let v140 : BitVec 32 := Scalar.addi c0_i32_61 v139
  v140.toNat
def k0_cond14 (i : grid0.Coords) (d2 : Dev nD) : BitVec 1 :=
  let arg0 : BitVec 32 := BitVec.ofNat 32 (i 0).val
  let c8_i32_54 : BitVec 32 := 8#32
  let v125 : BitVec 32 := Scalar.muli arg0 c8_i32_54
  let c7_i32 : BitVec 32 := 7#32
  let v126 : BitVec 32 := Scalar.addi v125 c7_i32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v133 : BitVec 1 := Scalar.cmpi .ne v126 v4
  let v134 : BitVec 32 := Scalar.extui v133
  let c0_i32_57 : BitVec 32 := 0#32
  let v135 : BitVec 1 := Scalar.cmpi .ne v134 c0_i32_57
  v135

def k0_off38 (i : grid0.Coords) : Fin 1 → Nat :=
  let arg0 : BitVec 32 := BitVec.ofNat 32 (i 0).val
  let c8_i32_54 : BitVec 32 := 8#32
  let v125 : BitVec 32 := Scalar.muli arg0 c8_i32_54
  let c7_i32 : BitVec 32 := 7#32
  let v126 : BitVec 32 := Scalar.addi v125 c7_i32
  ![v126.toNat]
def k0_off39 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off40 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_62 : BitVec 32 := 0#32
  let c0_i32_63 : BitVec 32 := 0#32
  ![v4.toNat, 0, 0]
def k0_off41 (i : grid0.Coords) : Fin 3 → Nat :=
  let arg0 : BitVec 32 := BitVec.ofNat 32 (i 0).val
  let c8_i32_54 : BitVec 32 := 8#32
  let v125 : BitVec 32 := Scalar.muli arg0 c8_i32_54
  let c7_i32 : BitVec 32 := 7#32
  let v126 : BitVec 32 := Scalar.addi v125 c7_i32
  let c0_i32_64 : BitVec 32 := 0#32
  let c0_i32_65 : BitVec 32 := 0#32
  ![v126.toNat, 0, 0]
def k0_dev39 (i : grid0.Coords) : Nat :=
  let c0_i32_61 : BitVec 32 := 0#32
  let arg0 : BitVec 32 := BitVec.ofNat 32 (i 0).val
  let c8_i32_54 : BitVec 32 := 8#32
  let v125 : BitVec 32 := Scalar.muli arg0 c8_i32_54
  let c7_i32 : BitVec 32 := 7#32
  let v126 : BitVec 32 := Scalar.addi v125 c7_i32
  let c1_i32_60 : BitVec 32 := 1#32
  let v139 : BitVec 32 := Scalar.muli v126 c1_i32_60
  let v140 : BitVec 32 := Scalar.addi c0_i32_61 v139
  v140.toNat
def k0_cond15 (i : grid0.Coords) : BitVec 1 :=
  let arg0 : BitVec 32 := BitVec.ofNat 32 (i 0).val
  let c3_i32_58 : BitVec 32 := 3#32
  let v136 : BitVec 1 := Scalar.cmpi .eq arg0 c3_i32_58
  let v137 : BitVec 32 := Scalar.extui v136
  let c0_i32_59 : BitVec 32 := 0#32
  let v138 : BitVec 1 := Scalar.cmpi .ne v137 c0_i32_59
  v138

def k0_off42 (d2 : Dev nD) : Fin 3 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v139 : Index := Scalar.indexCast v4
  let c0_60 : Index := 0#32
  let c0_61 : Index := 0#32
  ![v139.toNat, 0, 0]
def k0_off43 (d2 : Dev nD) : Fin 2 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v155 : Index := Scalar.indexCast v4
  let c0_71 : Index := 0#32
  ![v155.toNat, 0]
def k0_off44 (d2 : Dev nD) (c1_i32_72 : BitVec 32) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let v159 : BitVec 32 := Scalar.addi v4 c1_i32_72
  let c32_i32_73 : BitVec 32 := 32#32
  let v160 : BitVec 32 := Scalar.remsi v159 c32_i32_73
  ![v160.toNat]
def k0_off45 (d2 : Dev nD) : Fin 1 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  ![v4.toNat]
def k0_off46 (d2 : Dev nD) : Fin 2 → Nat :=
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c0_i32_76 : BitVec 32 := 0#32
  ![v4.toNat, 0]
def k0_dev40 (d2 : Dev nD) : Nat :=
  let c0_i32_75 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c1_i32_72 : BitVec 32 := 1#32
  let v159 : BitVec 32 := Scalar.addi v4 c1_i32_72
  let c32_i32_73 : BitVec 32 := 32#32
  let v160 : BitVec 32 := Scalar.remsi v159 c32_i32_73
  let c1_i32_74 : BitVec 32 := 1#32
  let v161 : BitVec 32 := Scalar.muli v160 c1_i32_74
  let v162 : BitVec 32 := Scalar.addi c0_i32_75 v161
  v162.toNat
def k0_dev41 (d2 : Dev nD) : Nat :=
  let c0_i32_82 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c2_i32_79 : BitVec 32 := 2#32
  let v169 : BitVec 32 := Scalar.addi v4 c2_i32_79
  let c32_i32_80 : BitVec 32 := 32#32
  let v170 : BitVec 32 := Scalar.remsi v169 c32_i32_80
  let c1_i32_81 : BitVec 32 := 1#32
  let v171 : BitVec 32 := Scalar.muli v170 c1_i32_81
  let v172 : BitVec 32 := Scalar.addi c0_i32_82 v171
  v172.toNat
def k0_dev42 (d2 : Dev nD) : Nat :=
  let c0_i32_89 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c3_i32_86 : BitVec 32 := 3#32
  let v179 : BitVec 32 := Scalar.addi v4 c3_i32_86
  let c32_i32_87 : BitVec 32 := 32#32
  let v180 : BitVec 32 := Scalar.remsi v179 c32_i32_87
  let c1_i32_88 : BitVec 32 := 1#32
  let v181 : BitVec 32 := Scalar.muli v180 c1_i32_88
  let v182 : BitVec 32 := Scalar.addi c0_i32_89 v181
  v182.toNat
def k0_dev43 (d2 : Dev nD) : Nat :=
  let c0_i32_96 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c4_i32_93 : BitVec 32 := 4#32
  let v189 : BitVec 32 := Scalar.addi v4 c4_i32_93
  let c32_i32_94 : BitVec 32 := 32#32
  let v190 : BitVec 32 := Scalar.remsi v189 c32_i32_94
  let c1_i32_95 : BitVec 32 := 1#32
  let v191 : BitVec 32 := Scalar.muli v190 c1_i32_95
  let v192 : BitVec 32 := Scalar.addi c0_i32_96 v191
  v192.toNat
def k0_dev44 (d2 : Dev nD) : Nat :=
  let c0_i32_103 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c5_i32_100 : BitVec 32 := 5#32
  let v199 : BitVec 32 := Scalar.addi v4 c5_i32_100
  let c32_i32_101 : BitVec 32 := 32#32
  let v200 : BitVec 32 := Scalar.remsi v199 c32_i32_101
  let c1_i32_102 : BitVec 32 := 1#32
  let v201 : BitVec 32 := Scalar.muli v200 c1_i32_102
  let v202 : BitVec 32 := Scalar.addi c0_i32_103 v201
  v202.toNat
def k0_dev45 (d2 : Dev nD) : Nat :=
  let c0_i32_110 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c6_i32_107 : BitVec 32 := 6#32
  let v209 : BitVec 32 := Scalar.addi v4 c6_i32_107
  let c32_i32_108 : BitVec 32 := 32#32
  let v210 : BitVec 32 := Scalar.remsi v209 c32_i32_108
  let c1_i32_109 : BitVec 32 := 1#32
  let v211 : BitVec 32 := Scalar.muli v210 c1_i32_109
  let v212 : BitVec 32 := Scalar.addi c0_i32_110 v211
  v212.toNat
def k0_dev46 (d2 : Dev nD) : Nat :=
  let c0_i32_117 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c7_i32_114 : BitVec 32 := 7#32
  let v219 : BitVec 32 := Scalar.addi v4 c7_i32_114
  let c32_i32_115 : BitVec 32 := 32#32
  let v220 : BitVec 32 := Scalar.remsi v219 c32_i32_115
  let c1_i32_116 : BitVec 32 := 1#32
  let v221 : BitVec 32 := Scalar.muli v220 c1_i32_116
  let v222 : BitVec 32 := Scalar.addi c0_i32_117 v221
  v222.toNat
def k0_dev47 (d2 : Dev nD) : Nat :=
  let c0_i32_124 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c8_i32_121 : BitVec 32 := 8#32
  let v229 : BitVec 32 := Scalar.addi v4 c8_i32_121
  let c32_i32_122 : BitVec 32 := 32#32
  let v230 : BitVec 32 := Scalar.remsi v229 c32_i32_122
  let c1_i32_123 : BitVec 32 := 1#32
  let v231 : BitVec 32 := Scalar.muli v230 c1_i32_123
  let v232 : BitVec 32 := Scalar.addi c0_i32_124 v231
  v232.toNat
def k0_dev48 (d2 : Dev nD) : Nat :=
  let c0_i32_130 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c9_i32 : BitVec 32 := 9#32
  let v239 : BitVec 32 := Scalar.addi v4 c9_i32
  let c32_i32_128 : BitVec 32 := 32#32
  let v240 : BitVec 32 := Scalar.remsi v239 c32_i32_128
  let c1_i32_129 : BitVec 32 := 1#32
  let v241 : BitVec 32 := Scalar.muli v240 c1_i32_129
  let v242 : BitVec 32 := Scalar.addi c0_i32_130 v241
  v242.toNat
def k0_dev49 (d2 : Dev nD) : Nat :=
  let c0_i32_136 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c10_i32 : BitVec 32 := 10#32
  let v249 : BitVec 32 := Scalar.addi v4 c10_i32
  let c32_i32_134 : BitVec 32 := 32#32
  let v250 : BitVec 32 := Scalar.remsi v249 c32_i32_134
  let c1_i32_135 : BitVec 32 := 1#32
  let v251 : BitVec 32 := Scalar.muli v250 c1_i32_135
  let v252 : BitVec 32 := Scalar.addi c0_i32_136 v251
  v252.toNat
def k0_dev50 (d2 : Dev nD) : Nat :=
  let c0_i32_142 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c11_i32 : BitVec 32 := 11#32
  let v259 : BitVec 32 := Scalar.addi v4 c11_i32
  let c32_i32_140 : BitVec 32 := 32#32
  let v260 : BitVec 32 := Scalar.remsi v259 c32_i32_140
  let c1_i32_141 : BitVec 32 := 1#32
  let v261 : BitVec 32 := Scalar.muli v260 c1_i32_141
  let v262 : BitVec 32 := Scalar.addi c0_i32_142 v261
  v262.toNat
def k0_dev51 (d2 : Dev nD) : Nat :=
  let c0_i32_148 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c12_i32 : BitVec 32 := 12#32
  let v269 : BitVec 32 := Scalar.addi v4 c12_i32
  let c32_i32_146 : BitVec 32 := 32#32
  let v270 : BitVec 32 := Scalar.remsi v269 c32_i32_146
  let c1_i32_147 : BitVec 32 := 1#32
  let v271 : BitVec 32 := Scalar.muli v270 c1_i32_147
  let v272 : BitVec 32 := Scalar.addi c0_i32_148 v271
  v272.toNat
def k0_dev52 (d2 : Dev nD) : Nat :=
  let c0_i32_154 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c13_i32 : BitVec 32 := 13#32
  let v279 : BitVec 32 := Scalar.addi v4 c13_i32
  let c32_i32_152 : BitVec 32 := 32#32
  let v280 : BitVec 32 := Scalar.remsi v279 c32_i32_152
  let c1_i32_153 : BitVec 32 := 1#32
  let v281 : BitVec 32 := Scalar.muli v280 c1_i32_153
  let v282 : BitVec 32 := Scalar.addi c0_i32_154 v281
  v282.toNat
def k0_dev53 (d2 : Dev nD) : Nat :=
  let c0_i32_160 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c14_i32 : BitVec 32 := 14#32
  let v289 : BitVec 32 := Scalar.addi v4 c14_i32
  let c32_i32_158 : BitVec 32 := 32#32
  let v290 : BitVec 32 := Scalar.remsi v289 c32_i32_158
  let c1_i32_159 : BitVec 32 := 1#32
  let v291 : BitVec 32 := Scalar.muli v290 c1_i32_159
  let v292 : BitVec 32 := Scalar.addi c0_i32_160 v291
  v292.toNat
def k0_dev54 (d2 : Dev nD) : Nat :=
  let c0_i32_166 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c15_i32 : BitVec 32 := 15#32
  let v299 : BitVec 32 := Scalar.addi v4 c15_i32
  let c32_i32_164 : BitVec 32 := 32#32
  let v300 : BitVec 32 := Scalar.remsi v299 c32_i32_164
  let c1_i32_165 : BitVec 32 := 1#32
  let v301 : BitVec 32 := Scalar.muli v300 c1_i32_165
  let v302 : BitVec 32 := Scalar.addi c0_i32_166 v301
  v302.toNat
def k0_dev55 (d2 : Dev nD) : Nat :=
  let c0_i32_173 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c16_i32_170 : BitVec 32 := 16#32
  let v309 : BitVec 32 := Scalar.addi v4 c16_i32_170
  let c32_i32_171 : BitVec 32 := 32#32
  let v310 : BitVec 32 := Scalar.remsi v309 c32_i32_171
  let c1_i32_172 : BitVec 32 := 1#32
  let v311 : BitVec 32 := Scalar.muli v310 c1_i32_172
  let v312 : BitVec 32 := Scalar.addi c0_i32_173 v311
  v312.toNat
def k0_dev56 (d2 : Dev nD) : Nat :=
  let c0_i32_179 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c17_i32 : BitVec 32 := 17#32
  let v319 : BitVec 32 := Scalar.addi v4 c17_i32
  let c32_i32_177 : BitVec 32 := 32#32
  let v320 : BitVec 32 := Scalar.remsi v319 c32_i32_177
  let c1_i32_178 : BitVec 32 := 1#32
  let v321 : BitVec 32 := Scalar.muli v320 c1_i32_178
  let v322 : BitVec 32 := Scalar.addi c0_i32_179 v321
  v322.toNat
def k0_dev57 (d2 : Dev nD) : Nat :=
  let c0_i32_185 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c18_i32 : BitVec 32 := 18#32
  let v329 : BitVec 32 := Scalar.addi v4 c18_i32
  let c32_i32_183 : BitVec 32 := 32#32
  let v330 : BitVec 32 := Scalar.remsi v329 c32_i32_183
  let c1_i32_184 : BitVec 32 := 1#32
  let v331 : BitVec 32 := Scalar.muli v330 c1_i32_184
  let v332 : BitVec 32 := Scalar.addi c0_i32_185 v331
  v332.toNat
def k0_dev58 (d2 : Dev nD) : Nat :=
  let c0_i32_191 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c19_i32 : BitVec 32 := 19#32
  let v339 : BitVec 32 := Scalar.addi v4 c19_i32
  let c32_i32_189 : BitVec 32 := 32#32
  let v340 : BitVec 32 := Scalar.remsi v339 c32_i32_189
  let c1_i32_190 : BitVec 32 := 1#32
  let v341 : BitVec 32 := Scalar.muli v340 c1_i32_190
  let v342 : BitVec 32 := Scalar.addi c0_i32_191 v341
  v342.toNat
def k0_dev59 (d2 : Dev nD) : Nat :=
  let c0_i32_197 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c20_i32 : BitVec 32 := 20#32
  let v349 : BitVec 32 := Scalar.addi v4 c20_i32
  let c32_i32_195 : BitVec 32 := 32#32
  let v350 : BitVec 32 := Scalar.remsi v349 c32_i32_195
  let c1_i32_196 : BitVec 32 := 1#32
  let v351 : BitVec 32 := Scalar.muli v350 c1_i32_196
  let v352 : BitVec 32 := Scalar.addi c0_i32_197 v351
  v352.toNat
def k0_dev60 (d2 : Dev nD) : Nat :=
  let c0_i32_203 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c21_i32 : BitVec 32 := 21#32
  let v359 : BitVec 32 := Scalar.addi v4 c21_i32
  let c32_i32_201 : BitVec 32 := 32#32
  let v360 : BitVec 32 := Scalar.remsi v359 c32_i32_201
  let c1_i32_202 : BitVec 32 := 1#32
  let v361 : BitVec 32 := Scalar.muli v360 c1_i32_202
  let v362 : BitVec 32 := Scalar.addi c0_i32_203 v361
  v362.toNat
def k0_dev61 (d2 : Dev nD) : Nat :=
  let c0_i32_209 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c22_i32 : BitVec 32 := 22#32
  let v369 : BitVec 32 := Scalar.addi v4 c22_i32
  let c32_i32_207 : BitVec 32 := 32#32
  let v370 : BitVec 32 := Scalar.remsi v369 c32_i32_207
  let c1_i32_208 : BitVec 32 := 1#32
  let v371 : BitVec 32 := Scalar.muli v370 c1_i32_208
  let v372 : BitVec 32 := Scalar.addi c0_i32_209 v371
  v372.toNat
def k0_dev62 (d2 : Dev nD) : Nat :=
  let c0_i32_215 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c23_i32 : BitVec 32 := 23#32
  let v379 : BitVec 32 := Scalar.addi v4 c23_i32
  let c32_i32_213 : BitVec 32 := 32#32
  let v380 : BitVec 32 := Scalar.remsi v379 c32_i32_213
  let c1_i32_214 : BitVec 32 := 1#32
  let v381 : BitVec 32 := Scalar.muli v380 c1_i32_214
  let v382 : BitVec 32 := Scalar.addi c0_i32_215 v381
  v382.toNat
def k0_dev63 (d2 : Dev nD) : Nat :=
  let c0_i32_221 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c24_i32 : BitVec 32 := 24#32
  let v389 : BitVec 32 := Scalar.addi v4 c24_i32
  let c32_i32_219 : BitVec 32 := 32#32
  let v390 : BitVec 32 := Scalar.remsi v389 c32_i32_219
  let c1_i32_220 : BitVec 32 := 1#32
  let v391 : BitVec 32 := Scalar.muli v390 c1_i32_220
  let v392 : BitVec 32 := Scalar.addi c0_i32_221 v391
  v392.toNat
def k0_dev64 (d2 : Dev nD) : Nat :=
  let c0_i32_227 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c25_i32 : BitVec 32 := 25#32
  let v399 : BitVec 32 := Scalar.addi v4 c25_i32
  let c32_i32_225 : BitVec 32 := 32#32
  let v400 : BitVec 32 := Scalar.remsi v399 c32_i32_225
  let c1_i32_226 : BitVec 32 := 1#32
  let v401 : BitVec 32 := Scalar.muli v400 c1_i32_226
  let v402 : BitVec 32 := Scalar.addi c0_i32_227 v401
  v402.toNat
def k0_dev65 (d2 : Dev nD) : Nat :=
  let c0_i32_233 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c26_i32 : BitVec 32 := 26#32
  let v409 : BitVec 32 := Scalar.addi v4 c26_i32
  let c32_i32_231 : BitVec 32 := 32#32
  let v410 : BitVec 32 := Scalar.remsi v409 c32_i32_231
  let c1_i32_232 : BitVec 32 := 1#32
  let v411 : BitVec 32 := Scalar.muli v410 c1_i32_232
  let v412 : BitVec 32 := Scalar.addi c0_i32_233 v411
  v412.toNat
def k0_dev66 (d2 : Dev nD) : Nat :=
  let c0_i32_239 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c27_i32 : BitVec 32 := 27#32
  let v419 : BitVec 32 := Scalar.addi v4 c27_i32
  let c32_i32_237 : BitVec 32 := 32#32
  let v420 : BitVec 32 := Scalar.remsi v419 c32_i32_237
  let c1_i32_238 : BitVec 32 := 1#32
  let v421 : BitVec 32 := Scalar.muli v420 c1_i32_238
  let v422 : BitVec 32 := Scalar.addi c0_i32_239 v421
  v422.toNat
def k0_dev67 (d2 : Dev nD) : Nat :=
  let c0_i32_245 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c28_i32 : BitVec 32 := 28#32
  let v429 : BitVec 32 := Scalar.addi v4 c28_i32
  let c32_i32_243 : BitVec 32 := 32#32
  let v430 : BitVec 32 := Scalar.remsi v429 c32_i32_243
  let c1_i32_244 : BitVec 32 := 1#32
  let v431 : BitVec 32 := Scalar.muli v430 c1_i32_244
  let v432 : BitVec 32 := Scalar.addi c0_i32_245 v431
  v432.toNat
def k0_dev68 (d2 : Dev nD) : Nat :=
  let c0_i32_251 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c29_i32 : BitVec 32 := 29#32
  let v439 : BitVec 32 := Scalar.addi v4 c29_i32
  let c32_i32_249 : BitVec 32 := 32#32
  let v440 : BitVec 32 := Scalar.remsi v439 c32_i32_249
  let c1_i32_250 : BitVec 32 := 1#32
  let v441 : BitVec 32 := Scalar.muli v440 c1_i32_250
  let v442 : BitVec 32 := Scalar.addi c0_i32_251 v441
  v442.toNat
def k0_dev69 (d2 : Dev nD) : Nat :=
  let c0_i32_257 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c30_i32 : BitVec 32 := 30#32
  let v449 : BitVec 32 := Scalar.addi v4 c30_i32
  let c32_i32_255 : BitVec 32 := 32#32
  let v450 : BitVec 32 := Scalar.remsi v449 c32_i32_255
  let c1_i32_256 : BitVec 32 := 1#32
  let v451 : BitVec 32 := Scalar.muli v450 c1_i32_256
  let v452 : BitVec 32 := Scalar.addi c0_i32_257 v451
  v452.toNat
def k0_dev70 (d2 : Dev nD) : Nat :=
  let c0_i32_263 : BitVec 32 := 0#32
  let v2 : BitVec 32 := Dev.word d2
  let c1_i32 : BitVec 32 := 1#32
  let v3 : BitVec 32 := Scalar.divsi v2 c1_i32
  let c32_i32 : BitVec 32 := 32#32
  let v4 : BitVec 32 := Scalar.remsi v3 c32_i32
  let c31_i32 : BitVec 32 := 31#32
  let v459 : BitVec 32 := Scalar.addi v4 c31_i32
  let c32_i32_261 : BitVec 32 := 32#32
  let v460 : BitVec 32 := Scalar.remsi v459 c32_i32_261
  let c1_i32_262 : BitVec 32 := 1#32
  let v461 : BitVec 32 := Scalar.muli v460 c1_i32_262
  let v462 : BitVec 32 := Scalar.addi c0_i32_263 v461
  v462.toNat
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Base.lean ====
/-
The cells, slots and contents of the exchange: the resource algebra, the memrefs the kernel's buffers are held by, the
semaphore cells, and what each buffer holds as a function of the memory at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's rounds: duties named by the device that pays them. -/
abbrev UB : Type := URounds (GSem nD τ sig) (Fin 32)
/-- The ghost state of the proof: the launch's part and the schedule's part. -/
abbrev UU : Type := UR sig nD τ × UB

local notation "𝕄" => MT nD τ sig Unit (Elt F) ℕ UU ℕ

/-- How the launch's part embeds in the whole. -/
abbrev EP : Emb (UR sig nD τ) (MT nD τ sig Unit (Elt F) ℕ UU ℕ) := embL
/-- How the schedule's part embeds in the whole. -/
abbrev ER : Emb UB (MT nD τ sig Unit (Elt F) ℕ UU ℕ) := embR

/-- No variants are needed: the kernel has no open loop. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Places on the mesh -/

set_option backward.proofsInPublic true in
/-- The number `n` as a device, counted round the mesh. -/
def D (n : ℕ) : Dev nD := ⟨n % 32, Nat.mod_lt _ (by decide)⟩
/-- The device `n` places after `c`. -/
def tgt (c : Dev nD) (n : ℕ) : Dev nD := D (c.val + n)
/-- How many places after `c` the device `t` comes. -/
def dist (c t : Dev nD) : ℕ := (t.val + 32 - c.val) % 32

/-- The place of device `D n` is `n` modulo 32. -/
theorem D_val (n : ℕ) : (D n).val = n % 32 := rfl
/-- Every device is the one at its own place. -/
theorem D_self (c : Dev nD) : D c.val = c := Fin.ext (by rw [D_val]; exact Nat.mod_eq_of_lt c.isLt)
/-- The place of the `n`-th device after `c`. -/
theorem tgt_val (c : Dev nD) (n : ℕ) : (tgt c n).val = (c.val + n) % 32 := rfl
/-- The `n`-th device after `c` is `n` places from it. -/
theorem dist_tgt (c : Dev nD) (n : ℕ) (h : n < 32) : dist c (tgt c n) = n := by
  unfold dist; rw [tgt_val]; have hc : c.val < 32 := c.isLt; omega
/-- The device as many places after `c` as `t` is, is `t`. -/
theorem tgt_dist (c t : Dev nD) : tgt c (dist c t) = t := by
  apply Fin.ext; rw [tgt_val]; unfold dist; have hc : c.val < 32 := c.isLt; have ht : t.val < 32 := t.isLt; omega
/-- The first to the 31st device after `c` are others than `c`. -/
theorem tgt_ne (c : Dev nD) (n : ℕ) (h1 : 1 ≤ n) (h : n < 32) : tgt c n ≠ c := by
  intro e; have := congrArg Fin.val e; rw [tgt_val] at this; have hc : c.val < 32 := c.isLt; omega
/-- Another device is at least one place away. -/
theorem dist_pos (c t : Dev nD) (h : t ≠ c) : 1 ≤ dist c t := by
  by_contra hn
  apply h; rw [← tgt_dist c t, show dist c t = 0 by omega]; apply Fin.ext; rw [tgt_val]; have hc : c.val < 32 := c.isLt; omega
/-- No device is 32 places away. -/
theorem dist_lt (c t : Dev nD) : dist c t < 32 := Nat.mod_lt _ (by decide)

/-! ## The memrefs and slots -/

/-- The stage of the activations. -/
abbrev xM : Memref sig .tc .vmem S128x4096 .f32 := Memref.whole cc0_stg0_0
/-- The weights, in the slow memory. -/
abbrev gM : Memref sig .tc .hbm S4096x8192 .f32 := Memref.whole main_arg1
/-- The stage of the result. -/
abbrev oM : Memref sig .tc .vmem S4096x256 .f32 := Memref.whole cc0_stg1_0
/-- The activations cut into four blocks of 1024 columns. -/
abbrev xpM : Memref sig .tc .vmem S4x128x1024 .f32 := Memref.whole cc0_scratch0
/-- The ring of four slots for blocks of the weights. -/
abbrev wM : Memref sig .tc .vmem S4x1024x2048 .f32 := Memref.whole cc0_scratch1
/-- The running product of a column group. -/
abbrev ygM : Memref sig .tc .vmem S128x2048 .f32 := Memref.whole cc0_scratch2
/-- The running maximum of the rectified products. -/
abbrev vmM : Memref sig .tc .vmem S128x2048 .f32 := Memref.whole cc0_scratch3
/-- The tiles to be sent, one place for every device. -/
abbrev sbM : Memref sig .tc .vmem S32x128x256 .bf16 := Memref.whole cc0_scratch4
/-- The tiles received, one place for every device. -/
abbrev rbM : Memref sig .tc .vmem S32x128x256 .bf16 := Memref.whole cc0_scratch5
/-- The buffer whose first row holds the device's own largest value. -/
abbrev asM : Memref sig .tc .vmem S8x128 .f32 := Memref.whole cc0_scratch6
/-- The rows received, one for every device. -/
abbrev arM : Memref sig .tc .vmem S32x128 .f32 := Memref.whole cc0_scratch7

/-- A block's slot lies in the cut activations. -/
theorem inbX (k : Fin 4) : ∀ a, (![k.val, 0, 0] : Fin 3 → ℕ) a + S1x128x1024.size a ≤ S4x128x1024.size a := by revert k; decide
/-- A slot lies in the weights' ring. -/
theorem inbW (k : Fin 4) : ∀ a, (![k.val, 0, 0] : Fin 3 → ℕ) a + S1x1024x2048.size a ≤ S4x1024x2048.size a := by revert k; decide
/-- A tile's place lies in the buffer of tiles. -/
theorem inbT (t : Dev nD) : ∀ a, (![t.val, 0, 0] : Fin 3 → ℕ) a + S1x128x256.size a ≤ S32x128x256.size a := by revert t; decide
/-- A device's row lies in the buffer of rows. -/
theorem inbA (t : Dev nD) : ∀ a, (![t.val, 0] : Fin 2 → ℕ) a + S1x128.size a ≤ S32x128.size a := by revert t; decide
/-- A device's 128 rows lie in the result. -/
theorem inbO (t : Dev nD) : ∀ a, (![128 * t.val, 0] : Fin 2 → ℕ) a + S128x256.size a ≤ S4096x256.size a := by revert t; decide
/-- The row that is sent lies in its buffer. -/
theorem inbS : ∀ a, (![0, 0] : Fin 2 → ℕ) a + S1x128.size a ≤ S8x128.size a := by decide

set_option backward.proofsInPublic true in
/-- The slot of the weights' ring the `j`-th block goes to. -/
def sl (j : ℕ) : Fin 4 := ⟨j % 4, Nat.mod_lt _ (by decide)⟩
/-- The slot of the `j`-th block is `j` modulo 4. -/
theorem sl_val (j : ℕ) : (sl j).val = j % 4 := rfl
set_option backward.proofsInPublic true in
/-- The `j`-th block of the weights, counted round the grid. -/
def bl (j : ℕ) : Fin 16 := ⟨j % 16, Nat.mod_lt _ (by decide)⟩

/-- The `j`-th block lies in the weights. -/
theorem inbB (j : Fin 16) : ∀ a, (![1024 * (j.val % 4), 2048 * (j.val / 4)] : Fin 2 → ℕ) a + S1024x2048.size a ≤ S4096x8192.size a := by revert j; decide

/-- The rectangle of the `k`-th block of the cut activations. -/
abbrev rX (k : Fin 4) : Rect S4x128x1024 := Rect.unit ![k.val, 0, 0] S1x128x1024.size (inbX k)
/-- The rectangle of the `k`-th slot of the ring. -/
abbrev rW (k : Fin 4) : Rect S4x1024x2048 := Rect.unit ![k.val, 0, 0] S1x1024x2048.size (inbW k)
/-- The rectangle of device `t`'s tile. -/
abbrev rT (t : Dev nD) : Rect S32x128x256 := Rect.unit ![t.val, 0, 0] S1x128x256.size (inbT t)
/-- The rectangle of device `t`'s row. -/
abbrev rA (t : Dev nD) : Rect S32x128 := Rect.unit ![t.val, 0] S1x128.size (inbA t)
/-- The rectangle of device `t`'s rows in the result. -/
abbrev rO (t : Dev nD) : Rect S4096x256 := Rect.unit ![128 * t.val, 0] S128x256.size (inbO t)
/-- The rectangle of the row that is sent. -/
abbrev rS : Rect S8x128 := Rect.unit ![0, 0] S1x128.size inbS
/-- The rectangle of the `j`-th block of the weights. -/
abbrev rB (j : Fin 16) : Rect S4096x8192 := Rect.unit ![1024 * (j.val % 4), 2048 * (j.val / 4)] S1024x2048.size (inbB j)

/-- A slot of the weights' ring, a block of the weights, a tile to send, a tile received, a received row, the row sent. -/
abbrev wS (k : Fin 4) : Memref sig .tc .vmem S1x1024x2048 .f32 := wM.slice (rW k) (fun _ => rfl)
/-- The `j`-th block of the weights where it lies. -/
abbrev gB (j : Fin 16) : Memref sig .tc .hbm S1024x2048 .f32 := gM.slice (rB j) (fun _ => rfl)
/-- The place of the tile for device `t` among those to be sent. -/
abbrev sT (t : Dev nD) : Memref sig .tc .vmem S1x128x256 .bf16 := sbM.slice (rT t) (fun _ => rfl)
/-- The place of the tile from device `t` among those received. -/
abbrev rvT (t : Dev nD) : Memref sig .tc .vmem S1x128x256 .bf16 := rbM.slice (rT t) (fun _ => rfl)
/-- The place of device `t`'s row among those received. -/
abbrev arR (t : Dev nD) : Memref sig .tc .vmem S1x128 .f32 := arM.slice (rA t) (fun _ => rfl)
/-- The row that is sent. -/
abbrev asR : Memref sig .tc .vmem S1x128 .f32 := asM.slice rS (fun _ => rfl)

/-! ## The cells -/

/-- The barrier semaphore. -/
abbrev barS : Sem sig := (SemArray.scalar (sig.barrier 0 rfl) : Sems sig S_).sem

set_option backward.proofsInPublic true in
/-- The semaphore of the ring's `k`-th slot. -/
def wSem (k : Fin 4) : DmaSem sig := ⟨2 + k.val, by have := k.isLt; show _ < 134; omega⟩
set_option backward.proofsInPublic true in
/-- The semaphore that counts the sending of the tile for `t`. -/
def dsSem (t : Dev nD) : DmaSem sig := ⟨6 + t.val, by have : t.val < 32 := t.isLt; show _ < 134; omega⟩
set_option backward.proofsInPublic true in
/-- The semaphore that counts the arrival of the tile from `t`. -/
def drSem (t : Dev nD) : DmaSem sig := ⟨38 + t.val, by have : t.val < 32 := t.isLt; show _ < 134; omega⟩
set_option backward.proofsInPublic true in
/-- The semaphore that counts the sending of the row to `t`. -/
def asSem (t : Dev nD) : DmaSem sig := ⟨70 + t.val, by have : t.val < 32 := t.isLt; show _ < 134; omega⟩
set_option backward.proofsInPublic true in
/-- The semaphore that counts the arrival of the row from `t`. -/
def arSem (t : Dev nD) : DmaSem sig := ⟨102 + t.val, by have : t.val < 32 := t.isLt; show _ < 134; omega⟩

/-- Device `c`'s barrier cell. -/
abbrev bar (c : Dev nD) : GSem nD τ sig := ((c : Thread nD τ), .reg barS)
/-- Device `c`'s cell of the ring's `k`-th slot. -/
abbrev wC (c : Dev nD) (k : Fin 4) : GSem nD τ sig := ((c : Thread nD τ), .dma (wSem k))
/-- Device `c`'s cell for the sending of the tile to `t`. -/
abbrev ds (c t : Dev nD) : GSem nD τ sig := ((c : Thread nD τ), .dma (dsSem t))
/-- Device `c`'s cell for the arrival of the tile from `t`. -/
abbrev dr (c t : Dev nD) : GSem nD τ sig := ((c : Thread nD τ), .dma (drSem t))
/-- Device `c`'s cell for the sending of the row to `t`. -/
abbrev ac (c t : Dev nD) : GSem nD τ sig := ((c : Thread nD τ), .dma (asSem t))
/-- Device `c`'s cell for the arrival of the row from `t`. -/
abbrev ar (c t : Dev nD) : GSem nD τ sig := ((c : Thread nD τ), .dma (arSem t))

/-- What the semaphore an array's slice at one offset names is. -/
theorem wSem_eq (k : Fin 4) (off : Fin 1 → ℕ) (h : ∀ a, off a + S1.size a ≤ S4.size a) (e : off = ![k.val]) :
    ((cc0_scratch8.slice (Rect.unit (s := S4) off S1.size h)).squeeze S_ squeezes_S1_S_).sem = wSem k := by
  subst e; revert k; decide
/-- The kernel's name of a tile's send semaphore, at the offset `t`, is `dsSem t`. -/
theorem dsSem_eq (t : Dev nD) (off : Fin 1 → ℕ) (h : ∀ a, off a + S1.size a ≤ S32.size a) (e : off = ![t.val]) :
    ((cc0_scratch9.slice (Rect.unit (s := S32) off S1.size h)).squeeze S_ squeezes_S1_S_).sem = dsSem t := by
  subst e; revert t; decide +kernel
/-- The kernel's name of a tile's receive semaphore, at the offset `t`, is `drSem t`. -/
theorem drSem_eq (t : Dev nD) (off : Fin 1 → ℕ) (h : ∀ a, off a + S1.size a ≤ S32.size a) (e : off = ![t.val]) :
    ((cc0_scratch10.slice (Rect.unit (s := S32) off S1.size h)).squeeze S_ squeezes_S1_S_).sem = drSem t := by
  subst e; revert t; decide +kernel
/-- The kernel's name of a row's send semaphore, at the offset `t`, is `asSem t`. -/
theorem asSem_eq (t : Dev nD) (off : Fin 1 → ℕ) (h : ∀ a, off a + S1.size a ≤ S32.size a) (e : off = ![t.val]) :
    ((cc0_scratch11.slice (Rect.unit (s := S32) off S1.size h)).squeeze S_ squeezes_S1_S_).sem = asSem t := by
  subst e; revert t; decide +kernel
/-- The kernel's name of a row's receive semaphore, at the offset `t`, is `arSem t`. -/
theorem arSem_eq (t : Dev nD) (off : Fin 1 → ℕ) (h : ∀ a, off a + S1.size a ≤ S32.size a) (e : off = ![t.val]) :
    ((cc0_scratch12.slice (Rect.unit (s := S32) off S1.size h)).squeeze S_ squeezes_S1_S_).sem = arSem t := by
  subst e; revert t; decide +kernel

/-- The credits of a tile, a row and a block of the weights. -/
abbrev Nt : ℕ := (rvT (D 0)).view.dmaCredit
/-- The units that one row's copy credits. -/
abbrev Na : ℕ := (arR (D 0)).view.dmaCredit
/-- The units that one block's copy credits. -/
abbrev Nw : ℕ := (wS 0).view.dmaCredit
/-- A tile's copy credits something. -/
theorem Nt_pos : 0 < Nt := View.dmaCredit_pos _ (by decide)
/-- A row's copy credits something. -/
theorem Na_pos : 0 < Na := View.dmaCredit_pos _ (by decide)
/-- A block's copy credits something. -/
theorem Nw_pos : 0 < Nw := View.dmaCredit_pos _ (by decide)
example (t : Dev nD) : (rvT t).view.dmaCredit = Nt := rfl
example (t : Dev nD) : (arR t).view.dmaCredit = Na := rfl
example (t : Fin 4) : ((wS t).squeeze S1024x2048 squeezes_S1x1024x2048_S1024x2048).view.dmaCredit = Nw := rfl

/-! ## Contents -/

/-- Device `c`'s rows of the activations, as staged. -/
def xstg (c : Dev nD) : (cc0_stg0_0 : Ref sig .tc).ty.Contents (Elt F) :=
  (win0_0.blk t0_0).view.read (Elt F) ((s₀ m ρ).mem ((c : Thread nD τ).loc main_arg0))

/-- Device `c`'s copy of the weights, and its `j`-th block as a slot of the ring holds it. -/
def garr (c : Dev nD) : Buf (Elt F) ((c : Thread nD τ).loc main_arg1) := (s₀ m ρ).mem ((c : Thread nD τ).loc main_arg1)
/-- The `j`-th block of the weights, as an array. -/
def wBlk (c : Dev nD) (j : ℕ) : Vec F S1x1024x2048 .f32 :=
  fun y => (gB (bl j)).view.read (Elt F) (garr m ρ c) ((Shape.reshapeEquiv squeezes_S1x1024x2048_S1024x2048.numel_eq).symm y)

/-- The `k`-th block of columns lies in the activations. -/
theorem inbx (k : Fin 4) : ∀ a, (![0, 1024 * k.val] : Fin 2 → ℕ) a + S128x1024.size a ≤ S128x4096.size a := by revert k; decide
/-- The rectangle of the `k`-th block of columns of the activations. -/
abbrev rx (k : Fin 4) : Rect S128x4096 := Rect.unit ![0, 1024 * k.val] S128x1024.size (inbx k)
/-- The `k`-th column block of the activations, as a slot of `xp` holds it. -/
def xBlk (c : Dev nD) (k : Fin 4) : Vec F S1x128x1024 .f32 :=
  k0_pay4 ((xM : Memref sig .tc .vmem S128x4096 .f32).view.readAt (Elt F) (rx k).toLoadRect (xstg m ρ c))

/-- The running product before step `s` of the grid (meaningful off the first step of a column group). -/
def yg (c : Dev nD) : ℕ → Vec F S128x2048 .f32
  | 0 => k0_pay8
  | s + 1 => if s % 4 = 0 then k0_pay67 (xBlk m ρ c (sl s)) (wBlk m ρ c s) else k0_pay68 (xBlk m ρ c (sl s)) (wBlk m ρ c s) (yg c s)

/-- The running maximum after `g` column groups. -/
def vm (c : Dev nD) : ℕ → Vec F S128x2048 .f32
  | 0 => k0_pay8
  | g + 1 => k0_pay58 (yg m ρ c (4 * g + 4)) (vm c g)

/-- The `u`-th of eight tiles of 256 columns lies in a column group. -/
theorem slT (u : Fin 8) : Shape.Slices S128x2048 ![0, 256 * u.val] S128x256 := by revert u; decide
/-- Columns `256 u …` of a group's activations, as a slot of the send buffer holds them. -/
def cut (v : FVec F S128x2048 .bf16) (u : Fin 8) : FVec F S1x128x256 .bf16 :=
  shapeCast S1x128x256 (extractStridedSlice S128x256 ![0, 256 * u.val] v (slT u)) shapeCasts_S128x256_S1x128x256

set_option backward.proofsInPublic true in
/-- The tile device `c` sends device `t`. -/
def tile (c t : Dev nD) : FVec F S1x128x256 .bf16 :=
  cut (k0_pay59 (yg m ρ c (4 * (t.val / 8) + 4))) ⟨t.val % 8, Nat.mod_lt _ (by decide)⟩

/-- What device `c` puts in its row buffer, and the row it sends. -/
def abuf (c : Dev nD) : Vec F S8x128 .f32 := k0_pay10 (vm m ρ c 4)
/-- The row that device `c` sends, as an array. -/
def arow (c : Dev nD) : Vec F S1x128 .f32 := (asR : Memref sig .tc .vmem S1x128 .f32).view.read (Elt F) (abuf m ρ c)

/-- All devices' rows. -/
def gall : Vec F S32x128 .f32 := fun i => arow m ρ (i 0) (fun | 0 => (⟨0, Nat.one_pos⟩ : Fin 1) | 1 => i 1)

/-- The block device `c` computes from the tile of device `s`. -/
def outT (c s : Dev nD) : FVec F S128x256 .f32 := k0_pay16 (k0_pay13 (gall m ρ)) (k0_pay14 (gall m ρ)) (tile m ρ s c)

end Cert.KProof

end
-- ==== Proof.Sched.lean ====
/-
The schedule of the exchange: for every semaphore cell the rounds, the duties of each, what each duty hands over and how
much it adds; what every device owes at launch; the levels the waits are ordered by.
-/
module

public import proofs.«01_k».proof.Proof.Base
public import Idealize.ShloMosaic.Lib.Ring

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the duties hand over -/

/-- A block of the weights where it lies, held whole. -/
def gPt (c : Dev nD) (j : ℕ) : sProp 𝕄 :=
  ((gB (bl j)).view.loc (c : Thread nD τ) ↦[(gB (bl j)).view.set]{fullShare} garr m ρ c)
/-- Device `d`'s signal of `c`: the places on `d` that `c` will write. -/
def barPay (c d : Dev nD) : sProp 𝕄 :=
  iprop((∃ X, owns (d : Thread nD τ) (rvT c) fullShare X) ∗ ∃ X, owns (d : Thread nD τ) (arR c) fullShare X)
/-- A block of the weights landed in its slot; the block where it lies comes back with it. -/
def wPay (c : Dev nD) (k : Fin 4) (r : ℕ) : sProp 𝕄 :=
  iprop(owns (c : Thread nD τ) (wS k) fullShare (wBlk m ρ c (4 * r + k.val)) ∗ gPt m ρ c (4 * r + k.val))
/-- A tile was sent: its place in the send buffer comes back. -/
def dsPay (c t : Dev nD) : sProp 𝕄 := iprop(∃ X, owns (c : Thread nD τ) (sT t) fullShare X)
/-- A tile arrived from `s`: its place holds what `s` computed for `c`. -/
def drPay (c s : Dev nD) : sProp 𝕄 := owns (c : Thread nD τ) (rvT s) fullShare (tile m ρ s c)
/-- The share of the row sent that goes with the `n`-th transfer of it. -/
abbrev shr (n : ℕ) : PosShare TreeShare := Transfers.dealOf fullShare (Finset.Ico 1 32) n
/-- The row was sent to `t`: the share of it that went along comes back. -/
def asPay (c t : Dev nD) : sProp 𝕄 :=
  ((asR : Memref sig .tc .vmem S1x128 .f32).view.loc (c : Thread nD τ) ↦[(asR : Memref sig .tc .vmem S1x128 .f32).view.set]{shr (dist c t)} abuf m ρ c)
/-- The row arrived from `s`: its place holds the row of `s`. -/
def arPay (c s : Dev nD) : sProp 𝕄 := owns (c : Thread nD τ) (arR s) fullShare (arow m ρ s)

set_option backward.proofsInPublic true in
/-- The schedule. A barrier cell has in round 0 a duty for every other device; a cell of the weights' ring four rounds of
    one duty; a transfer's cell one round of one duty, unless it is the one for the device itself. -/
def rd : Rounds.Schedule (GSem nD τ sig) (Fin 32) 𝕄 where
  duties g r := match g with
    | ((c, .tc), .reg s) => if s = barS ∧ r = 0 then Finset.univ.erase c else ∅
    | ((c, .tc), .dma q) =>
      if q.val < 2 then ∅ else if q.val < 6 then (if r < 4 then {0} else ∅)
      else if r = 0 ∧ D (q.val - 6) ≠ c then {0} else ∅
    | _ => ∅
  unitless _ := False
  amount g _ _ := match g.2 with
    | .reg _ => 1
    | .dma q => if q.val < 6 then Nw else if q.val < 70 then Nt else Na
  payload g r d := match g.2 with
    | .reg _ => barPay g.1.1 d
    | .dma q => if q.val < 2 then iprop(emp) else if q.val < 6 then wPay m ρ g.1.1 (sl (q.val - 2)) r
      else if q.val < 38 then dsPay g.1.1 (D (q.val - 6)) else if q.val < 70 then drPay m ρ g.1.1 (D (q.val - 6))
      else if q.val < 102 then asPay m ρ g.1.1 (D (q.val - 6)) else arPay m ρ g.1.1 (D (q.val - 6))
  amount_pos g _ _ _ := by
    rcases g with ⟨_, s | q⟩
    · exact Nat.one_pos
    · show 0 < if q.val < 6 then Nw else if q.val < 70 then Nt else Na
      split
      · exact Nw_pos
      · split
        · exact Nt_pos
        · exact Na_pos

set_option synthInstance.maxHeartbeats 200000 in
instance rd_payload_storable (g : GSem nD τ sig) (r : ℕ) (d : Fin 32) :
    BI.Storable (upEmb : UEmb _ 𝕄) ((rd (F := F) m ρ).payload g r d) := by
  rcases g with ⟨⟨c, κ⟩, s | q⟩
  · show BI.Storable upEmb (barPay c d)
    unfold barPay owns; infer_instance
  · show BI.Storable upEmb (if q.val < 2 then iprop(emp) else if q.val < 6 then wPay m ρ c (sl (q.val - 2)) r
      else if q.val < 38 then dsPay c (D (q.val - 6)) else if q.val < 70 then drPay m ρ c (D (q.val - 6))
      else if q.val < 102 then asPay m ρ c (D (q.val - 6)) else arPay m ρ c (D (q.val - 6)))
    unfold wPay dsPay drPay asPay arPay gPt owns
    (repeat' split) <;> infer_instance

section Sched
variable (c t : Dev nD) (k : Fin 4) (r : ℕ) (d : Fin 32)

/-- A number that leaves the remainder `t` names device `t`. -/
theorem D6 (n : ℕ) (h : n % 32 = t.val) : D n = t := Fin.ext (by rw [D_val]; exact h)

/-- The device that a tile's send semaphore is for. -/
theorem dsIx : D ((dsSem t).val - 6) = t := D6 t _ (by show (6 + t.val - 6) % 32 = _; have : t.val < 32 := t.isLt; omega)
/-- The device that a tile's receive semaphore is for. -/
theorem drIx : D ((drSem t).val - 6) = t := D6 t _ (by show (38 + t.val - 6) % 32 = _; have : t.val < 32 := t.isLt; omega)
/-- The device that a row's send semaphore is for. -/
theorem acIx : D ((asSem t).val - 6) = t := D6 t _ (by show (70 + t.val - 6) % 32 = _; have : t.val < 32 := t.isLt; omega)
/-- The device that a row's receive semaphore is for. -/
theorem arIx : D ((arSem t).val - 6) = t := D6 t _ (by show (102 + t.val - 6) % 32 = _; have : t.val < 32 := t.isLt; omega)
/-- A tile's send semaphore is not one of the ring's. -/
theorem ds_lo : ¬ (dsSem t).val < 6 := by show ¬ 6 + t.val < 6; omega
/-- A tile's send semaphore comes before those of the arrivals. -/
theorem ds_hi : (dsSem t).val < 38 := by show 6 + t.val < 38; have : t.val < 32 := t.isLt; omega
/-- A tile's receive semaphore comes after those of the sendings. -/
theorem dr_lo : ¬ (drSem t).val < 38 := by show ¬ 38 + t.val < 38; omega
/-- A tile's receive semaphore comes before those of the rows. -/
theorem dr_hi : (drSem t).val < 70 := by show 38 + t.val < 70; have : t.val < 32 := t.isLt; omega
/-- A row's send semaphore comes after those of the tiles. -/
theorem ac_lo : ¬ (asSem t).val < 70 := by show ¬ 70 + t.val < 70; omega
/-- A row's send semaphore comes before those of the rows' arrivals. -/
theorem ac_hi : (asSem t).val < 102 := by show 70 + t.val < 102; have : t.val < 32 := t.isLt; omega
/-- A row's receive semaphore comes after those of the rows' sendings. -/
theorem ar_lo : ¬ (arSem t).val < 102 := by show ¬ 102 + t.val < 102; omega
/-- The ring's semaphores come after the windows' two. -/
theorem w_lo : ¬ (wSem k).val < 2 := by show ¬ 2 + k.val < 2; omega
/-- The ring's semaphores come before the tiles'. -/
theorem w_hi : (wSem k).val < 6 := by show 2 + k.val < 6; have := k.isLt; omega
/-- The slot that a semaphore of the ring is for. -/
theorem wIx : sl ((wSem k).val - 2) = k := Fin.ext (by show (2 + k.val - 2) % 4 = _; have := k.isLt; omega)

/-- In round 0 a barrier cell has a duty for every other device. -/
theorem duties_bar : (rd (F := F) m ρ).duties (bar c) 0 = Finset.univ.erase c := by
  show (if (barS : Sem sig) = barS ∧ (0 : ℕ) = 0 then Finset.univ.erase c else ∅) = _
  exact if_pos ⟨rfl, rfl⟩
/-- In later rounds a barrier cell has none. -/
theorem duties_bar_later : ∀ r, 1 ≤ r → (rd (F := F) m ρ).duties (bar c) r = ∅ := fun r h => if_neg (fun h' => by omega)
/-- In each of four rounds a slot's cell has one duty. -/
theorem duties_w (h : r < 4) : (rd (F := F) m ρ).duties (wC c k) r = {0} :=
  (if_neg (w_lo k)).trans ((if_pos (w_hi k)).trans (if_pos h))
/-- After four rounds a slot's cell has none. -/
theorem duties_w_later : ∀ r, 4 ≤ r → (rd (F := F) m ρ).duties (wC c k) r = ∅ :=
  fun r h => (if_neg (w_lo k)).trans ((if_pos (w_hi k)).trans (if_neg (by omega)))

/-- In round 0 a transfer's cell, if for another device, has one duty. -/
theorem duties_x (q : DmaSem sig) (hq : ¬ q.val < 6) (hx : D (q.val - 6) ≠ c) :
    (rd (F := F) m ρ).duties ((c : Thread nD τ), .dma q) 0 = {0} :=
  (if_neg (by omega)).trans ((if_neg hq).trans (if_pos ⟨rfl, hx⟩))
/-- A transfer's cell has no duty later, and none at all if it is for the device itself. -/
theorem duties_x_later (q : DmaSem sig) (hq : ¬ q.val < 6) (R : ℕ) (hx : D (q.val - 6) = c ∨ 1 ≤ R) :
    ∀ r, R ≤ r → (rd (F := F) m ρ).duties ((c : Thread nD τ), .dma q) r = ∅ :=
  fun r h => (if_neg (by omega)).trans ((if_neg hq).trans (if_neg (fun h' => by
    rcases hx with hx | hx
    · exact h'.2 hx
    · omega)))

/-- A signal is worth one unit. -/
theorem amount_bar : (rd (F := F) m ρ).amount (bar c) r d = 1 := rfl
/-- A duty on a slot's cell is worth a block. -/
theorem amount_w : (rd (F := F) m ρ).amount (wC c k) r d = Nw := if_pos (w_hi k)
/-- A duty on a tile's send cell is worth a tile. -/
theorem amount_ds : (rd (F := F) m ρ).amount (ds c t) r d = Nt := (if_neg (ds_lo t)).trans (if_pos (by have := ds_hi t; omega))
/-- A duty on a tile's receive cell is worth a tile. -/
theorem amount_dr : (rd (F := F) m ρ).amount (dr c t) r d = Nt := (if_neg (by have := dr_lo t; omega)).trans (if_pos (dr_hi t))
/-- A duty on a row's send cell is worth a row. -/
theorem amount_ac : (rd (F := F) m ρ).amount (ac c t) r d = Na := (if_neg (by have := ac_lo t; omega)).trans (if_neg (ac_lo t))
/-- A duty on a row's receive cell is worth a row. -/
theorem amount_ar : (rd (F := F) m ρ).amount (ar c t) r d = Na := (if_neg (by have := ar_lo t; omega)).trans (if_neg (by have := ar_lo t; omega))

/-- What a barrier's duty hands over. -/
theorem payload_bar : (rd (F := F) m ρ).payload (bar c) r d = barPay c d := rfl
/-- What a slot's duty hands over. -/
theorem payload_w : (rd (F := F) m ρ).payload (wC c k) r d = wPay m ρ c k r :=
  (if_neg (w_lo k)).trans ((if_pos (w_hi k)).trans (by rw [wIx]))
/-- What the duty on a tile's send cell hands over. -/
theorem payload_ds : (rd (F := F) m ρ).payload (ds c t) r d = dsPay c t :=
  (if_neg (by have := ds_lo t; omega)).trans ((if_neg (ds_lo t)).trans ((if_pos (ds_hi t)).trans (by rw [dsIx])))
/-- What the duty on a tile's receive cell hands over. -/
theorem payload_dr : (rd (F := F) m ρ).payload (dr c t) r d = drPay m ρ c t :=
  (if_neg (by have := dr_lo t; omega)).trans ((if_neg (by have := dr_lo t; omega)).trans
    ((if_neg (dr_lo t)).trans ((if_pos (dr_hi t)).trans (by rw [drIx]))))
/-- What the duty on a row's send cell hands over. -/
theorem payload_ac : (rd (F := F) m ρ).payload (ac c t) r d = asPay m ρ c t :=
  (if_neg (by have := ac_lo t; omega)).trans ((if_neg (by have := ac_lo t; omega)).trans
    ((if_neg (by have := ac_lo t; omega)).trans ((if_neg (ac_lo t)).trans ((if_pos (ac_hi t)).trans (by rw [acIx])))))
/-- What the duty on a row's receive cell hands over. -/
theorem payload_ar : (rd (F := F) m ρ).payload (ar c t) r d = arPay m ρ c t :=
  (if_neg (by have := ar_lo t; omega)).trans ((if_neg (by have := ar_lo t; omega)).trans
    ((if_neg (by have := ar_lo t; omega)).trans ((if_neg (by have := ar_lo t; omega)).trans ((if_neg (ar_lo t)).trans (by rw [arIx])))))

/-- A barrier's round adds up to 31 units. -/
theorem expect_bar : (rd (F := F) m ρ).expect (bar c) 0 = 31 := by
  unfold Schedule.expect Schedule.amountOf
  rw [duties_bar, Finset.sum_congr rfl fun d _ => amount_bar m ρ c 0 d, Finset.sum_const, Finset.card_erase_of_mem (Finset.mem_univ _), Finset.card_univ]
  rfl
/-- A round of a slot's cell adds up to a block. -/
theorem expect_w (h : r < 4) : (rd (F := F) m ρ).expect (wC c k) r = Nw := by
  unfold Schedule.expect Schedule.amountOf; rw [duties_w m ρ c k r h, Finset.sum_singleton, amount_w]
/-- The round of a tile's send cell adds up to a tile. -/
theorem expect_ds (h : t ≠ c) : (rd (F := F) m ρ).expect (ds c t) 0 = Nt := by
  unfold Schedule.expect Schedule.amountOf; rw [duties_x m ρ c _ (ds_lo t) (by rw [dsIx]; exact h), Finset.sum_singleton, amount_ds]
/-- The round of a tile's receive cell adds up to a tile. -/
theorem expect_dr (h : t ≠ c) : (rd (F := F) m ρ).expect (dr c t) 0 = Nt := by
  unfold Schedule.expect Schedule.amountOf
  rw [duties_x m ρ c _ (by have := dr_lo t; omega) (by rw [drIx]; exact h), Finset.sum_singleton, amount_dr]
/-- The round of a row's send cell adds up to a row. -/
theorem expect_ac (h : t ≠ c) : (rd (F := F) m ρ).expect (ac c t) 0 = Na := by
  unfold Schedule.expect Schedule.amountOf
  rw [duties_x m ρ c _ (by have := ac_lo t; omega) (by rw [acIx]; exact h), Finset.sum_singleton, amount_ac]
/-- The round of a row's receive cell adds up to a row. -/
theorem expect_ar (h : t ≠ c) : (rd (F := F) m ρ).expect (ar c t) 0 = Na := by
  unfold Schedule.expect Schedule.amountOf
  rw [duties_x m ρ c _ (by have := ar_lo t; omega) (by rw [arIx]; exact h), Finset.sum_singleton, amount_ar]

end Sched

/-! ## What a device owes, and the levels -/

/-- The signals from the `k`-th on; the tiles from `k` on; the rows from the `k`-th on. -/
def Ob (c : Dev nD) (k : ℕ) : CellTallies nD τ sig Unit := ∑ n ∈ Finset.Ico k 32, tallyAt (bar (tgt c n)) () 1
/-- What is owed for the tiles from the `k`-th on. -/
def Od (c : Dev nD) (k : ℕ) : CellTallies nD τ sig Unit := ∑ t ∈ Finset.Ico k 32, if D t = c then 0 else tallyAt (dr (D t) c) () Nt
/-- What is owed for the rows from the `k`-th place on. -/
def Oa (c : Dev nD) (k : ℕ) : CellTallies nD τ sig Unit := ∑ n ∈ Finset.Ico k 32, tallyAt (ar (tgt c n) c) () Na
/-- What device `c` owes: signals from place `a` on, tiles from `b` on, rows from place `d` on. -/
def Owe (c : Dev nD) (a b d : ℕ) : CellTallies nD τ sig Unit := Ob c a + Od c b + Oa c d
/-- What device `c` owes at launch. -/
def O₀ (c : Dev nD) : CellTallies nD τ sig Unit := Owe c 1 0 1

/-- The debt before a signal is the debt after it and the signal. -/
theorem Owe_bar (c : Dev nD) (a b d : ℕ) (h : a < 32) : Owe c a b d = Owe c (a + 1) b d + tallyAt (bar (tgt c a)) () 1 := by
  unfold Owe Ob
  rw [Ring.sum_Ico_succ h]; ac_rfl
/-- The debt before a tile is sent is the debt after it and the tile. -/
theorem Owe_data (c : Dev nD) (a b d : ℕ) (h : b < 32) (hc : D b ≠ c) : Owe c a b d = Owe c a (b + 1) d + tallyAt (dr (D b) c) () Nt := by
  unfold Owe Od
  rw [Ring.sum_Ico_succ h, if_neg hc]; ac_rfl
/-- The device's own tile is not owed to anybody. -/
theorem Owe_own (c : Dev nD) (a b d : ℕ) (h : b < 32) (hc : D b = c) : Owe c a b d = Owe c a (b + 1) d := by
  unfold Owe Od
  rw [Ring.sum_Ico_succ h, if_pos hc, zero_add]
/-- The debt before a row is sent is the debt after it and the row. -/
theorem Owe_row (c : Dev nD) (a b d : ℕ) (h : d < 32) : Owe c a b d = Owe c a b (d + 1) + tallyAt (ar (tgt c d) c) () Na := by
  unfold Owe Oa
  rw [Ring.sum_Ico_succ h]; ac_rfl
/-- At the end nothing is owed. -/
theorem Owe_none (c : Dev nD) : Owe c 32 32 32 = 0 := by
  unfold Owe Ob Od Oa; rw [Finset.Ico_self, Finset.sum_empty, Finset.sum_empty, Finset.sum_empty, add_zero, add_zero]

/-- The cells that have a level: those of the tensor cores. -/
def L (g : GSem nD τ sig) : Finset Unit := if g.1.2 = .tc then {()} else ∅
/-- Barrier cells at 1, cells a peer pays at 2, every other at 0. -/
def lv (g : GSem nD τ sig) (_ : Unit) : ℕ := match g.2 with
  | .reg s => if s = barS then 1 else 0
  | .dma q => if q.val < 38 then 0 else if q.val < 70 then 2 else if q.val < 102 then 0 else 2

/-- Cells elsewhere have no level. -/
theorem L_of_ne (g : GSem nD τ sig) (h : g.1.2 ≠ .tc) : L g = ∅ := if_neg h
/-- A tensor core's cell has one level. -/
theorem L_tc (c : Dev nD) (sm : SemLoc sig) : L ((c : Thread nD τ), sm) = {()} := if_pos rfl
/-- A barrier's level is 1. -/
theorem lv_bar (c : Dev nD) (u : Unit) : lv (bar c) u = 1 := by show (if (barS : Sem sig) = barS then 1 else 0) = 1; exact if_pos rfl
/-- The level of a tile's arrival is 2. -/
theorem lv_dr (c t : Dev nD) (u : Unit) : lv (dr c t) u = 2 := (if_neg (dr_lo t)).trans (if_pos (dr_hi t))
/-- The level of a row's arrival is 2. -/
theorem lv_ar (c t : Dev nD) (u : Unit) : lv (ar c t) u = 2 :=
  (if_neg (by have := ar_lo t; omega)).trans ((if_neg (by have := ar_lo t; omega)).trans (if_neg (ar_lo t)))
/-- Cells whose credits a device gives itself have level 0. -/
theorem lv_lo (c : Dev nD) (q : DmaSem sig) (h : q.val < 38) (u : Unit) : lv ((c : Thread nD τ), .dma q) u = 0 := if_pos h

/-- If a sum of debts is positive at a cell, one of them is. -/
theorem sum_tally_pos {I : Type} (S : Finset I) (f : I → CellTallies nD τ sig Unit) (g : GSem nD τ sig) (u : Unit)
    (h : 0 < (∑ i ∈ S, f i) g u) : ∃ i ∈ S, 0 < f i g u := by
  classical
  by_contra hn
  simp only [not_exists, not_and, not_lt] at hn
  rw [Finset.sum_apply, Finsupp.finset_sum_apply, Finset.sum_eq_zero fun i hi => Nat.le_zero.mp (hn i hi)] at h
  exact Nat.lt_irrefl 0 h

/-- A single debt is positive at its own cell only. -/
theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- What is owed lies at level 1 at least; at 2 once every signal is given. -/
theorem Owe_pos {c : Dev nD} {a b d : ℕ} {g : GSem nD τ sig} {u : Unit} (h : 0 < Owe c a b d g u) :
    () ∈ L g ∧ 1 ≤ lv g () ∧ (a = 32 → 2 ≤ lv g ()) := by
  unfold Owe at h
  rw [Pi.add_apply, Finsupp.add_apply, Pi.add_apply, Finsupp.add_apply] at h
  have h3 : 0 < Ob c a g u ∨ 0 < Od c b g u ∨ 0 < Oa c d g u := by omega
  rcases h3 with h | h | h
  · obtain ⟨n, hn, h⟩ := sum_tally_pos _ _ _ _ h
    rw [tally_pos h, L_tc, lv_bar]
    exact ⟨Finset.mem_singleton_self _, Nat.le_refl 1, fun e => by rw [Finset.mem_Ico] at hn; omega⟩
  · obtain ⟨n, hn, h⟩ := sum_tally_pos _ _ _ _ h
    by_cases hc : D n = c
    · rw [if_pos hc] at h; exact absurd h (Nat.lt_irrefl 0)
    · rw [if_neg hc] at h
      rw [tally_pos h, L_tc, lv_dr]
      exact ⟨Finset.mem_singleton_self _, by decide, fun _ => Nat.le_refl 2⟩
  · obtain ⟨n, hn, h⟩ := sum_tally_pos _ _ _ _ h
    rw [tally_pos h, L_tc, lv_ar]
    exact ⟨Finset.mem_singleton_self _, by decide, fun _ => Nat.le_refl 2⟩

/-- A wait on a cell of level 0 is allowed whatever is owed. -/
theorem mayWait_lo (c : Dev nD) (q : DmaSem sig) (hq : q.val < 38) (a b d : ℕ) :
    (levAts L lv : sProp 𝕄) ⊢ MayWait (c : Thread nD τ) (.dma q) () (Owe c a b d) :=
  MayOwe.of_cut (L := L) (lev := lv) 0 (fun p hp => by rw [Finset.mem_singleton.mp hp, L_tc]; exact Finset.mem_singleton_self _)
    (fun g u hg => (Owe_pos hg).1)
    (fun p hp => by rw [Finset.mem_singleton.mp hp, lv_lo c q hq])
    (fun g u hg => (Owe_pos hg).2.1)

/-- The barrier wait is allowed once every signal is given. -/
theorem mayWait_bar (c : Dev nD) (b d : ℕ) :
    (levAts L lv : sProp 𝕄) ⊢ MayWait (c : Thread nD τ) (.reg barS) () (Owe c 32 b d) :=
  MayOwe.of_cut (L := L) (lev := lv) 1 (fun p hp => by rw [Finset.mem_singleton.mp hp, L_tc]; exact Finset.mem_singleton_self _)
    (fun g u hg => (Owe_pos hg).1)
    (fun p hp => by rw [Finset.mem_singleton.mp hp, lv_bar])
    (fun g u hg => (Owe_pos hg).2.2 rfl)

end Cert.KProof

end
-- ==== Proof.Steps.lean ====
/-
One step of the body each: a load or store of a slot, a signal, a wait, a copy, a transfer — each as an entailment between
the state before it and the state after it, so that a run of the body is a chain of them.
-/
module

public import proofs.«01_k».proof.Proof.Sched
public import Idealize.SL.BI.BigOpNat

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The shape of a step -/

/-- The body's weakest precondition on device `c`. -/
abbrev Wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- To run a program and go on, run it up to the going on. -/
theorem bind_step {α β : Type} {Q : α → sProp 𝕄} {c : Dev nD} {P : sProp 𝕄} {p : Prog (TpuEff nD τ sig (Elt F) Λ₀ .tc) β} {k : β → Prog (TpuEff nD τ sig (Elt F) Λ₀ .tc) α}
    (h : P ⊢ Wpc c p (fun v => Wpc c (k v) Q)) : P ⊢ Wpc c (p >>= k) Q :=
  h.trans (Entails.of_eq (wp_bind _ _ _ p k Q).symm)

/-- A program that only returns runs if its end is reached. -/
theorem ret_step {α : Type} {Q : α → sProp 𝕄} {c : Dev nD} {P : sProp 𝕄} {v : α} (h : P ⊢ Q v) : P ⊢ Wpc c (pure v) Q := by
  refine h.trans ?_
  exact fupd_intro

/-- The run may start from anything that implies its start. -/
theorem pre_step {α : Type} {Q : α → sProp 𝕄} {c : Dev nD} {P : sProp 𝕄} {p : Prog (TpuEff nD τ sig (Elt F) Λ₀ .tc) α} {P' : sProp 𝕄} (h : P ⊢ P') (h' : P' ⊢ Wpc c p Q) : P ⊢ Wpc c p Q := h.trans h'

/-- A program's run, with something kept beside it. -/
theorem frame_step {α : Type} {Q : α → sProp 𝕄} {c : Dev nD} {P R : sProp 𝕄} {p : Prog (TpuEff nD τ sig (Elt F) Λ₀ .tc) α} {P' : sProp 𝕄} {Q' : α → sProp 𝕄} (h : P' ⊢ Wpc c p Q') (hQ : ∀ v, iprop(Q' v ∗ R) ⊢ Q v)
    (hP : P ⊢ iprop(P' ∗ R)) : P ⊢ Wpc c p Q :=
  hP.trans ((sep_mono_left h).trans ((wp_frame_r _ _ _).trans (wp_mono _ _ _ hQ)))

/-- A run of one operation followed by the rest is a run of the sequence. -/
theorem lift_step {α γ : Type} {Q : α → sProp 𝕄} {c : Dev nD} {P : sProp 𝕄} {e : TpuEff nD τ sig (Elt F) Λ₀ .tc γ} {k : γ → Prog (TpuEff nD τ sig (Elt F) Λ₀ .tc) α}
    (h : P ⊢ Wpc c (.op e k) Q) : P ⊢ Wpc c (Prog.lift e >>= k) Q := h

/-! ## Loads and stores -/

section Mem
variable {cs : CoreSpace} {s : Shape} {e : EltTy} {b : Memref sig .tc cs s e} {r : Rect s} {hr : ∀ a, r.stride a = 1}

/-- A load of a slot held. -/
theorem load_step {α : Type} {Q : α → sProp 𝕄} {c : Dev nD} {R : sProp 𝕄} {hl : b.view.LoadsAt r.toLoadRect} {k : (r.toLoadRect.shape.Idx → Elt F e) → Prog (TpuEff nD τ sig (Elt F) Λ₀ .tc) α}
    {hr : ∀ a, r.stride a = 1} (q : PosShare TreeShare) (X : r.shape.Idx → Elt F e)
    (h : iprop(owns (c : Thread nD τ) (b.slice r hr) q X ∗ R) ⊢ Wpc c (k X) Q) :
    iprop(owns (c : Thread nD τ) (b.slice r hr) q X ∗ R) ⊢ Wpc c (Prog.lift (.load b r.toLoadRect hl) >>= k) Q := by
  refine lift_step ?_
  unfold owns at h ⊢
  iintro ⟨⟨%f, %hf, H⟩, HR⟩
  iapply (wp_load_rect 𝒱₀ (c : Thread nD τ) none Set.univ (m := b) (r := r) (S := (b.slice r hr).view.set) (Finset.Subset.refl _)) $$ H
  iintro H
  have he : (b.access r).read (Elt F) f = X := hf
  rw [he]
  iapply h
  isplitl [H]
  · iexists f; isplitr; · (ipureintro; exact hf)
    iexact H
  iexact HR

/-- A store to a slot held. -/
theorem store_step {α : Type} {Q : α → sProp 𝕄} {c : Dev nD} {R : sProp 𝕄} {w : r.shape.Idx → Elt F e} {hx : (b.access r).Stores Finset.univ} {hm : (Finset.univ : Finset r.shape.Idx) = Finset.univ ∨ ∀ a, r.stride a = 1}
    {k : PUnit → Prog (TpuEff nD τ sig (Elt F) Λ₀ .tc) α} {hr : ∀ a, r.stride a = 1}
    (h : iprop(owns (c : Thread nD τ) (b.slice r hr) fullShare w ∗ R) ⊢ Wpc c (k ⟨⟩) Q) :
    iprop((∃ X, owns (c : Thread nD τ) (b.slice r hr) fullShare X) ∗ R) ⊢ Wpc c (Prog.lift (.store b r w Finset.univ hx hm) >>= k) Q := by
  refine lift_step ?_
  unfold owns at h ⊢
  iintro ⟨⟨%X, %f, %hf, H⟩, HR⟩
  iapply (wp_store 𝒱₀ (c : Thread nD τ) none Set.univ (m := b) (r := r) (Mk := Finset.univ) (S := (b.slice r hr).view.set) (Finset.Subset.refl _)) $$ H
  iintro H
  iapply h
  isplitl [H]
  · iexists _; isplitr
    · ipureintro; exact View.read_write_univ (v := (b.slice r hr).view) f w
    iexact H
  iexact HR
end Mem

/-- A load and a store of a whole buffer held. -/
theorem load_whole {α : Type} {Q : α → sProp 𝕄} {c : Dev nD} {R : sProp 𝕄} (b : Ref sig .tc) {cs : CoreSpace} {s : Shape} {e : EltTy} {mem : Memref sig .tc cs s e}
    {r : Rect s} {hl : mem.view.LoadsAt r.toLoadRect} {k : (r.toLoadRect.shape.Idx → Elt F e) → Prog (TpuEff nD τ sig (Elt F) Λ₀ .tc) α}
    {q : PosShare TreeShare} {f : Buf (Elt F) (mem.view.loc (c : Thread nD τ))} {X : r.shape.Idx → Elt F e} (hX : mem.view.readAt (Elt F) r.toLoadRect f = X)
    (h : iprop((mem.view.loc (c : Thread nD τ) ↦{q} f) ∗ R) ⊢ Wpc c (k X) Q) :
    iprop((mem.view.loc (c : Thread nD τ) ↦{q} f) ∗ R) ⊢ Wpc c (Prog.lift (.load mem r.toLoadRect hl) >>= k) Q := by
  subst hX
  refine lift_step ?_
  iintro ⟨H, HR⟩
  iapply (wp_load 𝒱₀ (c : Thread nD τ) none Set.univ (m := mem) (Finset.subset_univ _)) $$ H
  iintro H
  iapply h
  isplitl [H] <;> iassumption

/-- A store into a buffer held whole leaves the buffer as written. -/
theorem store_whole {α : Type} {Q : α → sProp 𝕄} {c : Dev nD} {R : sProp 𝕄} {cs : CoreSpace} {s : Shape} {e : EltTy} {mem : Memref sig .tc cs s e}
    {r : Rect s} {w : r.shape.Idx → Elt F e} {hx : (mem.access r).Stores Finset.univ} {hm : (Finset.univ : Finset r.shape.Idx) = Finset.univ ∨ ∀ a, r.stride a = 1}
    {k : PUnit → Prog (TpuEff nD τ sig (Elt F) Λ₀ .tc) α}
    {f f' : Buf (Elt F) (mem.view.loc (c : Thread nD τ))} (hw : (mem.access r).write (Elt F) f w Finset.univ = f')
    (h : iprop((mem.view.loc (c : Thread nD τ) ↦{fullShare} f') ∗ R) ⊢ Wpc c (k ⟨⟩) Q) :
    iprop((mem.view.loc (c : Thread nD τ) ↦{fullShare} f) ∗ R) ⊢ Wpc c (Prog.lift (.store mem r w Finset.univ hx hm) >>= k) Q := by
  subst hw
  refine lift_step ?_
  iintro ⟨H, HR⟩
  iapply (wp_store 𝒱₀ (c : Thread nD τ) none Set.univ (m := mem) (r := r) (Mk := Finset.univ) (Finset.subset_univ _)) $$ H
  iintro H
  iapply h
  isplitl [H] <;> iassumption

/-! ## The exchange's states -/

/-- The kernel's semaphore cells: the barrier, then its own. -/
def csem (j : Fin 133) : SemLoc sig := if j.val = 0 then .reg barS else .dma ⟨j.val + 1, by have := j.isLt; show _ < 134; omega⟩
/-- The cells of the schedule, by device and number. -/
def kcell (x : Dev nD × Fin 133) : GSem nD τ sig := ((x.1 : Thread nD τ), csem x.2)

/-- The invariants of all the cells, and that round 0 is reached in each. -/
def records (K : Dev nD × Fin 133 → ℕ) : sProp 𝕄 :=
  iprop((bigSep Finset.univ fun x : Dev nD × Fin 133 => cellInv ER (rd m ρ) (K x) (kcell x))
    ∗ bigSep Finset.univ fun x : Dev nD × Fin 133 => reached ER (kcell x) 0)
instance records_persistent (K : Dev nD × Fin 133 → ℕ) : BI.Persistent (records m ρ K) := by unfold records; infer_instance

/-- What every device knows throughout: the cells' invariants, round 0 of each reached, the levels. -/
def RL : sProp 𝕄 := iprop((∃ K, records m ρ K) ∗ levAts L lv)
instance RL_persistent : BI.Persistent (RL m ρ) := by unfold RL; infer_instance

/-- Of all the invariants, that of one cell. -/
theorem inv_at (K : Dev nD × Fin 133 → ℕ) (x : Dev nD × Fin 133) :
    (bigSep Finset.univ fun x : Dev nD × Fin 133 => (cellInv ER (rd m ρ) (K x) (kcell x) : sProp 𝕄)) ⊢ cellInv ER (rd m ρ) (K x) (kcell x) :=
  bigSep_elim (Finset.mem_univ x)
/-- Of all the reached rounds, that of one cell. -/
theorem reached_at (x : Dev nD × Fin 133) :
    (bigSep Finset.univ fun x : Dev nD × Fin 133 => (reached ER (kcell x) 0 : sProp 𝕄)) ⊢ reached ER (kcell x) 0 :=
  bigSep_elim (Finset.mem_univ x)
/-- The records give any one cell's invariant and its round 0. -/
theorem RL_cell (x : Dev nD × Fin 133) : RL m ρ ⊢ iprop(∃ κ, cellInv ER (rd m ρ) κ (kcell x) ∗ reached ER (kcell x) 0) := by
  unfold RL records
  iintro ⟨⟨%K, #HI, #HR⟩, -⟩
  iexists (K x)
  isplitl
  · iapply (inv_at m ρ K x); iexact HI
  · iapply (reached_at x); iexact HR

/-- The records give a barrier's invariant and its round 0. -/
theorem RL_bar (c : Dev nD) : RL m ρ ⊢ iprop(∃ κ, cellInv ER (rd m ρ) κ (bar c) ∗ reached ER (bar c) 0) := RL_cell m ρ (c, 0)
/-- The records give the invariant and round 0 of any of the kernel's copy semaphores. -/
theorem RL_dma (c : Dev nD) (q : DmaSem sig) (h : 2 ≤ q.val) :
    RL m ρ ⊢ iprop(∃ κ, cellInv ER (rd m ρ) κ ((c : Thread nD τ), .dma q) ∗ reached ER ((c : Thread nD τ), .dma q) 0) := by
  have hq : q.val < 134 := q.isLt
  have e : kcell (c, (⟨q.val - 1, by omega⟩ : Fin 133)) = ((c : Thread nD τ), .dma q) := by
    unfold kcell csem
    rw [if_neg (by show ¬ q.val - 1 = 0; omega)]
    exact congrArg (fun z => ((c : Thread nD τ), SemLoc.dma z)) (Fin.ext (by show q.val - 1 + 1 = q.val; omega))
  rw [← e]; exact RL_cell m ρ _
/-- The records give the levels. -/
theorem RL_lev : RL m ρ ⊢ levAts L lv := by unfold RL; iintro ⟨-, H⟩; iexact H

/-- What a device still owes. -/
def Ow (c : Dev nD) (a b d : ℕ) : sProp 𝕄 := iprop(∃ W, owes (c : Thread nD τ) (Owe c a b d) W)

/-- What the `n`-th signal spends. -/
def sigTok (c : Dev nD) (n : ℕ) : sProp 𝕄 := iprop(dutyTok ER (bar (tgt c n)) 0 c ∗ barPay (tgt c n) c)

/-- The `n`-th signal. -/
theorem signal_step {α : Type} {Q : α → sProp 𝕄} {c : Dev nD} {R : sProp 𝕄} (n : ℕ) (h1 : 1 ≤ n) (h2 : n < 32) {b d : ℕ} {dst : Dev nD} (hd : dst = tgt c n)
    {k : PUnit → Prog (TpuEff nD τ sig (Elt F) Λ₀ .tc) α}
    (h : iprop(RL m ρ ∗ Ow c (n + 1) b d ∗ bigSep (Finset.Ico (n + 1) 32) (sigTok c) ∗ R) ⊢ Wpc c (k ⟨⟩) Q) :
    iprop(RL m ρ ∗ Ow c n b d ∗ bigSep (Finset.Ico n 32) (sigTok c) ∗ R) ⊢ Wpc c (semSignalWord dst barS 1#32 >>= k) Q := by
  subst hd
  show _ ⊢ Wpc c (.op (.semSignal (tgt c n : Thread nD τ) barS 1) k) Q
  rw [bigSep_Ico_succ_bot h2]
  unfold Ow sigTok at h ⊢
  iintro ⟨#HR, ⟨%W, HO⟩, ⟨⟨Ht, Hp⟩, Hs⟩, HF⟩
  ihave Hc := (RL_bar m ρ (tgt c n)) $$ HR
  icases Hc with ⟨%κ, #HI, #Hr⟩
  iapply (Rounds.wp_signal 𝒱₀ ER (rd m ρ) (c : Thread nD τ) none (dst := (tgt c n : Thread nD τ)) (κ := κ) (d := c)
      (by rw [duties_bar]; exact Finset.mem_erase.mpr ⟨(tgt_ne c n h1 h2).symm, Finset.mem_univ _⟩) (amount_bar m ρ (tgt c n) 0 c) () (Owe c (n + 1) b d) (Owe_bar c n b d h2))
    $$ [HO Ht Hp]
  · isplitr; · iexact HI
    isplitl [HO]; · iexact HO
    isplitl [Ht]; · iexact Ht
    isplitl [Hp]; · rw [payload_bar]; iexact Hp
    iexact Hr
  iintro HO
  iapply h
  isplitr; · iexact HR
  isplitl [HO]; · iexists W; iexact HO
  isplitl [Hs] <;> iassumption

/-- The wait for every other device's signal. -/
theorem bar_step {α : Type} {Q : α → sProp 𝕄} {c : Dev nD} {R : sProp 𝕄} {b d : ℕ} {k : PUnit → Prog (TpuEff nD τ sig (Elt F) Λ₀ .tc) α}
    (h : iprop(RL m ρ ∗ Ow c 32 b d ∗ (semVal (bar c) 0 ∗ bigSep (Finset.univ.erase c) fun t => barPay c t) ∗ R) ⊢ Wpc c (k ⟨⟩) Q) :
    iprop(RL m ρ ∗ Ow c 32 b d ∗ (cred (tallyAt (bar c) () 31) ∗ atPos ER (bar c) 0 ∅ 0) ∗ R) ⊢ Wpc c (semWaitWord barS 31#32 >>= k) Q := by
  show _ ⊢ Wpc c (.op (.semWait barS 31) k) Q
  unfold Ow at h ⊢
  iintro ⟨#HR, ⟨%W, HO⟩, ⟨Hc, Ha⟩, HF⟩
  ihave Hv := (RL_bar m ρ c) $$ HR
  icases Hv with ⟨%κ, #HI, #Hr⟩
  iapply (Rounds.wp_wait_rest_token 𝒱₀ ER (rd m ρ) (c : Thread nD τ) none (κ := κ)
      (wpE_semWait_eq 𝒱₀ (c : Thread nD τ) none Set.univ) (Set.mem_univ _) () (O := Owe c 32 b d) (W := W) (R := 0) (m := 0) (T := ∅)
      (by rw [expect_bar])) $$ [HO Hc Ha]
  · isplitr; · iexact HI
    isplitl [Hc]; · iexact Hc
    isplitl [HO]; · iexact HO
    isplitr; · iapply (mayWait_bar c b d); iapply (RL_lev m ρ); iexact HR
    iexact Ha
  iintro ⟨HO, Ha, -, Hp⟩
  imod (Rounds.cell_close ER (rd m ρ) (Set.mem_univ κ) (fun h => h) (R := 0 + 1) (duties_bar_later m ρ c)) $$ [Ha] with Hz
  · isplitr; · iexact HI
    iexact Ha
  iapply h
  isplitr; · iexact HR
  isplitl [HO]; · iexists _; iexact HO
  isplitl [Hz Hp]
  · isplitl [Hz]; · iexact Hz
    rw [Finset.sdiff_empty, duties_bar]
    iexact Hp
  iexact HF

/-! ## The weights' ring -/

/-- What the `j`-th copy spends: its duty, its block where it lies. -/
def wTok (c : Dev nD) (j : ℕ) : sProp 𝕄 := iprop(dutyTok ER (wC c (sl j)) (j / 4) 0 ∗ gPt m ρ c j)

/-- A block's number is four times its round and its slot. -/
theorem sl_div (j : ℕ) : 4 * (j / 4) + (sl j).val = j := by rw [sl_val]; omega
/-- The ring's semaphores are not the windows'. -/
theorem wSem_ge (k : Fin 4) : 2 ≤ (wSem k).val := by show 2 ≤ 2 + k.val; omega

/-- The slot's view with its unit axis dropped has the slot's elements, and reads them in the same order. -/
theorem wS_landed (c : Dev nD) (j : ℕ) (fd : Buf (Elt F) ((wS (sl j)).view.loc (c : Thread nD τ))) :
    ((((wS (sl j)).squeeze S1024x2048 squeezes_S1x1024x2048_S1024x2048).view.loc (c : Thread nD τ) ↦[((wS (sl j)).squeeze S1024x2048 squeezes_S1x1024x2048_S1024x2048).view.set]{fullShare}
        ((wS (sl j)).squeeze S1024x2048 squeezes_S1x1024x2048_S1024x2048).view.write (Elt F) fd ((gB (bl j)).view.read (Elt F) (garr m ρ c)) Finset.univ) : sProp 𝕄)
      ⊢ owns (c : Thread nD τ) (wS (sl j)) fullShare (wBlk m ρ c j) := by
  have hs : ((wS (sl j)).squeeze S1024x2048 squeezes_S1x1024x2048_S1024x2048).view.set = (wS (sl j)).view.set := View.set_reshape _ _
  rw [hs]
  unfold owns
  iintro H
  iexists _
  isplitr
  rotate_left
  · iexact H
  ipureintro
  funext y
  have h := congrFun (View.read_write_univ (v := ((wS (sl j)).squeeze S1024x2048 squeezes_S1x1024x2048_S1024x2048).view) fd
    ((gB (bl j)).view.read (Elt F) (garr m ρ c))) ((Shape.reshapeEquiv squeezes_S1x1024x2048_S1024x2048.numel_eq).symm y)
  unfold wBlk
  rw [← h]
  show _ = (wS (sl j)).view.read (Elt F) _ (Shape.reshapeEquiv squeezes_S1x1024x2048_S1024x2048.numel_eq _)
  rw [Equiv.apply_symm_apply]

/-- The copy of the `j`-th block into its slot. -/
theorem wcopy_step {α : Type} {Q : α → sProp 𝕄} {c : Dev nD} {R : sProp 𝕄} (j : ℕ) (hj : j < 16)
    {offs : Fin 2 → ℕ} {offd : Fin 3 → ℕ} {offm : Fin 1 → ℕ}
    (hs : offs = ![1024 * ((bl j).val % 4), 2048 * ((bl j).val / 4)]) (hd : offd = ![(sl j).val, 0, 0]) (hm : offm = ![(sl j).val])
    {ibs : ∀ a, offs a + S1024x2048.size a ≤ S4096x8192.size a} {ibd : ∀ a, offd a + S1x1024x2048.size a ≤ S4x1024x2048.size a}
    {ibm : ∀ a, offm a + S1.size a ≤ S4.size a} {h1 h2 h3}
    {k : PUnit → Prog (TpuEff nD τ sig (Elt F) Λ₀ .tc) α}
    (h : iprop(RL m ρ ∗ cred (tallyAt (wC c (sl j)) () Nw) ∗ R) ⊢ Wpc c (k ⟨⟩) Q) :
    iprop(RL m ρ ∗ (wTok m ρ c j ∗ reached ER (wC c (sl j)) (j / 4) ∗ ∃ X, owns (c : Thread nD τ) (wS (sl j)) fullShare X) ∗ R) ⊢ Wpc c
      (Prog.lift (.enqueueDma ((gM : Memref sig .tc .hbm S4096x8192 .f32).slice (Rect.unit offs S1024x2048.size ibs) (fun _ => rfl))
        (.here (((wM : Memref sig .tc .vmem S4x1024x2048 .f32).slice (Rect.unit offd S1x1024x2048.size ibd) (fun _ => rfl)).squeeze S1024x2048 squeezes_S1x1024x2048_S1024x2048))
        (.dma ((cc0_scratch8.slice (Rect.unit (s := S4) offm S1.size ibm)).squeeze S_ squeezes_S1_S_).sem) h1 h2 h3) >>= k) Q := by
  subst hs hd
  generalize he : ((cc0_scratch8.slice (Rect.unit (s := S4) offm S1.size ibm)).squeeze S_ squeezes_S1_S_).sem = q at h3 ⊢
  obtain rfl : wSem (sl j) = q := (wSem_eq (sl j) offm ibm hm).symm.trans he
  refine lift_step ?_
  unfold wTok owns gPt
  iintro ⟨#HR, ⟨⟨Ht, Hg⟩, Hr, ⟨%X, %f, %hf, Hw⟩⟩, HF⟩
  ihave Hv := (RL_dma m ρ c (wSem (sl j)) (wSem_ge _)) $$ HR
  icases Hv with ⟨%κ, #HI, -⟩
  iapply (Rounds.wp_copy_pointsTo 𝒱₀ ER (rd m ρ) (c : Thread nD τ) none (κ := κ) (r := j / 4) (d := 0)
    (src := gB (bl j)) (dst := (wS (sl j)).squeeze S1024x2048 squeezes_S1x1024x2048_S1024x2048) (fs := garr m ρ c) (fd := f)
    (by rw [duties_w m ρ c (sl j) (j / 4) (by omega)]; exact Finset.mem_singleton_self _) () Nw rfl (amount_w m ρ c (sl j) (j / 4) 0)
    (by rw [payload_w]; unfold wPay; rw [sl_div]; exact sep_mono_left (wS_landed m ρ c j f))) $$ [Hg Hw Ht Hr]
  · isplitr; · iexact HI
    isplitl [Hg]; · iexact Hg
    isplitl [Hw]
    · rw [show ((wS (sl j)).squeeze S1024x2048 squeezes_S1x1024x2048_S1024x2048).view.set = (wS (sl j)).view.set from View.set_reshape _ _]
      iexact Hw
    isplitl [Ht] <;> iassumption
  iintro Hc
  iapply h
  isplitr; · iexact HR
  isplitl [Hc] <;> iassumption

/-- A whole round of a slot's cell hands over the block, landed, and the block where it lies. -/
theorem rest_w (c : Dev nD) (j : ℕ) (hj : j < 16) :
    bigSep ((rd (F := F) m ρ).duties (wC c (sl j)) (j / 4) \ ∅) (fun d => (rd (F := F) m ρ).payload (wC c (sl j)) (j / 4) d)
      = iprop(owns (c : Thread nD τ) (wS (sl j)) fullShare (wBlk m ρ c j) ∗ gPt m ρ c j) := by
  rw [Finset.sdiff_empty, duties_w m ρ c (sl j) (j / 4) (by omega), bigSep_singleton, payload_w]
  unfold wPay; rw [sl_div]

/-- The wait for the `j`-th block. -/
theorem wwait_step {α : Type} {Q : α → sProp 𝕄} {c : Dev nD} {R : sProp 𝕄} (j : ℕ) (hj : j < 16) {a b d : ℕ}
    {offs : Fin 2 → ℕ} {offd : Fin 3 → ℕ} {offm : Fin 1 → ℕ} (hm : offm = ![(sl j).val])
    {ibs : ∀ a, offs a + S1024x2048.size a ≤ S4096x8192.size a} {ibd : ∀ a, offd a + S1x1024x2048.size a ≤ S4x1024x2048.size a}
    {ibm : ∀ a, offm a + S1.size a ≤ S4.size a} {h1 h2}
    {k : PUnit → Prog (TpuEff nD τ sig (Elt F) Λ₀ .tc) α}
    (h : iprop(RL m ρ ∗ Ow c a b d ∗ ((atPos ER (wC c (sl j)) (j / 4 + 1) ∅ 0 ∗ reached ER (wC c (sl j)) (j / 4 + 1))
        ∗ owns (c : Thread nD τ) (wS (sl j)) fullShare (wBlk m ρ c j) ∗ gPt m ρ c j) ∗ R) ⊢ Wpc c (k ⟨⟩) Q) :
    iprop(RL m ρ ∗ Ow c a b d ∗ (cred (tallyAt (wC c (sl j)) () Nw) ∗ atPos ER (wC c (sl j)) (j / 4) ∅ 0) ∗ R) ⊢ Wpc c
      (Prog.lift (.waitDma2 ((cc0_scratch8.slice (Rect.unit (s := S4) offm S1.size ibm)).squeeze S_ squeezes_S1_S_).sem
        ((gM : Memref sig .tc .hbm S4096x8192 .f32).slice (Rect.unit offs S1024x2048.size ibs) (fun _ => rfl))
        (((wM : Memref sig .tc .vmem S4x1024x2048 .f32).slice (Rect.unit offd S1x1024x2048.size ibd) (fun _ => rfl)).squeeze S1024x2048 squeezes_S1x1024x2048_S1024x2048)
        h1 h2) >>= k) Q := by
  generalize he : ((cc0_scratch8.slice (Rect.unit (s := S4) offm S1.size ibm)).squeeze S_ squeezes_S1_S_).sem = q
  obtain rfl : wSem (sl j) = q := (wSem_eq (sl j) offm ibm hm).symm.trans he
  refine lift_step ?_
  unfold Ow at h ⊢
  iintro ⟨#HR, ⟨%W, HO⟩, ⟨Hc, Ha⟩, HF⟩
  ihave Hv := (RL_dma m ρ c (wSem (sl j)) (wSem_ge _)) $$ HR
  icases Hv with ⟨%κ, #HI, -⟩
  iapply (Rounds.wp_wait_rest_token 𝒱₀ ER (rd m ρ) (c : Thread nD τ) none (κ := κ)
      (wpE_waitDma2_eq 𝒱₀ (c : Thread nD τ) none Set.univ) (Set.mem_univ _) () (O := Owe c a b d) (W := W) (R := j / 4) (m := 0) (T := ∅)
      (by rw [expect_w m ρ c (sl j) (j / 4) (by omega)]; exact Nat.zero_add _)) $$ [HO Hc Ha]
  · isplitr; · iexact HI
    isplitl [Hc]; · iexact Hc
    isplitl [HO]; · iexact HO
    isplitr
    · iapply (mayWait_lo c (wSem (sl j)) (by have := w_hi (sl j); omega) a b d); iapply (RL_lev m ρ); iexact HR
    iexact Ha
  iintro ⟨HO, Ha, Hr, Hp⟩
  iapply h
  isplitr; · iexact HR
  isplitl [HO]; · iexists _; iexact HO
  isplitr [HF]
  · isplitl [Ha Hr]; · isplitl [Ha] <;> iassumption
    iapply (Entails.of_eq (rest_w m ρ c j hj)); iexact Hp
  iexact HF

/-! ## The exchange's transfers -/

/-- A place just written whole is owned with what was written. -/
theorem owns_landed {c : Dev nD} {sp : Space} {sh : Shape} {e : EltTy} (b : Memref sig .tc sp sh e) (fd : Buf (Elt F) (b.view.loc (c : Thread nD τ))) (X : sh.Idx → Elt F e) :
    ((b.view.loc (c : Thread nD τ) ↦[b.view.set]{fullShare} b.view.write (Elt F) fd X Finset.univ) : sProp 𝕄) ⊢ owns (c : Thread nD τ) b fullShare X := by
  have h := owns_intro (Ix := Unit) (Name := ℕ) (U := UU) (Lvl := ℕ) (c : Thread nD τ) b fullShare (b.view.write (Elt F) fd X Finset.univ)
  rwa [View.read_write_univ] at h

/-- What sending device `t` its tile spends. -/
def datTok (c t : Dev nD) : sProp 𝕄 :=
  iprop(dutyTok ER (ds c t) 0 0 ∗ dutyTok ER (dr t c) 0 0 ∗ ∃ X, owns (t : Thread nD τ) (rvT c) fullShare X)

/-- The transfer of device `t`'s tile to it. -/
theorem dsend_step {α : Type} {Q : α → sProp 𝕄} {c : Dev nD} {R : sProp 𝕄} (t : Dev nD) (hc : t ≠ c) {a d : ℕ} (u : ℕ) (hu : u < 32) (htu : D u = t)
    {n : Dev nD} (hn : n = t)
    {offs offd : Fin 3 → ℕ} {offp offq : Fin 1 → ℕ} (hs : offs = ![t.val, 0, 0]) (hd : offd = ![c.val, 0, 0]) (hp : offp = ![t.val]) (hq : offq = ![c.val])
    {ibs : ∀ a, offs a + S1x128x256.size a ≤ S32x128x256.size a} {ibd : ∀ a, offd a + S1x128x256.size a ≤ S32x128x256.size a}
    {ibp : ∀ a, offp a + S1.size a ≤ S32.size a} {ibq : ∀ a, offq a + S1.size a ≤ S32.size a} {h1 h2 h3 h4}
    {k : PUnit → Prog (TpuEff nD τ sig (Elt F) Λ₀ .tc) α}
    (h : iprop(RL m ρ ∗ Ow c a (u + 1) d ∗ cred (tallyAt (ds c t) () Nt) ∗ R) ⊢ Wpc c (k ⟨⟩) Q) :
    iprop(RL m ρ ∗ Ow c a u d ∗ (datTok c t ∗ owns (c : Thread nD τ) (sT t) fullShare (tile m ρ c t)) ∗ R) ⊢ Wpc c
      (Prog.lift (.enqueueDma ((sbM : Memref sig .tc .vmem S32x128x256 .bf16).slice (Rect.unit offs S1x128x256.size ibs) (fun _ => rfl))
        (.remote (n : Thread nD τ) ((rbM : Memref sig .tc .vmem S32x128x256 .bf16).slice (Rect.unit offd S1x128x256.size ibd) (fun _ => rfl))
          (.dma ((cc0_scratch9.slice (Rect.unit (s := S32) offp S1.size ibp)).squeeze S_ squeezes_S1_S_).sem) h1)
        (.dma ((cc0_scratch10.slice (Rect.unit (s := S32) offq S1.size ibq)).squeeze S_ squeezes_S1_S_).sem) h2 h3 h4) >>= k) Q := by
  subst hs hd hn
  generalize he : ((cc0_scratch9.slice (Rect.unit (s := S32) offp S1.size ibp)).squeeze S_ squeezes_S1_S_).sem = q at h4 ⊢
  obtain rfl : dsSem n = q := (dsSem_eq n offp ibp hp).symm.trans he
  generalize he' : ((cc0_scratch10.slice (Rect.unit (s := S32) offq S1.size ibq)).squeeze S_ squeezes_S1_S_).sem = q' at h4 ⊢
  obtain rfl : drSem c = q' := (drSem_eq c offq ibq hq).symm.trans he'
  have hO : Owe c a u d = Owe c a (u + 1) d + tallyAt (dr n c) () Nt := by
    have := Owe_data c a u d hu (by rw [htu]; exact hc)
    rwa [htu] at this
  refine lift_step ?_
  unfold datTok owns Ow at *
  iintro ⟨#HR, ⟨%W, HO⟩, ⟨⟨Ht1, Ht2, ⟨%X, %fd, -, Hd⟩⟩, ⟨%fs, %hfs, Hs⟩⟩, HF⟩
  ihave Hv := (RL_dma m ρ c (dsSem n) (by show 2 ≤ 6 + n.val; omega)) $$ HR
  icases Hv with ⟨%κ₁, #HI1, #Hr1⟩
  ihave Hv := (RL_dma m ρ n (drSem c) (by show 2 ≤ 38 + c.val; omega)) $$ HR
  icases Hv with ⟨%κ₂, #HI2, #Hr2⟩
  iapply (Rounds.wp_send_pointsTo 𝒱₀ ER (rd m ρ) (c : Thread nD τ) none (κ₁ := κ₁) (κ₂ := κ₂) (c' := (n : Thread nD τ)) (src := sT n) (dst := rvT c)
    (r₁ := 0) (r₂ := 0) (d₁ := 0) (d₂ := 0) (fs := fs) (fd := fd) (q := fullShare) (sS := .dma (dsSem n)) (sem := .dma (drSem c))
    (by rw [duties_x m ρ c _ (ds_lo n) (by rw [dsIx]; exact hc)]; exact Finset.mem_singleton_self _)
    (by rw [duties_x m ρ n _ (by have := dr_lo c; omega) (by rw [drIx]; exact hc.symm)]; exact Finset.mem_singleton_self _)
    () () Nt rfl (amount_ds m ρ c n 0 0) (amount_dr m ρ n c 0 0) (Owe c a (u + 1) d)
    hO (W := W)
    (by rw [payload_ds]; unfold dsPay; exact (owns_intro (c : Thread nD τ) (sT n) fullShare fs).trans (by iintro H; iexists _; iexact H))
    (by rw [payload_dr, hfs]; exact owns_landed (rvT c) fd _)) $$ [HO Ht1 Ht2 Hd Hs]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply h
  isplitr; · iexact HR
  isplitl [HO]; · iexists _; iexact HO
  isplitl [Hc] <;> iassumption

/-- What the `n`-th sending of the row spends, and leaves. -/
def amTok (c : Dev nD) (n : ℕ) : sProp 𝕄 :=
  iprop(dutyTok ER (ac c (tgt c n)) 0 0 ∗ dutyTok ER (ar (tgt c n) c) 0 0
    ∗ ((asR : Memref sig .tc .vmem S1x128 .f32).view.loc (c : Thread nD τ) ↦[(asR : Memref sig .tc .vmem S1x128 .f32).view.set]{shr n} abuf m ρ c)
    ∗ ∃ X, owns (tgt c n : Thread nD τ) (arR c) fullShare X)
/-- The credit on the cell for the sending of the row to the `n`-th device after `c`. -/
def amCred (c : Dev nD) (n : ℕ) : sProp 𝕄 := cred (tallyAt (ac c (tgt c n)) () Na)

/-- The `n`-th sending of the row. -/
theorem asend_step {α : Type} {Q : α → sProp 𝕄} {c : Dev nD} {R : sProp 𝕄} (n : ℕ) (h1 : 1 ≤ n) (h2 : n < 32) {a b : ℕ} {dst : Dev nD} (hdst : dst = tgt c n)
    {offd : Fin 2 → ℕ} {offp offq : Fin 1 → ℕ} (hd : offd = ![c.val, 0]) (hp : offp = ![(tgt c n).val]) (hq : offq = ![c.val])
    {ibd : ∀ a, offd a + S1x128.size a ≤ S32x128.size a}
    {ibp : ∀ a, offp a + S1.size a ≤ S32.size a} {ibq : ∀ a, offq a + S1.size a ≤ S32.size a} {g1 g2 g3 g4}
    {k : PUnit → Prog (TpuEff nD τ sig (Elt F) Λ₀ .tc) α}
    (h : iprop(RL m ρ ∗ Ow c a b (n + 1) ∗ amCred c n ∗ R) ⊢ Wpc c (k ⟨⟩) Q) :
    iprop(RL m ρ ∗ Ow c a b n ∗ amTok m ρ c n ∗ R) ⊢ Wpc c
      (Prog.lift (.enqueueDma (asR : Memref sig .tc .vmem S1x128 .f32)
        (.remote (dst : Thread nD τ) ((arM : Memref sig .tc .vmem S32x128 .f32).slice (Rect.unit offd S1x128.size ibd) (fun _ => rfl))
          (.dma ((cc0_scratch11.slice (Rect.unit (s := S32) offp S1.size ibp)).squeeze S_ squeezes_S1_S_).sem) g1)
        (.dma ((cc0_scratch12.slice (Rect.unit (s := S32) offq S1.size ibq)).squeeze S_ squeezes_S1_S_).sem) g2 g3 g4) >>= k) Q := by
  subst hd hdst
  generalize he : ((cc0_scratch11.slice (Rect.unit (s := S32) offp S1.size ibp)).squeeze S_ squeezes_S1_S_).sem = q at g4 ⊢
  obtain rfl : asSem (tgt c n) = q := (asSem_eq (tgt c n) offp ibp hp).symm.trans he
  generalize he' : ((cc0_scratch12.slice (Rect.unit (s := S32) offq S1.size ibq)).squeeze S_ squeezes_S1_S_).sem = q' at g4 ⊢
  obtain rfl : arSem c = q' := (arSem_eq c offq ibq hq).symm.trans he'
  have hc : tgt c n ≠ c := tgt_ne c n h1 h2
  refine lift_step ?_
  unfold amTok owns Ow amCred at *
  iintro ⟨#HR, ⟨%W, HO⟩, ⟨Ht1, Ht2, Hs, ⟨%X, %fd, -, Hd⟩⟩, HF⟩
  ihave Hv := (RL_dma m ρ c (asSem (tgt c n)) (by show 2 ≤ 70 + (tgt c n).val; omega)) $$ HR
  icases Hv with ⟨%κ₁, #HI1, #Hr1⟩
  ihave Hv := (RL_dma m ρ (tgt c n) (arSem c) (by show 2 ≤ 102 + c.val; omega)) $$ HR
  icases Hv with ⟨%κ₂, #HI2, #Hr2⟩
  iapply (Rounds.wp_send_pointsTo 𝒱₀ ER (rd m ρ) (c : Thread nD τ) none (κ₁ := κ₁) (κ₂ := κ₂) (c' := (tgt c n : Thread nD τ))
    (src := (asR : Memref sig .tc .vmem S1x128 .f32)) (dst := arR c)
    (r₁ := 0) (r₂ := 0) (d₁ := 0) (d₂ := 0) (fs := abuf m ρ c) (fd := fd) (q := shr n) (sS := .dma (asSem (tgt c n))) (sem := .dma (arSem c))
    (by rw [duties_x m ρ c _ (by have := ac_lo (tgt c n); omega) (by rw [acIx]; exact hc)]; exact Finset.mem_singleton_self _)
    (by rw [duties_x m ρ (tgt c n) _ (by have := ar_lo c; omega) (by rw [arIx]; exact hc.symm)]; exact Finset.mem_singleton_self _)
    () () Na rfl (amount_ac m ρ c (tgt c n) 0 0) (amount_ar m ρ (tgt c n) c 0 0) (Owe c a b (n + 1)) (Owe_row c a b n h2) (W := W)
    (by rw [payload_ac]; unfold asPay; rw [dist_tgt c n h2])
    (by rw [payload_ar]; exact owns_landed (arR c) fd _)) $$ [HO Ht1 Ht2 Hd Hs]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply h
  isplitr; · iexact HR
  isplitl [HO]; · iexists _; iexact HO
  isplitl [Hc] <;> iassumption

/-! ## The waits for the transfers -/

/-- The wait on a cell of one round with nothing owed any more: the cell closes, its one payload comes with it. -/
theorem xwait_step {α : Type} {Q : α → sProp 𝕄} {c : Dev nD} {R : sProp 𝕄} (q : DmaSem sig) (hq : ¬ q.val < 6) (t : Dev nD) (hqt : D (q.val - 6) = t) (hc : t ≠ c)
    (N : ℕ) (hN : ∀ d, (rd (F := F) m ρ).amount ((c : Thread nD τ), .dma q) 0 d = N) (pay : sProp 𝕄) (hpay : (rd (F := F) m ρ).payload ((c : Thread nD τ), .dma q) 0 0 = pay)
    {sp sp' : Space} {s s' : Shape} {e e' : EltTy} {src : Memref sig .tc sp' s' e'} {dst : Memref sig .tc sp s e} (hd : dst.view.dmaCredit = N) {q' : DmaSem sig} (he : q' = q) {g1 g2}
    {k : PUnit → Prog (TpuEff nD τ sig (Elt F) Λ₀ .tc) α}
    (h : iprop(RL m ρ ∗ Ow c 32 32 32 ∗ (semVal ((c : Thread nD τ), .dma q) 0 ∗ pay) ∗ R) ⊢ Wpc c (k ⟨⟩) Q) :
    iprop(RL m ρ ∗ Ow c 32 32 32 ∗ (cred (tallyAt ((c : Thread nD τ), .dma q) () N) ∗ atPos ER ((c : Thread nD τ), .dma q) 0 ∅ 0) ∗ R) ⊢ Wpc c
      (Prog.lift (.waitDma2 q' src dst g1 g2) >>= k) Q := by
  subst he hd
  have hdut : (rd (F := F) m ρ).duties ((c : Thread nD τ), .dma q') 0 = {0} := duties_x m ρ c q' hq (by rw [hqt]; exact hc)
  have hexp : (rd (F := F) m ρ).expect ((c : Thread nD τ), .dma q') 0 = dst.view.dmaCredit := by
    unfold Schedule.expect Schedule.amountOf; rw [hdut, Finset.sum_singleton, hN]
  have hrest : bigSep ((rd (F := F) m ρ).duties ((c : Thread nD τ), .dma q') 0 \ ∅) (fun d => (rd (F := F) m ρ).payload ((c : Thread nD τ), .dma q') 0 d) = pay := by
    rw [Finset.sdiff_empty, hdut, bigSep_singleton, hpay]
  refine lift_step ?_
  unfold Ow at *
  rw [Owe_none] at *
  iintro ⟨#HR, ⟨%W, HO⟩, ⟨Hc, Ha⟩, HF⟩
  ihave Hv := (RL_dma m ρ c q' (by omega)) $$ HR
  icases Hv with ⟨%κ, #HI, -⟩
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [hexp]; exact Nat.zero_add _)) $$ [HO Hc Ha]
  · isplitr; · iexact HI
    isplitl [Hc]; · iexact Hc
    isplitl [HO]; · iexact HO
    isplitr; · rw [MayWait_zero]; iempintro
    iexact Ha
  iintro ⟨HO, Ha, -, Hp⟩
  imod (Rounds.cell_close ER (rd m ρ) (Set.mem_univ κ) (fun h => h) (R := 0 + 1) (duties_x_later m ρ c q' hq 1 (Or.inr (Nat.le_refl 1)))) $$ [Ha] with Hz
  · isplitr; · iexact HI
    iexact Ha
  iapply h
  isplitr; · iexact HR
  isplitl [HO]; · iexists _; iexact HO
  isplitr [HF]
  · isplitl [Hz]; · iexact Hz
    iapply (Entails.of_eq hrest); iexact Hp
  iexact HF

/-- A cell no transfer pays closes as it is. -/
theorem own_close (c : Dev nD) (q : DmaSem sig) (hq : ¬ q.val < 6) (hqc : D (q.val - 6) = c) :
    iprop(RL m ρ ∗ atPos ER ((c : Thread nD τ), .dma q) 0 ∅ 0) ⊢ |={Set.univ}=> semVal ((c : Thread nD τ), .dma q) 0 := by
  iintro ⟨#HR, Ha⟩
  ihave Hv := (RL_dma m ρ c q (by omega)) $$ HR
  icases Hv with ⟨%κ, #HI, -⟩
  iapply (Rounds.cell_close ER (rd m ρ) (Set.mem_univ κ) (fun h => h) (R := 0) (duties_x_later m ρ c q hq 0 (Or.inl hqc)))
  isplitr; · iexact HI
  iexact Ha
/-- A cell of the weights' ring closes after its four rounds. -/
theorem w_close (c : Dev nD) (k : Fin 4) :
    iprop(RL m ρ ∗ atPos ER (wC c k) 4 ∅ 0) ⊢ |={Set.univ}=> semVal (wC c k) 0 := by
  iintro ⟨#HR, Ha⟩
  ihave Hv := (RL_dma m ρ c (wSem k) (wSem_ge k)) $$ HR
  icases Hv with ⟨%κ, #HI, -⟩
  iapply (Rounds.cell_close ER (rd m ρ) (Set.mem_univ κ) (fun h => h) (R := 4) (duties_w_later m ρ c k))
  isplitr; · iexact HI
  iexact Ha

end Cert.KProof

end
-- ==== Proof.Off.lean ====
/-
The words the kernel computes: the places after a device, the tile numbers and the places of the grid as numbers.
-/
module

public import proofs.«01_k».proof.Proof.Steps

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s own place, the place `n` after it and tile `8 (t / 4) + n`, as the kernel computes them. -/
def selfW (c : Dev nD) : BitVec 32 := Scalar.remsi (Scalar.divsi (Dev.word c) 1#32) 32#32
/-- The place of the `n`-th device after `c`, as the kernel's word. -/
def peerW (c : Dev nD) (n : BitVec 32) : BitVec 32 := Scalar.remsi (Scalar.addi (selfW c) n) 32#32
/-- The column group of a grid point, as the kernel's word. -/
def arg0W (t : Fin cfg0.N) : BitVec 32 := BitVec.ofNat 32 (grid0.coords t 0).val
/-- The device that the `n`-th tile of a column group is for, as the kernel's word. -/
def tileW (t : Fin cfg0.N) (n : BitVec 32) : BitVec 32 := Scalar.addi (Scalar.muli (arg0W t) 8#32) n
/-- A number as the id of a device. -/
def devW (w : BitVec 32) : BitVec 32 := Scalar.addi 0#32 (Scalar.muli w 1#32)
/-- Whether tile `n` of the group goes to another device. -/
def otherW (t : Fin cfg0.N) (c : Dev nD) (n : BitVec 32) : BitVec 1 :=
  Scalar.cmpi .ne (Scalar.extui (Scalar.cmpi .ne (tileW t n) (selfW c)) : BitVec 32) 0#32

/-- The kernel's word for a device's own place is that place. -/
theorem selfW_val : ∀ c : Dev nD, (selfW c).toNat = c.val := by decide +kernel
/-- Both words for the `n`-th device after `c` are its place. -/
theorem peerW_val' : ∀ (c : Dev nD) (n : Fin 32), (peerW c (BitVec.ofNat 32 n.val)).toNat = (tgt c n.val).val ∧ (devW (peerW c (BitVec.ofNat 32 n.val))).toNat = (tgt c n.val).val := by decide +kernel
/-- Both words for the device of a group's `n`-th tile are its place. -/
theorem tileW_val' : ∀ (t : Fin cfg0.N) (n : Fin 8), (tileW t (BitVec.ofNat 32 n.val)).toNat = (D (8 * (t.val / 4) + n.val)).val ∧ (devW (tileW t (BitVec.ofNat 32 n.val))).toNat = (D (8 * (t.val / 4) + n.val)).val := by decide +kernel
/-- The printed test whether a tile is for another device says just that. -/
theorem otherW_iff' : ∀ (t : Fin cfg0.N) (n : Fin 8) (c : Dev nD), otherW t c (BitVec.ofNat 32 n.val) = 1#1 ↔ D (8 * (t.val / 4) + n.val) ≠ c := by decide +kernel

/-- The word for the `n`-th device after `c` is its place. -/
theorem peerW_val (c : Dev nD) (n : ℕ) (h : n < 32) : (peerW c (BitVec.ofNat 32 n)).toNat = (tgt c n).val := (peerW_val' c ⟨n, h⟩).1
/-- The word for the `n`-th device after `c`, as a copy's target, is its place. -/
theorem peerW_dev (c : Dev nD) (n : ℕ) (h : n < 32) : (devW (peerW c (BitVec.ofNat 32 n))).toNat = (tgt c n).val := (peerW_val' c ⟨n, h⟩).2
/-- The word for the device of a group's `n`-th tile is its place. -/
theorem tileW_val (t : Fin cfg0.N) (n : ℕ) (h : n < 8) : (tileW t (BitVec.ofNat 32 n)).toNat = (D (8 * (t.val / 4) + n)).val := (tileW_val' t ⟨n, h⟩).1
/-- The word for the device of a group's `n`-th tile, as a copy's target, is its place. -/
theorem tileW_dev (t : Fin cfg0.N) (n : ℕ) (h : n < 8) : (devW (tileW t (BitVec.ofNat 32 n))).toNat = (D (8 * (t.val / 4) + n)).val := (tileW_val' t ⟨n, h⟩).2
/-- The printed test whether a tile is for another device, for a natural number below 8. -/
theorem otherW_iff (t : Fin cfg0.N) (c : Dev nD) (n : ℕ) (h : n < 8) : otherW t c (BitVec.ofNat 32 n) = 1#1 ↔ D (8 * (t.val / 4) + n) ≠ c := otherW_iff' t ⟨n, h⟩ c

/-- A word as an offset in a list of one, two or three. -/
theorem vec1 {w : ℕ} {n : ℕ} (h : w = n) : (![w] : Fin 1 → ℕ) = ![n] := by rw [h]
/-- Equal first offsets make equal pairs of offsets. -/
theorem vec2 {w : ℕ} {n : ℕ} (h : w = n) : (![w, 0] : Fin 2 → ℕ) = ![n, 0] := by rw [h]
/-- Equal first offsets make equal triples of offsets. -/
theorem vec3 {w : ℕ} {n : ℕ} (h : w = n) : (![w, 0, 0] : Fin 3 → ℕ) = ![n, 0, 0] := by rw [h]

/-! ## The offsets at a point of the grid -/

/-- The printed offset of the point's slot semaphore. -/
theorem off1_eq : ∀ t : Fin cfg0.N, k0_off1 (grid0.coords t) = ![(sl t.val).val] := by decide +kernel
/-- The printed offset of the point's slot, where it is waited for. -/
theorem off4_eq : ∀ t : Fin cfg0.N, k0_off4 (grid0.coords t) = ![(sl t.val).val, 0, 0] := by decide +kernel
/-- The printed offset of the point's slot, where it is read. -/
theorem off5_eq : ∀ t : Fin cfg0.N, k0_off5 (grid0.coords t) = ![(sl t.val).val, 0, 0] := by decide +kernel
/-- The printed offset of the semaphore of the slot filled next. -/
theorem off6_eq : ∀ t : Fin cfg0.N, k0_off6 (grid0.coords t) = ![(sl (t.val + 4)).val] := by decide +kernel
/-- The printed offset of the slot filled next. -/
theorem off7_eq : ∀ t : Fin cfg0.N, k0_off7 (grid0.coords t) = ![(sl (t.val + 4)).val, 0, 0] := by decide +kernel
/-- The printed offsets of the block fetched next. -/
theorem off8_eq : ∀ t : Fin cfg0.N, t.val + 4 < 16 →
    k0_off8 (grid0.coords t) = ![1024 * ((bl (t.val + 4)).val % 4), 2048 * ((bl (t.val + 4)).val / 4)] := by decide +kernel
/-- The printed offset of a tile's place in the send buffer. -/
theorem off9_eq (t : Fin cfg0.N) (n : ℕ) (h : n < 8) : k0_off9 (grid0.coords t) (BitVec.ofNat 32 n) = ![(D (8 * (t.val / 4) + n)).val, 0, 0] :=
  vec3 (tileW_val t n h)
/-- The printed offset of a peer's semaphore. -/
theorem off44_eq (c : Dev nD) (n : ℕ) (h : n < 32) : k0_off44 c (BitVec.ofNat 32 n) = ![(tgt c n).val] := vec1 (peerW_val c n h)
/-- The printed offset of the device's own semaphore. -/
theorem off45_eq (c : Dev nD) : k0_off45 c = ![c.val] := vec1 (selfW_val c)
/-- The printed offsets of the device's own row on the peer that it is sent to. -/
theorem off46_eq (c : Dev nD) : k0_off46 c = ![c.val, 0] := vec2 (selfW_val c)
/-- The printed offset of the device's own tile. -/
theorem off42_eq (c : Dev nD) : k0_off42 c = ![c.val, 0, 0] := vec3 (selfW_val c)
/-- The printed offset of the device's own row, where it is stored. -/
theorem off43_eq (c : Dev nD) : k0_off43 c = ![c.val, 0] := vec2 (selfW_val c)

/-! ## The conditions -/

/-- The printed test for the first grid point says just that. -/
theorem cond1_iff : ∀ t : Fin cfg0.N, k0_cond1 (grid0.coords t) = 1#1 ↔ t.val = 0 := by decide +kernel
/-- The printed test whether a block is left to fetch says just that. -/
theorem cond4_iff : ∀ t : Fin cfg0.N, k0_cond4 (grid0.coords t) = 1#1 ↔ t.val + 4 < 16 := by decide +kernel
/-- The printed test for the last point of a column group says just that. -/
theorem cond5_iff : ∀ t : Fin cfg0.N, k0_cond5 (grid0.coords t) = 1#1 ↔ t.val % 4 = 3 := by decide +kernel
/-- The printed test for the last column group says just that. -/
theorem cond15_iff : ∀ t : Fin cfg0.N, k0_cond15 (grid0.coords t) = 1#1 ↔ 12 ≤ t.val := by decide +kernel
/-- The printed tests on the two coordinates: the first column group, the first block of a column group, a later block. -/
theorem arg0_zero : ∀ t : Fin cfg0.N, Scalar.cmpi .ne (Scalar.extui (Scalar.cmpi .eq (BitVec.ofNat 32 (grid0.coords t 0).val) 0#32) : BitVec 32) 0#32 = 1#1 ↔ t.val < 4 := by decide +kernel
/-- The printed test for the first point of a column group says just that. -/
theorem arg1_zero : ∀ t : Fin cfg0.N, Scalar.cmpi .ne (Scalar.extui (Scalar.cmpi .eq (BitVec.ofNat 32 (grid0.coords t 1).val) 0#32) : BitVec 32) 0#32 = 1#1 ↔ t.val % 4 = 0 := by decide +kernel
/-- The printed test for a later point of a column group says just that. -/
theorem arg1_pos : ∀ t : Fin cfg0.N, Scalar.cmpi .ne (Scalar.extui (Scalar.cmpi .sgt (BitVec.ofNat 32 (grid0.coords t 1).val) 0#32) : BitVec 32) 0#32 = 1#1 ↔ ¬ t.val % 4 = 0 := by decide +kernel

example (t : Fin cfg0.N) : k0_off10 (grid0.coords t) = ![(D (8 * (t.val / 4) + 0)).val] := vec1 (tileW_val t _ (by decide))
example (t : Fin cfg0.N) : k0_off33 (grid0.coords t) = ![(D (8 * (t.val / 4) + 5)).val, 0, 0] := vec3 (tileW_val t _ (by decide))
example (t : Fin cfg0.N) (c) : k0_cond12 (grid0.coords t) c = 1#1 ↔ D (8 * (t.val / 4) + 5) ≠ c  := (otherW_iff t c _ (by decide))
example (t : Fin cfg0.N)  : k0_dev37 (grid0.coords t) = (D (8 * (t.val / 4) + 5)).val  := (tileW_dev t _ (by decide))

end Cert.KProof

end
-- ==== Proof.States.lean ====
/-
What a device holds between the points of the grid, piece by piece, and how the steps move each piece on.
-/
module

public import proofs.«01_k».proof.Proof.Off

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rearranging -/

/-- The third of four parts may be split, the rest of it put last. -/
theorem mid {X Y A A' B R : sProp 𝕄} (h : A' ⊢ iprop(A ∗ B)) : iprop(X ∗ Y ∗ A' ∗ R) ⊢ iprop(X ∗ Y ∗ A ∗ (B ∗ R)) := by
  iintro ⟨HX, HY, HA, HR⟩
  ihave H := h $$ HA
  icases H with ⟨HA, HB⟩
  isplitl [HX]; · iexact HX
  isplitl [HY]; · iexact HY
  isplitl [HA]; · iexact HA
  isplitl [HB] <;> iassumption
/-- The third part and the first of the last may be joined. -/
theorem mid' {X Y A A' B R : sProp 𝕄} (h : iprop(A ∗ B) ⊢ A') : iprop(X ∗ Y ∗ A ∗ (B ∗ R)) ⊢ iprop(X ∗ Y ∗ A' ∗ R) := by
  iintro ⟨HX, HY, HA, HB, HR⟩
  isplitl [HX]; · iexact HX
  isplitl [HY]; · iexact HY
  isplitr [HR]
  · iapply h; isplitl [HA] <;> iassumption
  · iexact HR

/-- A family over a set is one member and the others. -/
theorem bigSep_take {ι : Type} [DecidableEq ι] {S : Finset ι} {i : ι} {A : ι → sProp 𝕄} (h : i ∈ S) : bigSep S A = iprop(A i ∗ bigSep (S.erase i) A) :=
  bigSep_erase h
/-- A family over an interval is its last member and the others. -/
theorem top {A : ℕ → sProp 𝕄} {a b : ℕ} (h : a ≤ b) : bigSep (Finset.Ico a (b + 1)) A = iprop(A b ∗ bigSep (Finset.Ico a b) A) := bigSep_Ico_succ_top h A
/-- A family over an interval is its first member and the others. -/
theorem bot {A : ℕ → sProp 𝕄} {a b : ℕ} (h : a < b) : bigSep (Finset.Ico a b) A = iprop(A a ∗ bigSep (Finset.Ico (a + 1) b) A) := bigSep_Ico_succ_bot h A
/-- A family over an interval is any one member and the others. -/
theorem one {A : ℕ → sProp 𝕄} {a b : ℕ} (j : ℕ) (h : a ≤ j ∧ j < b) : bigSep (Finset.Ico a b) A = iprop(A j ∗ bigSep ((Finset.Ico a b).erase j) A) :=
  bigSep_take (Finset.mem_Ico.mpr h)
/-- A chain of pieces over `Ico a c` cut at `b`. -/
theorem emp0 {A : ℕ → sProp 𝕄} {a b : ℕ} (h : b ≤ a) : bigSep (Finset.Ico a b) A = iprop(emp) := by
  rw [Finset.Ico_eq_empty_of_le h, bigSep_empty]; rfl

/-- Pieces named by the device, counted from device 0, or from the device after `c`. -/
theorem over_all {A : Dev nD → sProp 𝕄} : bigSep (Finset.Ico 0 32) (fun n => A (D n)) = bigSep Finset.univ A := by
  rw [show (Finset.univ : Finset (Dev nD)) = (Finset.Ico 0 32).image D by decide +kernel]
  refine (bigSep_image_of_injOn ?_ A).symm
  intro a ha b hb e
  have ha := Finset.mem_Ico.mp ha; have hb := Finset.mem_Ico.mp hb
  have := congrArg Fin.val e; rw [D_val, D_val] at this; omega
/-- The other devices are the first to the 31st after `c`. -/
theorem others_image : ∀ c : Dev nD, (Finset.univ.erase c : Finset (Dev nD)) = (Finset.Ico 1 32).image (tgt c) := by decide +kernel
/-- A family over the first to the 31st device after `c` is one over the others. -/
theorem over_others (c : Dev nD) {A : Dev nD → sProp 𝕄} : bigSep (Finset.Ico 1 32) (fun n => A (tgt c n)) = bigSep (Finset.univ.erase c) A := by
  rw [others_image]
  refine (bigSep_image_of_injOn ?_ A).symm
  intro a ha b hb e
  have ha := Finset.mem_Ico.mp ha; have hb := Finset.mem_Ico.mp hb
  rw [← dist_tgt c a ha.2, ← dist_tgt c b hb.2, e]
/-- A family over all devices is the member at `c` and those at the 31 after it. -/
theorem all_others (c : Dev nD) {A : Dev nD → sProp 𝕄} : bigSep Finset.univ A = iprop(A c ∗ bigSep (Finset.Ico 1 32) (fun n => A (tgt c n))) := by
  rw [over_others, bigSep_take (Finset.mem_univ c)]

/-- A load that ends up unused: only that the place is held counts. -/
theorem load_ex {α : Type} {Q : α → sProp 𝕄} {c : Dev nD} {R : sProp 𝕄} {cs : CoreSpace} {s : Shape} {e : EltTy} {b : Memref sig .tc cs s e} {r : Rect s}
    {hl : b.view.LoadsAt r.toLoadRect} {k : (r.toLoadRect.shape.Idx → Elt F e) → Prog (TpuEff nD τ sig (Elt F) Λ₀ .tc) α}
    {hr : ∀ a, r.stride a = 1}
    (h : ∀ X, iprop((∃ X, owns (c : Thread nD τ) (b.slice r hr) fullShare X) ∗ R) ⊢ Wpc c (k X) Q) :
    iprop((∃ X, owns (c : Thread nD τ) (b.slice r hr) fullShare X) ∗ R) ⊢ Wpc c (Prog.lift (.load b r.toLoadRect hl) >>= k) Q := by
  iintro ⟨⟨%X, H⟩, HR⟩
  iapply (load_step (R := R) fullShare X (by
    iintro ⟨H, HR⟩
    iapply (h X)
    isplitl [H]; · iexists X; iexact H
    iexact HR))
  isplitl [H] <;> iassumption

/-! ## The weights' ring -/

/-- The credit for the `j`-th block. -/
def wCr (c : Dev nD) (j : ℕ) : sProp 𝕄 := cred (tallyAt (wC c (sl j)) () Nw)
/-- The position on the `j`-th block's cell, at the block's round. -/
def wPos (c : Dev nD) (j : ℕ) : sProp 𝕄 := iprop(atPos ER (wC c (sl j)) (j / 4) ∅ 0 ∗ reached ER (wC c (sl j)) (j / 4))
/-- The `j`-th block's slot, anything in it. -/
def wFree (c : Dev nD) (j : ℕ) : sProp 𝕄 := iprop(∃ X, owns (c : Thread nD τ) (wS (sl j)) fullShare X)
/-- Blocks up to `e` under way, up to `f` waited for, slots free for blocks `e …  g`. -/
def WS (c : Dev nD) (e f g : ℕ) : sProp 𝕄 :=
  iprop(bigSep (Finset.Ico e 16) (wTok m ρ c) ∗ bigSep (Finset.Ico f e) (wCr (F := F) c) ∗ bigSep (Finset.Ico 0 f) (gPt m ρ c)
    ∗ bigSep (Finset.Ico f (f + 4)) (wPos (F := F) c) ∗ bigSep (Finset.Ico e g) (wFree (F := F) c))

/-- That a block's round is reached may be kept and used. -/
theorem wPos_dup (c : Dev nD) (j : ℕ) : wPos (F := F) c j ⊢ iprop(reached ER (wC c (sl j)) (j / 4) ∗ wPos c j) := by
  unfold wPos
  iintro ⟨Ha, #Hr⟩
  isplitr; · iexact Hr
  isplitl [Ha]; · iexact Ha
  iexact Hr

/-- Starting the copy of block `e` takes its duty and its free slot. -/
theorem w_enq {α : Type} {Q : α → sProp 𝕄} {c : Dev nD} {R : sProp 𝕄} (e f g : ℕ) (he : e < 16) (hfe : f ≤ e) (hef : e < f + 4) (heg : e < g)
    {offs : Fin 2 → ℕ} {offd : Fin 3 → ℕ} {offm : Fin 1 → ℕ}
    (hs : offs = ![1024 * ((bl e).val % 4), 2048 * ((bl e).val / 4)]) (hd : offd = ![(sl e).val, 0, 0]) (hm : offm = ![(sl e).val])
    {ibs : ∀ a, offs a + S1024x2048.size a ≤ S4096x8192.size a} {ibd : ∀ a, offd a + S1x1024x2048.size a ≤ S4x1024x2048.size a}
    {ibm : ∀ a, offm a + S1.size a ≤ S4.size a} {h1 h2 h3}
    {k : PUnit → Prog (TpuEff nD τ sig (Elt F) Λ₀ .tc) α}
    (h : iprop(RL m ρ ∗ WS m ρ c (e + 1) f g ∗ R) ⊢ Wpc c (k ⟨⟩) Q) :
    iprop(RL m ρ ∗ WS m ρ c e f g ∗ R) ⊢ Wpc c
      (Prog.lift (.enqueueDma ((gM : Memref sig .tc .hbm S4096x8192 .f32).slice (Rect.unit offs S1024x2048.size ibs) (fun _ => rfl))
        (.here (((wM : Memref sig .tc .vmem S4x1024x2048 .f32).slice (Rect.unit offd S1x1024x2048.size ibd) (fun _ => rfl)).squeeze S1024x2048 squeezes_S1x1024x2048_S1024x2048))
        (.dma ((cc0_scratch8.slice (Rect.unit (s := S4) offm S1.size ibm)).squeeze S_ squeezes_S1_S_).sem) h1 h2 h3) >>= k) Q := by
  refine pre_step (P' := iprop(RL m ρ ∗ (wTok m ρ c e ∗ reached ER (wC c (sl e)) (e / 4) ∗ wFree c e)
      ∗ (bigSep (Finset.Ico (e + 1) 16) (wTok m ρ c) ∗ bigSep (Finset.Ico f e) (wCr c) ∗ bigSep (Finset.Ico 0 f) (gPt m ρ c)
        ∗ bigSep (Finset.Ico f (f + 4)) (wPos c) ∗ bigSep (Finset.Ico (e + 1) g) (wFree c)) ∗ R)) ?_ ?_
  · unfold WS
    rw [bot (A := wTok m ρ c) he, bot (A := wFree c) heg, one (A := wPos c) e ⟨hfe, hef⟩]
    iintro ⟨HRL, ⟨⟨Ht, Hts⟩, Hc, Hg, ⟨Hp, Hps⟩, Hf, Hfs⟩, HR⟩
    ihave H := (wPos_dup c e) $$ Hp
    icases H with ⟨#Hr, Hp⟩
    isplitl [HRL]; · iexact HRL
    isplitl [Ht Hf]
    · isplitl [Ht]; · iexact Ht
      isplitr; · iexact Hr
      iexact Hf
    isplitr [HR]
    · isplitl [Hts]; · iexact Hts
      isplitl [Hc]; · iexact Hc
      isplitl [Hg]; · iexact Hg
      isplitr [Hfs]
      · isplitl [Hp]; · iexact Hp
        iexact Hps
      · iexact Hfs
    iexact HR
  refine wcopy_step m ρ e he hs hd hm ?_
  refine pre_step ?_ h
  unfold WS
  rw [top (A := wCr c) hfe]
  iintro ⟨HRL, Hc, ⟨Hts, Hcs, Hg, Hps, Hfs⟩, HR⟩
  isplitl [HRL]; · iexact HRL
  isplitr [HR]
  · isplitl [Hts]; · iexact Hts
    isplitl [Hc Hcs]
    · isplitl [Hc]; · (unfold wCr; iexact Hc)
      iexact Hcs
    isplitl [Hg]; · iexact Hg
    isplitl [Hps]; · iexact Hps
    iexact Hfs
  iexact HR

/-- Four blocks later the slot is the same. -/
theorem sl_4 (j : ℕ) : sl (j + 4) = sl j := Fin.ext (by rw [sl_val, sl_val]; omega)
/-- Four blocks later the round is the next. -/
theorem div_4 (j : ℕ) : (j + 4) / 4 = j / 4 + 1 := by omega

/-- Waiting for block `f` hands over its slot with the block in it. -/
theorem w_wait {α : Type} {Q : α → sProp 𝕄} {c : Dev nD} {R : sProp 𝕄} (e f g : ℕ) (hf : f < 16) (hfe : f < e) {a b d : ℕ}
    {offs : Fin 2 → ℕ} {offd : Fin 3 → ℕ} {offm : Fin 1 → ℕ} (hm : offm = ![(sl f).val])
    {ibs : ∀ a, offs a + S1024x2048.size a ≤ S4096x8192.size a} {ibd : ∀ a, offd a + S1x1024x2048.size a ≤ S4x1024x2048.size a}
    {ibm : ∀ a, offm a + S1.size a ≤ S4.size a} {h1 h2}
    {k : PUnit → Prog (TpuEff nD τ sig (Elt F) Λ₀ .tc) α}
    (h : iprop(owns (c : Thread nD τ) (wS (sl f)) fullShare (wBlk m ρ c f) ∗ (RL m ρ ∗ Ow c a b d ∗ WS m ρ c e (f + 1) g ∗ R)) ⊢ Wpc c (k ⟨⟩) Q) :
    iprop(RL m ρ ∗ Ow c a b d ∗ WS m ρ c e f g ∗ R) ⊢ Wpc c
      (Prog.lift (.waitDma2 ((cc0_scratch8.slice (Rect.unit (s := S4) offm S1.size ibm)).squeeze S_ squeezes_S1_S_).sem
        ((gM : Memref sig .tc .hbm S4096x8192 .f32).slice (Rect.unit offs S1024x2048.size ibs) (fun _ => rfl))
        (((wM : Memref sig .tc .vmem S4x1024x2048 .f32).slice (Rect.unit offd S1x1024x2048.size ibd) (fun _ => rfl)).squeeze S1024x2048 squeezes_S1x1024x2048_S1024x2048) h1 h2) >>= k) Q := by
  refine pre_step (P' := iprop(RL m ρ ∗ Ow c a b d ∗ (cred (tallyAt (wC c (sl f)) () Nw) ∗ atPos ER (wC c (sl f)) (f / 4) ∅ 0)
      ∗ (bigSep (Finset.Ico e 16) (wTok m ρ c) ∗ bigSep (Finset.Ico (f + 1) e) (wCr c) ∗ bigSep (Finset.Ico 0 f) (gPt m ρ c)
        ∗ bigSep (Finset.Ico (f + 1) (f + 4)) (wPos c) ∗ bigSep (Finset.Ico e g) (wFree c)) ∗ R)) ?_ ?_
  · unfold WS
    rw [bot (A := wCr c) hfe, bot (A := wPos c) (show f < f + 4 by omega)]
    iintro ⟨HRL, HO, ⟨Hts, ⟨Hc, Hcs⟩, Hg, ⟨Hp, Hps⟩, Hfs⟩, HR⟩
    unfold wPos wCr
    icases Hp with ⟨Hp, -⟩
    isplitl [HRL]; · iexact HRL
    isplitl [HO]; · iexact HO
    isplitl [Hc Hp]
    · isplitl [Hc]; · iexact Hc
      iexact Hp
    isplitr [HR]
    · isplitl [Hts]; · iexact Hts
      isplitl [Hcs]; · iexact Hcs
      isplitl [Hg]; · iexact Hg
      isplitl [Hps]; · iexact Hps
      iexact Hfs
    iexact HR
  refine wwait_step m ρ f hf hm ?_
  refine pre_step ?_ h
  unfold WS
  rw [top (A := gPt m ρ c) (Nat.zero_le f), show f + 1 + 4 = f + 4 + 1 from rfl, top (A := wPos c) (show f + 1 ≤ f + 4 by omega)]
  have hp : wPos (F := F) c (f + 4) = iprop(atPos ER (wC c (sl f)) (f / 4 + 1) ∅ 0 ∗ reached ER (wC c (sl f)) (f / 4 + 1)) := by unfold wPos; rw [sl_4, div_4]
  rw [hp]
  iintro ⟨HRL, HO, ⟨Hp, Ho, Hgf⟩, ⟨Hts, Hcs, Hg, Hps, Hfs⟩, HR⟩
  isplitl [Ho]; · iexact Ho
  isplitl [HRL]; · iexact HRL
  isplitl [HO]; · iexact HO
  isplitr [HR]
  · isplitl [Hts]; · iexact Hts
    isplitl [Hcs]; · iexact Hcs
    isplitl [Hg Hgf]
    · isplitl [Hgf] <;> iassumption
    isplitl [Hps Hp]
    · isplitl [Hp] <;> iassumption
    iexact Hfs
  iexact HR

/-- A slot read is free for the block four on. -/
theorem w_free (c : Dev nD) (e f : ℕ) (X) (he : e ≤ f + 4) :
    iprop(owns (c : Thread nD τ) (wS (sl f)) fullShare X ∗ WS m ρ c e (f + 1) (f + 4)) ⊢ WS m ρ c e (f + 1) (f + 5) := by
  unfold WS
  rw [show f + 5 = f + 4 + 1 from rfl, top (A := wFree c) he]
  have hw : wFree (F := F) c (f + 4) = iprop(∃ X, owns (c : Thread nD τ) (wS (sl f)) fullShare X) := by unfold wFree; rw [sl_4]
  rw [hw]
  iintro ⟨Ho, Hts, Hcs, Hg, Hps, Hfs⟩
  isplitl [Hts]; · iexact Hts
  isplitl [Hcs]; · iexact Hcs
  isplitl [Hg]; · iexact Hg
  isplitl [Hps]; · iexact Hps
  isplitl [Ho]
  · iexists X; iexact Ho
  iexact Hfs

/-! ## The tiles -/

/-- What tile `u` spends when it is sent, and its place in the send buffer. -/
def dPre (c : Dev nD) (u : ℕ) : sProp 𝕄 :=
  iprop((if D u = c then iprop(emp) else datTok c (D u)) ∗ ∃ X, owns (c : Thread nD τ) (sT (D u)) fullShare X)
/-- What is left of tile `u` once stored: the tile if it is the device's own, else the credit for its sending. -/
def dPost (c : Dev nD) (u : ℕ) : sProp 𝕄 :=
  if D u = c then owns (c : Thread nD τ) (sT c) fullShare (tile m ρ c c) else cred (tallyAt (ds c (D u)) () Nt)
/-- The tiles up to `u` stored and sent. -/
def DT (c : Dev nD) (u : ℕ) : sProp 𝕄 := iprop(bigSep (Finset.Ico u 32) (dPre (F := F) c) ∗ bigSep (Finset.Ico 0 u) (dPost m ρ c))

/-- Storing tile `u`, and sending it unless it is the device's own, moves the state of the tiles on by one. -/
theorem tile_step {α : Type} {Q : α → sProp 𝕄} {c : Dev nD} {R : sProp 𝕄} (u : ℕ) (hu : u < 32)
    {offt : Fin 3 → ℕ} (ho : offt = ![(D u).val, 0, 0]) {ibt : ∀ a, offt a + S1x128x256.size a ≤ S32x128x256.size a} {hl hx hmm}
    {w : FVec F S1x128x256 .bf16} (hw : w = tile m ρ c (D u))
    {C : Prop} {inst : Decidable C} (hC : C ↔ D u ≠ c)
    {rest : Prog (TpuEff nD τ sig (Elt F) Λ₀ .tc) α} {B : C → Prog (TpuEff nD τ sig (Elt F) Λ₀ .tc) α}
    (hB : ∀ (hC : C) (hc : D u ≠ c) {R : sProp 𝕄}, (iprop(RL m ρ ∗ Ow c 32 (u + 1) 1 ∗ cred (tallyAt (ds c (D u)) () Nt) ∗ R) ⊢ Wpc c rest Q) →
      (iprop(RL m ρ ∗ Ow c 32 u 1 ∗ (datTok c (D u) ∗ owns (c : Thread nD τ) (sT (D u)) fullShare (tile m ρ c (D u))) ∗ R) ⊢ Wpc c (B hC) Q))
    (h : iprop(RL m ρ ∗ Ow c 32 (u + 1) 1 ∗ DT m ρ c (u + 1) ∗ R) ⊢ Wpc c rest Q) :
    iprop(RL m ρ ∗ Ow c 32 u 1 ∗ DT m ρ c u ∗ R) ⊢ Wpc c
      (Prog.lift (.load (sbM : Memref sig .tc .vmem S32x128x256 .bf16) (Rect.unit (s := S32x128x256) offt S1x128x256.size ibt).toLoadRect hl) >>= fun _ =>
        Prog.lift (.store (sbM : Memref sig .tc .vmem S32x128x256 .bf16) (Rect.unit (s := S32x128x256) offt S1x128x256.size ibt) w Finset.univ hx hmm) >>= fun _ =>
        @dite _ C inst B (fun _ => rest)) Q := by
  subst ho hw
  refine pre_step (P' := iprop((∃ X, owns (c : Thread nD τ) (sT (D u)) fullShare X) ∗ (RL m ρ ∗ Ow c 32 u 1
      ∗ (if D u = c then iprop(emp) else datTok c (D u)) ∗ (bigSep (Finset.Ico (u + 1) 32) (dPre c) ∗ bigSep (Finset.Ico 0 u) (dPost m ρ c)) ∗ R))) ?_ ?_
  · unfold DT
    rw [bot (A := dPre c) hu, dPre]
    iintro ⟨HRL, HO, ⟨⟨⟨Ht, Hs⟩, Hts⟩, Hps⟩, HR⟩
    isplitl [Hs]; · iexact Hs
    isplitl [HRL]; · iexact HRL
    isplitl [HO]; · iexact HO
    isplitl [Ht]; · iexact Ht
    isplitr [HR]
    · isplitl [Hts] <;> iassumption
    iexact HR
  refine load_ex (b := sbM) (r := rT (D u)) fun X => ?_
  refine store_step (b := sbM) (r := rT (D u)) ?_
  by_cases hc : D u = c
  · rw [dif_neg (fun h => hC.mp h hc), if_pos hc]
    refine pre_step ?_ h
    unfold DT
    rw [top (A := dPost m ρ c) (Nat.zero_le u), dPost, if_pos hc]
    have hO : Owe c 32 u 1 = Owe c 32 (u + 1) 1 := Owe_own c 32 u 1 hu hc
    unfold Ow
    rw [hO, hc]
    iintro ⟨Hs, HRL, HO, -, ⟨Hts, Hps⟩, HR⟩
    isplitl [HRL]; · iexact HRL
    isplitl [HO]; · iexact HO
    isplitr [HR]
    · isplitl [Hts]; · iexact Hts
      isplitl [Hs] <;> iassumption
    iexact HR
  · rw [dif_pos (hC.mpr hc), if_neg hc]
    refine pre_step (P' := iprop(RL m ρ ∗ Ow c 32 u 1 ∗ (datTok c (D u) ∗ owns (c : Thread nD τ) (sT (D u)) fullShare (tile m ρ c (D u)))
      ∗ (bigSep (Finset.Ico (u + 1) 32) (dPre c) ∗ bigSep (Finset.Ico 0 u) (dPost m ρ c)) ∗ R)) ?_ ?_
    · iintro ⟨Hs, HRL, HO, Ht, Hx, HR⟩
      isplitl [HRL]; · iexact HRL
      isplitl [HO]; · iexact HO
      isplitl [Ht Hs]
      · isplitl [Ht] <;> iassumption
      isplitl [Hx] <;> iassumption
    refine hB (hC.mpr hc) hc ?_
    refine pre_step ?_ h
    unfold DT
    rw [top (A := dPost m ρ c) (Nat.zero_le u), dPost, if_neg hc]
    iintro ⟨HRL, HO, Hc, ⟨Hts, Hps⟩, HR⟩
    isplitl [HRL]; · iexact HRL
    isplitl [HO]; · iexact HO
    isplitr [HR]
    · isplitl [Hts]; · iexact Hts
      isplitl [Hc] <;> iassumption
    iexact HR

end Cert.KProof

end
-- ==== Proof.End.lean ====
/-
The last point of the grid: the exchange of the rows, the waits for the tiles, the blocks of the result, the last waits.
-/
module

public import proofs.«01_k».proof.Proof.States

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rearranging at once -/

instance sepComm : _root_.Std.Commutative (α := sProp 𝕄) BIBase.sep := ⟨fun P Q => _root_.Std.Commutative.comm (op := fun P Q : sProp 𝕄 => BI.sep P Q) P Q⟩
instance sepAssoc : _root_.Std.Associative (α := sProp 𝕄) BIBase.sep := ⟨fun P Q R => _root_.Std.Associative.assoc (op := fun P Q : sProp 𝕄 => BI.sep P Q) P Q R⟩

/-- Before a step: the pieces in another order. -/
theorem ac_step {α : Type} {Q : α → sProp 𝕄} {c : Dev nD} {P P' : sProp 𝕄} {p : Prog (TpuEff nD τ sig (Elt F) Λ₀ .tc) α} (h : P = P')
    (h' : P' ⊢ Wpc c p Q) : P ⊢ Wpc c p Q := h ▸ h'

/-! ## The sendings of the row -/

/-- The row sent to the places before `n`. -/
def AM (c : Dev nD) (n : ℕ) : sProp 𝕄 := iprop(bigSep (Finset.Ico n 32) (amTok m ρ c) ∗ bigSep (Finset.Ico 1 n) (amCred (F := F) c))

/-- Sending the row to the `n`-th device after `c` moves the state of the rows on by one. -/
theorem am_send {α : Type} {Q : α → sProp 𝕄} {c : Dev nD} {R : sProp 𝕄} (n : ℕ) (h1 : 1 ≤ n) (h2 : n < 32) {a b : ℕ} {dst : Dev nD} (hdst : dst = tgt c n)
    {offd : Fin 2 → ℕ} {offp offq : Fin 1 → ℕ} (hd : offd = ![c.val, 0]) (hp : offp = ![(tgt c n).val]) (hq : offq = ![c.val])
    {ibd : ∀ a, offd a + S1x128.size a ≤ S32x128.size a}
    {ibp : ∀ a, offp a + S1.size a ≤ S32.size a} {ibq : ∀ a, offq a + S1.size a ≤ S32.size a} {g1 g2 g3 g4}
    {k : PUnit → Prog (TpuEff nD τ sig (Elt F) Λ₀ .tc) α}
    (h : iprop(RL m ρ ∗ Ow c a b (n + 1) ∗ AM m ρ c (n + 1) ∗ R) ⊢ Wpc c (k ⟨⟩) Q) :
    iprop(RL m ρ ∗ Ow c a b n ∗ AM m ρ c n ∗ R) ⊢ Wpc c
      (Prog.lift (.enqueueDma (asR : Memref sig .tc .vmem S1x128 .f32)
        (.remote (dst : Thread nD τ) ((arM : Memref sig .tc .vmem S32x128 .f32).slice (Rect.unit offd S1x128.size ibd) (fun _ => rfl))
          (.dma ((cc0_scratch11.slice (Rect.unit (s := S32) offp S1.size ibp)).squeeze S_ squeezes_S1_S_).sem) g1)
        (.dma ((cc0_scratch12.slice (Rect.unit (s := S32) offq S1.size ibq)).squeeze S_ squeezes_S1_S_).sem) g2 g3 g4) >>= k) Q := by
  refine ac_step (P' := iprop(RL m ρ ∗ Ow c a b n ∗ amTok m ρ c n ∗ (bigSep (Finset.Ico (n + 1) 32) (amTok m ρ c) ∗ bigSep (Finset.Ico 1 n) (amCred c) ∗ R))) ?_
    (asend_step m ρ n h1 h2 hdst hd hp hq (ac_step ?_ h))
  · unfold AM; rw [bot h2]; ac_rfl
  · unfold AM; rw [top h1]; ac_rfl

/-! ## The waits for every other device -/

/-- Of the cells `q` names for the other devices, those before place `k` waited for. -/
def Wt (q : Dev nD → DmaSem sig) (N : ℕ) (pay : Dev nD → sProp 𝕄) (c : Dev nD) (k : ℕ) : sProp 𝕄 :=
  iprop(bigSep (Finset.Ico k 32) (fun n => iprop(cred (tallyAt ((c : Thread nD τ), .dma (q (tgt c n))) () N) ∗ atPos ER ((c : Thread nD τ), .dma (q (tgt c n))) 0 ∅ 0))
    ∗ bigSep (Finset.Ico 1 k) (fun n => iprop(semVal ((c : Thread nD τ), .dma (q (tgt c n))) 0 ∗ pay (tgt c n))))

/-- The positions at the start of the cells `q` names for the other devices, and their counters closed. -/
def Pos (q : Dev nD → DmaSem sig) (c : Dev nD) : sProp 𝕄 := bigSep (Finset.Ico 1 32) (fun n => atPos ER ((c : Thread nD τ), .dma (q (tgt c n))) 0 ∅ 0)
/-- The credits on the cells that `q` names for the other devices. -/
def Crd (q : Dev nD → DmaSem sig) (N : ℕ) (c : Dev nD) : sProp 𝕄 := bigSep (Finset.Ico 1 32) (fun n => cred (tallyAt ((c : Thread nD τ), .dma (q (tgt c n))) () N))
/-- The counters of the cells that `q` names for the other devices, at zero. -/
def SV (q : Dev nD → DmaSem sig) (c : Dev nD) : sProp 𝕄 := bigSep (Finset.Ico 1 32) (fun n => semVal ((c : Thread nD τ), .dma (q (tgt c n))) 0)

/-- Credits and positions are the state before the first wait. -/
theorem wt_start (q : Dev nD → DmaSem sig) (N : ℕ) (pay : Dev nD → sProp 𝕄) (c : Dev nD) : iprop(Crd (F := F) q N c ∗ Pos q c) = Wt q N pay c 1 := by
  unfold Wt Crd Pos
  rw [emp0 (le_refl 1), ← bigSep_sep']
  exact (sep_emp_eq _).symm
/-- After the last wait the counters are at zero and every payload is there. -/
theorem wt_done (q : Dev nD → DmaSem sig) (N : ℕ) (pay : Dev nD → sProp 𝕄) (c : Dev nD) :
    Wt q N pay c 32 = iprop(SV q c ∗ bigSep (Finset.Ico 1 32) (fun n => pay (tgt c n))) := by
  unfold Wt SV
  rw [emp0 (le_refl 32), ← bigSep_sep']
  exact emp_sep_eq _

/-- One wait moves the state of the waits on by one. -/
theorem wt_step (qf : Dev nD → DmaSem sig) (hq : ∀ t, ¬ (qf t).val < 6) (hqt : ∀ t, D ((qf t).val - 6) = t) (N : ℕ) (pay : Dev nD → Dev nD → sProp 𝕄)
    (hN : ∀ (c t : Dev nD) d, (rd (F := F) m ρ).amount ((c : Thread nD τ), .dma (qf t)) 0 d = N)
    (hpay : ∀ (c t : Dev nD), (rd (F := F) m ρ).payload ((c : Thread nD τ), .dma (qf t)) 0 0 = pay c t)
    {α : Type} {Q : α → sProp 𝕄} {c : Dev nD} {R : sProp 𝕄} (n : ℕ) (h1 : 1 ≤ n) (h2 : n < 32)
    {sp sp' : Space} {s s' : Shape} {e e' : EltTy} {src : Memref sig .tc sp' s' e'} {dst : Memref sig .tc sp s e} (hd : dst.view.dmaCredit = N)
    {q' : DmaSem sig} (he : q' = qf (tgt c n)) {g1 g2}
    {k : PUnit → Prog (TpuEff nD τ sig (Elt F) Λ₀ .tc) α}
    (h : iprop(RL m ρ ∗ Ow c 32 32 32 ∗ Wt qf N (pay c) c (n + 1) ∗ R) ⊢ Wpc c (k ⟨⟩) Q) :
    iprop(RL m ρ ∗ Ow c 32 32 32 ∗ Wt qf N (pay c) c n ∗ R) ⊢ Wpc c (Prog.lift (.waitDma2 q' src dst g1 g2) >>= k) Q := by
  refine ac_step ?_ (xwait_step m ρ (qf (tgt c n)) (hq _) (tgt c n) (hqt _) (tgt_ne c n h1 h2) N (fun d => hN c _ d) (pay c (tgt c n)) (hpay c _) hd he
    (R := iprop(bigSep (Finset.Ico (n + 1) 32) (fun n => iprop(cred (tallyAt ((c : Thread nD τ), .dma (qf (tgt c n))) () N) ∗ atPos ER ((c : Thread nD τ), .dma (qf (tgt c n))) 0 ∅ 0))
      ∗ bigSep (Finset.Ico 1 n) (fun n => iprop(semVal ((c : Thread nD τ), .dma (qf (tgt c n))) 0 ∗ pay c (tgt c n))) ∗ R)) (ac_step ?_ h))
  · unfold Wt; rw [bot h2]; ac_rfl
  · unfold Wt; rw [top h1]; ac_rfl

/-- The device that a tile's send semaphore is for. -/
theorem ds_ix (t : Dev nD) : D ((dsSem t).val - 6) = t := dsIx t
/-- A row's send semaphore is not one of the ring's. -/
theorem as_lo (t : Dev nD) : ¬ (asSem t).val < 6 := by have := ac_lo t; omega
/-- A tile's receive semaphore is not one of the ring's. -/
theorem dr_lo' (t : Dev nD) : ¬ (drSem t).val < 6 := by have := dr_lo t; omega
/-- A row's receive semaphore is not one of the ring's. -/
theorem ar_lo' (t : Dev nD) : ¬ (arSem t).val < 6 := by have := ar_lo t; omega

section
variable {α : Type} {Q : α → sProp 𝕄} {c : Dev nD} {R : sProp 𝕄}
/-- The waits for the rows, for the tiles, and for the sendings of both. -/
abbrev War (c : Dev nD) (n : ℕ) : sProp 𝕄 := Wt arSem Na (arPay m ρ c) c n
/-- Of the arrivals of tiles, those before place `n` waited for. -/
abbrev Wdr (c : Dev nD) (n : ℕ) : sProp 𝕄 := Wt drSem Nt (drPay m ρ c) c n
/-- Of the sendings of tiles, those before place `n` waited for. -/
abbrev Wds (c : Dev nD) (n : ℕ) : sProp 𝕄 := Wt dsSem Nt (dsPay (F := F) c) c n
/-- Of the sendings of the row, those before place `n` waited for. -/
abbrev Was (c : Dev nD) (n : ℕ) : sProp 𝕄 := Wt asSem Na (asPay m ρ c) c n
end

/-- The wait for the row from the `n`-th device after `c`. -/
theorem ar_wait {α : Type} {Q : α → sProp 𝕄} {c : Dev nD} {R : sProp 𝕄} (n : ℕ) (h1 : 1 ≤ n) (h2 : n < 32)
    {off : Fin 1 → ℕ} {ib : ∀ a, off a + S1.size a ≤ S32.size a} (ho : off = ![(tgt c n).val])
    {sp' : Space} {s' : Shape} {e' : EltTy} {src : Memref sig .tc sp' s' e'} {offd : Fin 2 → ℕ} {ibd : ∀ a, offd a + S1x128.size a ≤ S32x128.size a} {g1 g2}
    {k : PUnit → Prog (TpuEff nD τ sig (Elt F) Λ₀ .tc) α}
    (h : iprop(RL m ρ ∗ Ow c 32 32 32 ∗ War m ρ c (n + 1) ∗ R) ⊢ Wpc c (k ⟨⟩) Q) :
    iprop(RL m ρ ∗ Ow c 32 32 32 ∗ War m ρ c n ∗ R) ⊢ Wpc c (Prog.lift (.waitDma2 ((cc0_scratch12.slice (Rect.unit (s := S32) off S1.size ib)).squeeze S_ squeezes_S1_S_).sem
      src ((arM : Memref sig .tc .vmem S32x128 .f32).slice (Rect.unit offd S1x128.size ibd) (fun _ => rfl)) g1 g2) >>= k) Q := by
  refine wt_step m ρ arSem ar_lo' arIx Na (arPay m ρ) (fun c t d => amount_ar m ρ c t 0 d) (fun c t => payload_ar m ρ c t 0 0) n h1 h2 ?_ (arSem_eq _ off ib ho) h
  rfl

/-- The wait for the tile from the `n`-th device after `c`. -/
theorem dr_wait {α : Type} {Q : α → sProp 𝕄} {c : Dev nD} {R : sProp 𝕄} (n : ℕ) (h1 : 1 ≤ n) (h2 : n < 32)
    {off : Fin 1 → ℕ} {ib : ∀ a, off a + S1.size a ≤ S32.size a} (ho : off = ![(tgt c n).val])
    {sp' : Space} {s' : Shape} {e' : EltTy} {src : Memref sig .tc sp' s' e'} {offd : Fin 3 → ℕ} {ibd : ∀ a, offd a + S1x128x256.size a ≤ S32x128x256.size a} {g1 g2}
    {k : PUnit → Prog (TpuEff nD τ sig (Elt F) Λ₀ .tc) α}
    (h : iprop(RL m ρ ∗ Ow c 32 32 32 ∗ Wdr m ρ c (n + 1) ∗ R) ⊢ Wpc c (k ⟨⟩) Q) :
    iprop(RL m ρ ∗ Ow c 32 32 32 ∗ Wdr m ρ c n ∗ R) ⊢ Wpc c (Prog.lift (.waitDma2 ((cc0_scratch10.slice (Rect.unit (s := S32) off S1.size ib)).squeeze S_ squeezes_S1_S_).sem
      src ((rbM : Memref sig .tc .vmem S32x128x256 .bf16).slice (Rect.unit offd S1x128x256.size ibd) (fun _ => rfl)) g1 g2) >>= k) Q := by
  refine wt_step m ρ drSem dr_lo' drIx Nt (drPay m ρ) (fun c t d => amount_dr m ρ c t 0 d) (fun c t => payload_dr m ρ c t 0 0) n h1 h2 ?_ (drSem_eq _ off ib ho) h
  rfl

/-- The wait for the sending of the tile to the `n`-th device after `c`. -/
theorem ds_wait {α : Type} {Q : α → sProp 𝕄} {c : Dev nD} {R : sProp 𝕄} (n : ℕ) (h1 : 1 ≤ n) (h2 : n < 32)
    {off : Fin 1 → ℕ} {ib : ∀ a, off a + S1.size a ≤ S32.size a} (ho : off = ![(tgt c n).val])
    {sp' : Space} {s' : Shape} {e' : EltTy} {src : Memref sig .tc sp' s' e'} {offd : Fin 3 → ℕ} {ibd : ∀ a, offd a + S1x128x256.size a ≤ S32x128x256.size a} {g1 g2}
    {k : PUnit → Prog (TpuEff nD τ sig (Elt F) Λ₀ .tc) α}
    (h : iprop(RL m ρ ∗ Ow c 32 32 32 ∗ Wds c (n + 1) ∗ R) ⊢ Wpc c (k ⟨⟩) Q) :
    iprop(RL m ρ ∗ Ow c 32 32 32 ∗ Wds c n ∗ R) ⊢ Wpc c (Prog.lift (.waitDma2 ((cc0_scratch9.slice (Rect.unit (s := S32) off S1.size ib)).squeeze S_ squeezes_S1_S_).sem
      src ((sbM : Memref sig .tc .vmem S32x128x256 .bf16).slice (Rect.unit offd S1x128x256.size ibd) (fun _ => rfl)) g1 g2) >>= k) Q := by
  refine wt_step m ρ dsSem ds_lo dsIx Nt dsPay (fun c t d => amount_ds m ρ c t 0 d) (fun c t => payload_ds m ρ c t 0 0) n h1 h2 ?_ (dsSem_eq _ off ib ho) h
  rfl

/-- The wait for the sending of the row to the `n`-th device after `c`. -/
theorem as_wait {α : Type} {Q : α → sProp 𝕄} {c : Dev nD} {X R : sProp 𝕄} (n : ℕ) (h1 : 1 ≤ n) (h2 : n < 32)
    {off : Fin 1 → ℕ} {ib : ∀ a, off a + S1.size a ≤ S32.size a} (ho : off = ![(tgt c n).val])
    {sp' : Space} {s' : Shape} {e' : EltTy} {src : Memref sig .tc sp' s' e'} {offd : Fin 2 → ℕ} {ibd : ∀ a, offd a + S1x128.size a ≤ S8x128.size a} {g1 g2}
    {k : PUnit → Prog (TpuEff nD τ sig (Elt F) Λ₀ .tc) α}
    (h : iprop(RL m ρ ∗ Ow c 32 32 32 ∗ X ∗ Was m ρ c (n + 1) ∗ R) ⊢ Wpc c (k ⟨⟩) Q) :
    iprop(RL m ρ ∗ Ow c 32 32 32 ∗ X ∗ Was m ρ c n ∗ R) ⊢ Wpc c (Prog.lift (.waitDma2 ((cc0_scratch11.slice (Rect.unit (s := S32) off S1.size ib)).squeeze S_ squeezes_S1_S_).sem
      src ((asM : Memref sig .tc .vmem S8x128 .f32).slice (Rect.unit offd S1x128.size ibd) (fun _ => rfl)) g1 g2) >>= k) Q := by
  refine ac_step (P' := iprop(RL m ρ ∗ Ow c 32 32 32 ∗ Was m ρ c n ∗ (X ∗ R))) (by ac_rfl) ?_
  refine wt_step m ρ asSem as_lo acIx Na (asPay m ρ) (fun c t d => amount_ac m ρ c t 0 d) (fun c t => payload_ac m ρ c t 0 0) n h1 h2 ?_ (asSem_eq _ off ib ho)
    (ac_step (by ac_rfl) h)
  rfl

/-! ## The tiles received and the blocks of the result -/

/-- The received tiles, all there: at place `s` what device `s` computed for `c`. -/
def RV (c : Dev nD) : sProp 𝕄 := bigSep (Finset.Ico 0 32) (fun s => owns (c : Thread nD τ) (rvT (D s)) fullShare (tile m ρ (D s) c))
/-- Device `s`'s rows of the result, anything in them. -/
def outPre (c : Dev nD) (a4 : Memref sig .tc .vmem S4096x256 .f32) (s : ℕ) : sProp 𝕄 := iprop(∃ X, owns (c : Thread nD τ) (a4.slice (rO (D s)) (fun _ => rfl)) fullShare X)
/-- Device `s`'s rows of the result, written. -/
def outPost (c : Dev nD) (a4 : Memref sig .tc .vmem S4096x256 .f32) (s : ℕ) : sProp 𝕄 := owns (c : Thread nD τ) (a4.slice (rO (D s)) (fun _ => rfl)) fullShare (outT m ρ c (D s))
/-- The result with the rows of the devices before `o` written. -/
def OUT (c : Dev nD) (a4 : Memref sig .tc .vmem S4096x256 .f32) (o : ℕ) : sProp 𝕄 :=
  iprop(bigSep (Finset.Ico o 32) (outPre (F := F) c a4) ∗ bigSep (Finset.Ico 0 o) (outPost m ρ c a4))

/-- Loading the tile from device `o` reads what that device computed for `c`. -/
theorem rv_load {α : Type} {Q : α → sProp 𝕄} {c : Dev nD} {R : sProp 𝕄} {a4 : Memref sig .tc .vmem S4096x256 .f32} (o : ℕ) (ho : o < 32)
    {off : Fin 3 → ℕ} (he : off = ![(D o).val, 0, 0]) {ib : ∀ a, off a + S1x128x256.size a ≤ S32x128x256.size a} {hl}
    {k : Vec F S1x128x256 .bf16 → Prog (TpuEff nD τ sig (Elt F) Λ₀ .tc) α}
    (h : iprop(OUT m ρ c a4 o ∗ RV m ρ c ∗ R) ⊢ Wpc c (k (tile m ρ (D o) c)) Q) :
    iprop(OUT m ρ c a4 o ∗ RV m ρ c ∗ R) ⊢ Wpc c
      (Prog.lift (.load (rbM : Memref sig .tc .vmem S32x128x256 .bf16) (Rect.unit (s := S32x128x256) off S1x128x256.size ib).toLoadRect hl) >>= k) Q := by
  subst he
  have hR : RV m ρ c = iprop(owns (c : Thread nD τ) (rvT (D o)) fullShare (tile m ρ (D o) c)
      ∗ bigSep ((Finset.Ico 0 32).erase o) (fun s => owns (c : Thread nD τ) (rvT (D s)) fullShare (tile m ρ (D s) c))) :=
    one (A := fun s => owns (c : Thread nD τ) (rvT (D s)) fullShare (tile m ρ (D s) c)) o ⟨Nat.zero_le _, ho⟩
  rw [hR] at h ⊢
  refine ac_step ?_ (load_step (b := rbM) (r := rT (D o)) (hr := fun _ => rfl) (R := iprop(OUT m ρ c a4 o
    ∗ bigSep ((Finset.Ico 0 32).erase o) (fun s => owns (c : Thread nD τ) (rvT (D s)) fullShare (tile m ρ (D s) c)) ∗ R)) fullShare _ (ac_step ?_ h)) <;> ac_rfl

/-- Storing the quantised tile from device `o` moves the state of the result on by one. -/
theorem out_store {α : Type} {Q : α → sProp 𝕄} {c : Dev nD} {R : sProp 𝕄} {a4 : Memref sig .tc .vmem S4096x256 .f32} (o : ℕ) (ho : o < 32)
    {off : Fin 2 → ℕ} (he : off = ![128 * (D o).val, 0]) {ib : ∀ a, off a + S128x256.size a ≤ S4096x256.size a} {hl hx hm}
    {w : FVec F S128x256 .f32} (hw : w = outT m ρ c (D o))
    {k : PUnit → Prog (TpuEff nD τ sig (Elt F) Λ₀ .tc) α}
    (h : iprop(OUT m ρ c a4 (o + 1) ∗ R) ⊢ Wpc c (k ⟨⟩) Q) :
    iprop(OUT m ρ c a4 o ∗ R) ⊢ Wpc c
      (Prog.lift (.load a4 (Rect.unit (s := S4096x256) off S128x256.size ib).toLoadRect hl) >>= fun _ =>
        Prog.lift (.store a4 (Rect.unit (s := S4096x256) off S128x256.size ib) w Finset.univ hx hm) >>= k) Q := by
  subst he hw
  refine ac_step (P' := iprop((∃ X, owns (c : Thread nD τ) (a4.slice (rO (D o)) (fun _ => rfl)) fullShare X)
    ∗ (bigSep (Finset.Ico (o + 1) 32) (outPre c a4) ∗ bigSep (Finset.Ico 0 o) (outPost m ρ c a4) ∗ R))) ?_ ?_
  · unfold OUT; rw [bot ho]; unfold outPre; ac_rfl
  refine load_ex (b := a4) (r := rO (D o)) fun X => ?_
  refine store_step (b := a4) (r := rO (D o)) ?_
  refine ac_step ?_ h
  unfold OUT; rw [top (Nat.zero_le o)]
  have : outPost m ρ c a4 o = owns (c : Thread nD τ) (a4.slice (rO (D o)) (fun _ => rfl)) fullShare (outT m ρ c (D o)) := rfl
  rw [this]; ac_rfl

end Cert.KProof

end
-- ==== Proof.Cuts.lean ====
/-
Buffers cut into their slots and put together again.
-/
module

public import proofs.«01_k».proof.Proof.States

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Cut
variable {sp : Space} {sh : Shape} {e : EltTy} {T : Type} [Fintype T] [DecidableEq T]

omit [Fintype T] [DecidableEq T] in
/-- Who owns a place with a given value owns it with some value. -/
theorem ex_owns {c : Dev nD} {b : Memref sig .tc sp sh e} (X : sh.Idx → Elt F e) : (owns (c : Thread nD τ) b fullShare X : sProp 𝕄) ⊢ iprop(∃ X, owns (c : Thread nD τ) b fullShare X) := by
  iintro H; iexists X; iexact H

/-- A buffer held is each of its slots held, -/
theorem cut_ex (c : Dev nD) (b : Memref sig .tc sp sh e) (r : T → Rect sh) (hr : ∀ t a, (r t).stride a = 1)
    (hd : ∀ t t', t ≠ t' → Disjoint (r t).set (r t').set) (hcov : (Finset.univ : Finset T).biUnion (fun t => (r t).set) = Finset.univ) :
    (iprop(∃ X, owns (c : Thread nD τ) b fullShare X) : sProp 𝕄)
      ⊢ bigSep Finset.univ fun t => iprop(∃ X, owns (c : Thread nD τ) (b.slice (r t) (hr t)) fullShare X) := by
  iintro ⟨%X, H⟩
  iapply ((owns_rects (c : Thread nD τ) b fullShare r hr hd hcov X).trans (bigSep_mono (s := Finset.univ) (fun t _ => ex_owns _)))
  iexact H

/-- and back. -/
theorem join_ex (c : Dev nD) (b : Memref sig .tc sp sh e) (r : T → Rect sh) (hr : ∀ t a, (r t).stride a = 1)
    (hd : ∀ t t', t ≠ t' → Disjoint (r t).set (r t').set) (hcov : (Finset.univ : Finset T).biUnion (fun t => (r t).set) = Finset.univ) :
    (bigSep Finset.univ fun t => iprop(∃ X, owns (c : Thread nD τ) (b.slice (r t) (hr t)) fullShare X))
      ⊢ (iprop(∃ X, owns (c : Thread nD τ) b fullShare X) : sProp 𝕄) := by
  classical
  refine (bigSep_exists_pi Finset.univ (fun t X => (owns (c : Thread nD τ) (b.slice (r t) (hr t)) fullShare X : sProp 𝕄))).trans ?_
  iintro ⟨%Xs, H⟩
  have hex : ∀ i : sh.Idx, ∃ x : (t : T) × (r t).shape.Idx, (r x.1).emb x.2 = i := fun i => by
    obtain ⟨t, -, hx⟩ := Finset.mem_biUnion.mp (hcov.symm ▸ Finset.mem_univ i)
    rw [← Rect.map_emb_univ, Finset.mem_map] at hx
    obtain ⟨j, -, hj⟩ := hx
    exact ⟨⟨t, j⟩, hj⟩
  choose pk hpk using hex
  have hX : ∀ t j, Xs (pk ((r t).emb j)).1 (pk ((r t).emb j)).2 = Xs t j := fun t j => by
    have h := hpk ((r t).emb j)
    generalize pk ((r t).emb j) = x at h ⊢
    obtain ⟨t', j'⟩ := x
    by_cases ht : t' = t
    · subst ht; rw [(r t').emb.injective h]
    · exfalso
      have h1 : (r t).emb j ∈ (r t).set := by rw [← Rect.map_emb_univ]; exact Finset.mem_map_of_mem _ (Finset.mem_univ _)
      have h2 : (r t).emb j ∈ (r t').set := by rw [← h, ← Rect.map_emb_univ]; exact Finset.mem_map_of_mem _ (Finset.mem_univ _)
      exact Finset.disjoint_left.mp (hd t' t ht) h2 h1
  iexists (fun i => Xs (pk i).1 (pk i).2)
  iapply (owns_of_rects (c : Thread nD τ) b fullShare r hr hd hcov (fun i => Xs (pk i).1 (pk i).2))
  simp only [hX]
  iexact H
end Cut

/-! ## The families of slots -/

/-- Different blocks of the cut activations don't meet. -/
theorem dX (t t' : Fin 4) (h : t ≠ t') : Disjoint (rX t).set (rX t').set :=
  Rect.unit_disjoint 0 (by have h' : t.val ≠ t'.val := fun e => h (Fin.ext e); show t.val + 1 ≤ t'.val ∨ t'.val + 1 ≤ t.val; omega)
/-- Different slots of the ring don't meet. -/
theorem dW (t t' : Fin 4) (h : t ≠ t') : Disjoint (rW t).set (rW t').set :=
  Rect.unit_disjoint 0 (by have h' : t.val ≠ t'.val := fun e => h (Fin.ext e); show t.val + 1 ≤ t'.val ∨ t'.val + 1 ≤ t.val; omega)
/-- Different tiles don't meet. -/
theorem dT (t t' : Dev nD) (h : t ≠ t') : Disjoint (rT t).set (rT t').set :=
  Rect.unit_disjoint 0 (by have h' : t.val ≠ t'.val := fun e => h (Fin.ext e); show t.val + 1 ≤ t'.val ∨ t'.val + 1 ≤ t.val; omega)
/-- Different rows don't meet. -/
theorem dA (t t' : Dev nD) (h : t ≠ t') : Disjoint (rA t).set (rA t').set :=
  Rect.unit_disjoint 0 (by have h' : t.val ≠ t'.val := fun e => h (Fin.ext e); show t.val + 1 ≤ t'.val ∨ t'.val + 1 ≤ t.val; omega)
/-- Different devices' rows of the result don't meet. -/
theorem dO (t t' : Dev nD) (h : t ≠ t') : Disjoint (rO t).set (rO t').set :=
  Rect.unit_disjoint 0 (by have h' : t.val ≠ t'.val := fun e => h (Fin.ext e); show 128 * t.val + 128 ≤ 128 * t'.val ∨ 128 * t'.val + 128 ≤ 128 * t.val; omega)
/-- Different blocks of the weights don't meet. -/
theorem dB (t t' : Fin 16) (h : t ≠ t') : Disjoint (rB t).set (rB t').set := by
  have h' : t.val ≠ t'.val := fun e => h (Fin.ext e)
  by_cases h4 : t.val % 4 = t'.val % 4
  · exact Rect.unit_disjoint 1 (by show 2048 * (t.val / 4) + 2048 ≤ 2048 * (t'.val / 4) ∨ 2048 * (t'.val / 4) + 2048 ≤ 2048 * (t.val / 4); omega)
  · exact Rect.unit_disjoint 0 (by show 1024 * (t.val % 4) + 1024 ≤ 1024 * (t'.val % 4) ∨ 1024 * (t'.val % 4) + 1024 ≤ 1024 * (t.val % 4); omega)

/-- Rectangles one of which holds any given index cover the array. -/
theorem covered {T : Type} [Fintype T] {s : Shape} {r : T → Rect s} (h : ∀ i : s.Idx, ∃ t, i ∈ (r t).set) :
    (Finset.univ : Finset T).biUnion (fun t => (r t).set) = Finset.univ := by
  classical
  ext i; obtain ⟨t, ht⟩ := h i
  exact ⟨fun _ => Finset.mem_univ _, fun _ => Finset.mem_biUnion.mpr ⟨t, Finset.mem_univ _, ht⟩⟩

/-- The four blocks cover the cut activations. -/
theorem cX : (Finset.univ : Finset (Fin 4)).biUnion (fun t => (rX t).set) = Finset.univ := covered fun i => ⟨(i 0 : Fin 4), Rect.mem_set_unit.mpr fun
  | 0 => ⟨Nat.le_refl _, Nat.lt_succ_self _⟩ | 1 => ⟨Nat.zero_le _, by have h : (i 1).val < 128 := (i 1).isLt; show (i 1).val < 0 + 128; omega⟩ | 2 => ⟨Nat.zero_le _, by have h : (i 2).val < 1024 := (i 2).isLt; show (i 2).val < 0 + 1024; omega⟩⟩
/-- The four slots cover the ring. -/
theorem cW : (Finset.univ : Finset (Fin 4)).biUnion (fun t => (rW t).set) = Finset.univ := covered fun i => ⟨(i 0 : Fin 4), Rect.mem_set_unit.mpr fun
  | 0 => ⟨Nat.le_refl _, Nat.lt_succ_self _⟩ | 1 => ⟨Nat.zero_le _, by have h : (i 1).val < 1024 := (i 1).isLt; show (i 1).val < 0 + 1024; omega⟩ | 2 => ⟨Nat.zero_le _, by have h : (i 2).val < 2048 := (i 2).isLt; show (i 2).val < 0 + 2048; omega⟩⟩
/-- The 32 tiles cover their buffer. -/
theorem cT : (Finset.univ : Finset (Dev nD)).biUnion (fun t => (rT t).set) = Finset.univ := covered fun i => ⟨(i 0 : Fin 32), Rect.mem_set_unit.mpr fun
  | 0 => ⟨Nat.le_refl _, Nat.lt_succ_self _⟩ | 1 => ⟨Nat.zero_le _, by have h : (i 1).val < 128 := (i 1).isLt; show (i 1).val < 0 + 128; omega⟩ | 2 => ⟨Nat.zero_le _, by have h : (i 2).val < 256 := (i 2).isLt; show (i 2).val < 0 + 256; omega⟩⟩
/-- The 32 rows cover their buffer. -/
theorem cA : (Finset.univ : Finset (Dev nD)).biUnion (fun t => (rA t).set) = Finset.univ := covered fun i => ⟨(i 0 : Fin 32), Rect.mem_set_unit.mpr fun
  | 0 => ⟨Nat.le_refl _, Nat.lt_succ_self _⟩ | 1 => ⟨Nat.zero_le _, by have h : (i 1).val < 128 := (i 1).isLt; show (i 1).val < 0 + 128; omega⟩⟩
/-- The 32 devices' rows cover the result. -/
theorem cO : (Finset.univ : Finset (Dev nD)).biUnion (fun t => (rO t).set) = Finset.univ := covered fun i => ⟨D ((i 0).val / 128), Rect.mem_set_unit.mpr (by
  have h0 : (i 0).val < 4096 := (i 0).isLt
  have h1 : (i 1).val < 256 := (i 1).isLt
  exact fun
  | 0 => ⟨by show 128 * (D ((i 0).val / 128)).val ≤ (i 0).val; rw [D_val]; omega, by show (i 0).val < 128 * (D ((i 0).val / 128)).val + 128; rw [D_val]; omega⟩
  | 1 => ⟨Nat.zero_le _, by show (i 1).val < 0 + 256; omega⟩)⟩
/-- The 16 blocks cover the weights. -/
theorem cB : (Finset.univ : Finset (Fin 16)).biUnion (fun t => (rB t).set) = Finset.univ := covered fun i => ⟨bl (4 * ((i 1).val / 2048) + (i 0).val / 1024), Rect.mem_set_unit.mpr (by
  have h0 : (i 0).val < 4096 := (i 0).isLt
  have h1 : (i 1).val < 8192 := (i 1).isLt
  have hb : (bl (4 * ((i 1).val / 2048) + (i 0).val / 1024)).val = (4 * ((i 1).val / 2048) + (i 0).val / 1024) % 16 := rfl
  exact fun
  | 0 => ⟨by show 1024 * ((bl _).val % 4) ≤ (i 0).val; rw [hb]; omega, by show (i 0).val < 1024 * ((bl _).val % 4) + 1024; rw [hb]; omega⟩
  | 1 => ⟨by show 2048 * ((bl _).val / 4) ≤ (i 1).val; rw [hb]; omega, by show (i 1).val < 2048 * ((bl _).val / 4) + 2048; rw [hb]; omega⟩)⟩

/-! ## A buffer whole -/

/-- To own a whole buffer is to hold its contents, equal to the value. -/
theorem owns_buf' (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]
/-- To own a whole buffer with a value is to hold it with those contents. -/
theorem owns_buf (c : Dev nD) (b : Ref sig .tc) (X : Buf (Elt F) ((c : Thread nD τ).loc b)) :
    (owns (c : Thread nD τ) (Memref.whole b) fullShare X : sProp 𝕄) = (((c : Thread nD τ).loc b) ↦{fullShare} X) := by
  rw [owns_buf']
  have h1 : (iprop(∃ f : Buf (Elt F) ((c : Thread nD τ).loc b), ⌜f = X⌝ ∗ (((c : Thread nD τ).loc b) ↦{fullShare} f)) : sProp 𝕄) ⊢ (((c : Thread nD τ).loc b) ↦{fullShare} X) := by
    iintro ⟨%f, %hf, H⟩; rw [← hf]; iexact H
  have h2 : ((((c : Thread nD τ).loc b) ↦{fullShare} X) : sProp 𝕄) ⊢ iprop(∃ f : Buf (Elt F) ((c : Thread nD τ).loc b), ⌜f = X⌝ ∗ (((c : Thread nD τ).loc b) ↦{fullShare} f)) := by
    iintro H; iexists X; isplitr; · (ipureintro; rfl)
    iexact H
  exact equiv_iff.mp ⟨h1, h2⟩

end Cert.KProof

end
-- ==== Proof.Last.lean ====
/-
The last point of the grid: what a device holds before the exchange of the rows, and the whole of the exchange run.
-/
module

public import proofs.«01_k».proof.Proof.End
public import proofs.«01_k».proof.Proof.Cuts

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots at printed offsets -/

/-- Loading a tile to be sent reads it. -/
theorem sb_load {α : Type} {Q : α → sProp 𝕄} {c : Dev nD} {R : sProp 𝕄} (t : Dev nD) {off : Fin 3 → ℕ} (he : off = ![t.val, 0, 0]) {ib : ∀ a, off a + S1x128x256.size a ≤ S32x128x256.size a} {hl}
    {k : Vec F S1x128x256 .bf16 → Prog (TpuEff nD τ sig (Elt F) Λ₀ .tc) α} (q : PosShare TreeShare) (X : Vec F S1x128x256 .bf16)
    (h : iprop(owns (c : Thread nD τ) (sT t) q X ∗ R) ⊢ Wpc c (k X) Q) :
    iprop(owns (c : Thread nD τ) (sT t) q X ∗ R) ⊢ Wpc c (Prog.lift (.load (sbM : Memref sig .tc .vmem S32x128x256 .bf16) (Rect.unit (s := S32x128x256) off S1x128x256.size ib).toLoadRect hl) >>= k) Q := by
  subst he; exact load_step (b := sbM) (r := rT t) q X h

/-- Loading a place of the received tiles reads something. -/
theorem rb_load_ex {α : Type} {Q : α → sProp 𝕄} {c : Dev nD} {R : sProp 𝕄} (t : Dev nD) {off : Fin 3 → ℕ} (he : off = ![t.val, 0, 0]) {ib : ∀ a, off a + S1x128x256.size a ≤ S32x128x256.size a} {hl}
    {k : Vec F S1x128x256 .bf16 → Prog (TpuEff nD τ sig (Elt F) Λ₀ .tc) α}
    (h : ∀ X, iprop((∃ X, owns (c : Thread nD τ) (rvT t) fullShare X) ∗ R) ⊢ Wpc c (k X) Q) :
    iprop((∃ X, owns (c : Thread nD τ) (rvT t) fullShare X) ∗ R) ⊢ Wpc c (Prog.lift (.load (rbM : Memref sig .tc .vmem S32x128x256 .bf16) (Rect.unit (s := S32x128x256) off S1x128x256.size ib).toLoadRect hl) >>= k) Q := by
  subst he; exact load_ex (b := rbM) (r := rT t) h

/-- Storing into a place of the received tiles leaves what is stored there. -/
theorem rb_store {α : Type} {Q : α → sProp 𝕄} {c : Dev nD} {R : sProp 𝕄} (t : Dev nD) {off : Fin 3 → ℕ} (he : off = ![t.val, 0, 0]) {ib : ∀ a, off a + S1x128x256.size a ≤ S32x128x256.size a} {hx hm}
    {w : Vec F S1x128x256 .bf16} (w' : Vec F S1x128x256 .bf16) (hw : w = w') {k : PUnit → Prog (TpuEff nD τ sig (Elt F) Λ₀ .tc) α}
    (h : iprop(owns (c : Thread nD τ) (rvT t) fullShare w' ∗ R) ⊢ Wpc c (k ⟨⟩) Q) :
    iprop((∃ X, owns (c : Thread nD τ) (rvT t) fullShare X) ∗ R) ⊢ Wpc c (Prog.lift (.store (rbM : Memref sig .tc .vmem S32x128x256 .bf16) (Rect.unit (s := S32x128x256) off S1x128x256.size ib) w Finset.univ hx hm) >>= k) Q := by
  subst he hw; exact store_step (b := rbM) (r := rT t) h

/-- Loading a place of the received rows reads something. -/
theorem ar_load_ex {α : Type} {Q : α → sProp 𝕄} {c : Dev nD} {R : sProp 𝕄} (t : Dev nD) {off : Fin 2 → ℕ} (he : off = ![t.val, 0]) {ib : ∀ a, off a + S1x128.size a ≤ S32x128.size a} {hl}
    {k : Vec F S1x128 .f32 → Prog (TpuEff nD τ sig (Elt F) Λ₀ .tc) α}
    (h : ∀ X, iprop((∃ X, owns (c : Thread nD τ) (arR t) fullShare X) ∗ R) ⊢ Wpc c (k X) Q) :
    iprop((∃ X, owns (c : Thread nD τ) (arR t) fullShare X) ∗ R) ⊢ Wpc c (Prog.lift (.load (arM : Memref sig .tc .vmem S32x128 .f32) (Rect.unit (s := S32x128) off S1x128.size ib).toLoadRect hl) >>= k) Q := by
  subst he; exact load_ex (b := arM) (r := rA t) h

/-- Storing into a place of the received rows leaves what is stored there. -/
theorem ar_store {α : Type} {Q : α → sProp 𝕄} {c : Dev nD} {R : sProp 𝕄} (t : Dev nD) {off : Fin 2 → ℕ} (he : off = ![t.val, 0]) {ib : ∀ a, off a + S1x128.size a ≤ S32x128.size a} {hx hm}
    {w : Vec F S1x128 .f32} (w' : Vec F S1x128 .f32) (hw : w = w') {k : PUnit → Prog (TpuEff nD τ sig (Elt F) Λ₀ .tc) α}
    (h : iprop(owns (c : Thread nD τ) (arR t) fullShare w' ∗ R) ⊢ Wpc c (k ⟨⟩) Q) :
    iprop((∃ X, owns (c : Thread nD τ) (arR t) fullShare X) ∗ R) ⊢ Wpc c (Prog.lift (.store (arM : Memref sig .tc .vmem S32x128 .f32) (Rect.unit (s := S32x128) off S1x128.size ib) w Finset.univ hx hm) >>= k) Q := by
  subst he hw; exact store_step (b := arM) (r := rA t) h

/-! ## What is held -/

/-- Nothing on the left can be dropped. -/
theorem emp_l (P : sProp 𝕄) : iprop(emp ∗ P) = P := emp_sep_eq P
/-- Nothing on the right can be dropped. -/
theorem emp_r (P : sProp 𝕄) : iprop(P ∗ emp) = P := sep_emp_eq P

/-- The running maximum after `g` column groups. -/
def Vm (c : Dev nD) (g : ℕ) : sProp 𝕄 := ((vmM : Memref sig .tc .vmem S128x2048 .f32).view.loc (c : Thread nD τ) ↦{fullShare} vm m ρ c g)
/-- What the `n`-th sending of the row spends, beside the row. -/
def Amp (c : Dev nD) (n : ℕ) : sProp 𝕄 :=
  iprop(dutyTok ER (ac c (tgt c n)) 0 0 ∗ dutyTok ER (ar (tgt c n) c) 0 0 ∗ ∃ X, owns (tgt c n : Thread nD τ) (arR c) fullShare X)
/-- What all the sendings of the row spend, beside the row. -/
def Amps (c : Dev nD) : sProp 𝕄 := bigSep (Finset.Ico 1 32) (Amp (F := F) c)
/-- The positions of the four cells of a device's own place. -/
def Own4 (c : Dev nD) : sProp 𝕄 := iprop(atPos ER (ds c c) 0 ∅ 0 ∗ atPos ER (dr c c) 0 ∅ 0 ∗ atPos ER (ac c c) 0 ∅ 0 ∗ atPos ER (ar c c) 0 ∅ 0)
/-- The slots a device fills itself at the last point. -/
def RvE (c : Dev nD) : sProp 𝕄 := iprop(∃ X, owns (c : Thread nD τ) (rvT c) fullShare X)
/-- The device's own place among the received rows, anything in it. -/
def ArE (c : Dev nD) : sProp 𝕄 := iprop(∃ X, owns (c : Thread nD τ) (arR c) fullShare X)
/-- The buffer of the row to be sent, anything in it. -/
def AsE (c : Dev nD) : sProp 𝕄 := iprop(∃ f, ((asM : Memref sig .tc .vmem S8x128 .f32).view.loc (c : Thread nD τ) ↦{fullShare} f))
/-- What stays put until the last point. -/
def Ct (c : Dev nD) : sProp 𝕄 :=
  iprop(Crd (F := F) arSem Na c ∗ Pos (F := F) arSem c ∗ Crd (F := F) drSem Nt c ∗ Pos (F := F) drSem c ∗ Pos (F := F) dsSem c ∗ Pos (F := F) asSem c ∗ Own4 (F := F) c
    ∗ RvE (F := F) c ∗ ArE (F := F) c ∗ AsE (F := F) c)

/-- When all tiles are stored there are the device's own tile and the credits for the others' sendings. -/
theorem dt_end (c : Dev nD) : DT m ρ c 32 = iprop(owns (c : Thread nD τ) (sT c) fullShare (tile m ρ c c) ∗ Crd dsSem Nt c) := by
  unfold DT
  rw [emp0 (le_refl 32), emp_l]
  have h := over_all (A := fun t => if t = c then (owns (c : Thread nD τ) (sT c) fullShare (tile m ρ c c) : sProp 𝕄) else cred (tallyAt (ds c t) () Nt))
  have h' := all_others c (A := fun t => if t = c then (owns (c : Thread nD τ) (sT c) fullShare (tile m ρ c c) : sProp 𝕄) else cred (tallyAt (ds c t) () Nt))
  refine (show bigSep (Finset.Ico 0 32) (dPost m ρ c) = _ from h).trans (h'.trans ?_)
  rw [if_pos rfl]
  unfold Crd
  rw [bigSep_congr (s := Finset.Ico 1 32) (fun n hn => if_neg (tgt_ne c n (Finset.mem_Ico.mp hn).1 (Finset.mem_Ico.mp hn).2))]

/-- The rest of the row buffer. -/
def asRest (c : Dev nD) : sProp 𝕄 :=
  ((asM : Memref sig .tc .vmem S8x128 .f32).view.loc (c : Thread nD τ) ↦[Finset.univ \ (asR : Memref sig .tc .vmem S1x128 .f32).view.set]{fullShare} abuf m ρ c)

/-- The buffer of the row is 31 shares of the row and the rest. -/
theorem row_deal (c : Dev nD) :
    ((asM : Memref sig .tc .vmem S8x128 .f32).view.loc (c : Thread nD τ) ↦{fullShare} abuf m ρ c)
      = iprop(bigSep (Finset.Ico 1 32) (fun n => ((asR : Memref sig .tc .vmem S1x128 .f32).view.loc (c : Thread nD τ)
          ↦[(asR : Memref sig .tc .vmem S1x128 .f32).view.set]{shr n} abuf m ρ c)) ∗ asRest m ρ c) := by
  have h1 : ((asM : Memref sig .tc .vmem S8x128 .f32).view.loc (c : Thread nD τ) ↦{fullShare} abuf m ρ c)
      = iprop(((asM : Memref sig .tc .vmem S8x128 .f32).view.loc (c : Thread nD τ) ↦[(asR : Memref sig .tc .vmem S1x128 .f32).view.set]{fullShare} abuf m ρ c) ∗ asRest m ρ c) :=
    Entails.antisymm (pointsTo_split_subset (Finset.subset_univ _)).1 (pointsTo_split_subset (Finset.subset_univ _)).2
  rw [h1]
  exact congrArg (fun X => iprop(X ∗ asRest m ρ c)) (Transfers.pointsTo_deal (Finset.Ico 1 32) ⟨1, by decide⟩ fullShare)

/-- The buffer of the row and what the sendings spend are the state before the first sending. -/
theorem am_start (c : Dev nD) :
    iprop(((asM : Memref sig .tc .vmem S8x128 .f32).view.loc (c : Thread nD τ) ↦{fullShare} abuf m ρ c) ∗ Amps c) = iprop(AM m ρ c 1 ∗ asRest m ρ c) := by
  rw [row_deal]
  unfold AM Amps
  rw [emp0 (le_refl 1), emp_r]
  rw [show iprop((bigSep (Finset.Ico 1 32) (fun n => ((asR : Memref sig .tc .vmem S1x128 .f32).view.loc (c : Thread nD τ)
          ↦[(asR : Memref sig .tc .vmem S1x128 .f32).view.set]{shr n} abuf m ρ c)) ∗ asRest m ρ c) ∗ bigSep (Finset.Ico 1 32) (Amp c))
      = iprop((bigSep (Finset.Ico 1 32) (fun n => ((asR : Memref sig .tc .vmem S1x128 .f32).view.loc (c : Thread nD τ)
          ↦[(asR : Memref sig .tc .vmem S1x128 .f32).view.set]{shr n} abuf m ρ c)) ∗ bigSep (Finset.Ico 1 32) (Amp c)) ∗ asRest m ρ c) by ac_rfl]
  rw [← bigSep_sep']
  refine congrArg (fun X => iprop(X ∗ asRest m ρ c)) (bigSep_congr fun n _ => ?_)
  unfold Amp amTok
  ac_rfl

/-- The shares that came back and the rest make up the buffer of the row. -/
theorem row_back (c : Dev nD) :
    iprop(bigSep (Finset.Ico 1 32) (fun n => asPay m ρ c (tgt c n)) ∗ asRest m ρ c) = ((asM : Memref sig .tc .vmem S8x128 .f32).view.loc (c : Thread nD τ) ↦{fullShare} abuf m ρ c) := by
  rw [row_deal]
  refine congrArg (fun X => iprop(X ∗ asRest m ρ c)) (bigSep_congr fun n hn => ?_)
  unfold asPay
  rw [dist_tgt c n (Finset.mem_Ico.mp hn).2]

/-- All the rows are the rows' buffer whole. -/
theorem rows_whole (c : Dev nD) :
    iprop(owns (c : Thread nD τ) (arR c) fullShare (arow m ρ c) ∗ bigSep (Finset.Ico 1 32) (fun n => arPay m ρ c (tgt c n)))
      ⊢ ((arM : Memref sig .tc .vmem S32x128 .f32).view.loc (c : Thread nD τ) ↦{fullShare} gall m ρ) := by
  have h := all_others c (A := fun t => arPay m ρ c t)
  have h2 := owns_of_rects (Ix := Unit) (Name := ℕ) (U := UU) (Lvl := ℕ) (c : Thread nD τ) (arM : Memref sig .tc .vmem S32x128 .f32) fullShare rA (fun _ _ => rfl) dA cA (gall m ρ)
  have h3 := owns_buf c cc0_scratch7 (gall m ρ)
  refine (Entails.of_eq h.symm).trans (.trans ?_ (h2.trans (Entails.of_eq h3)))
  refine bigSep_mono (s := Finset.univ) fun t _ => ?_
  unfold arPay
  refine Entails.of_eq (congrArg (owns (c : Thread nD τ) (arR t) fullShare) (funext fun j => ?_))
  have hj : (j 0).val = 0 := by have := (j 0).isLt; have h : (j 0).val < 1 := this; omega
  have e0 : ((rA t).emb j) 0 = t := Fin.ext (by show t.val + 1 * (j 0).val = t.val; omega)
  have e1 : ((rA t).emb j) 1 = j 1 := Fin.ext (by show 0 + 1 * (j 1).val = (j 1).val; omega)
  show arow m ρ t j = gall m ρ ((rA t).emb j)
  unfold gall
  rw [e0]
  refine congrArg (arow m ρ t) (funext fun a => ?_)
  match a with
  | 0 => exact Fin.ext hj
  | 1 => exact e1.symm

/-- All the tiles received. -/
theorem rv_whole (c : Dev nD) :
    iprop(owns (c : Thread nD τ) (rvT c) fullShare (tile m ρ c c) ∗ bigSep (Finset.Ico 1 32) (fun n => drPay m ρ c (tgt c n))) = RV m ρ c := by
  have h := all_others c (A := fun t => drPay m ρ c t)
  exact h.symm.trans (over_all (A := fun t => drPay m ρ c t)).symm

end Cert.KProof

end
-- ==== Proof.Finish.lean ====
/-
The last point of the grid run: the row put down, sent to every other device, all rows and tiles waited for, the result
written block by block, and the waits for the sendings.
-/
module

public import proofs.«01_k».proof.Proof.Last
public import Idealize.ShloMosaic.Lib.Pipeline.Value

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What follows from every value follows from some value. -/
theorem ex_step {ι : Type} {A : ι → sProp 𝕄} {R P : sProp 𝕄} (h : ∀ x, iprop(A x ∗ R) ⊢ P) : iprop((∃ x, A x) ∗ R) ⊢ P := by
  iintro ⟨⟨%x, H⟩, HR⟩
  iapply (h x)
  isplitl [H] <;> iassumption

/-- What is left of the exchange when all that remains is to wait for the sendings. -/
def Late (c : Dev nD) : sProp 𝕄 :=
  iprop(owns (c : Thread nD τ) (sT c) fullShare (tile m ρ c c) ∗ asRest m ρ c ∗ Own4 (F := F) c ∗ SV (F := F) arSem c ∗ SV (F := F) drSem c
    ∗ ((arM : Memref sig .tc .vmem S32x128 .f32).view.loc (c : Thread nD τ) ↦{fullShare} gall m ρ) ∗ RV m ρ c)

/-- Loading the running maximum reads it. -/
theorem vm_load {α : Type} {Q : α → sProp 𝕄} {c : Dev nD} {R : sProp 𝕄} {g : ℕ} {ib hl}
    {k : Vec F S128x2048 .f32 → Prog (TpuEff nD τ sig (Elt F) Λ₀ .tc) α}
    (h : iprop(Vm m ρ c g ∗ R) ⊢ Wpc c (k (vm m ρ c g)) Q) :
    iprop(Vm m ρ c g ∗ R) ⊢ Wpc c (Prog.lift (.load (vmM : Memref sig .tc .vmem S128x2048 .f32) (Rect.unit (s := S128x2048) ![0, 0] S128x2048.size ib).toLoadRect hl) >>= k) Q :=
  load_whole cc0_scratch3 (Memref.readAt_unit_zero (Elt F) cc0_scratch3 (by funext a; fin_cases a <;> rfl) ib (vm m ρ c g)) h

/-- The row buffer: read, filled and read again; a slot of `recv` and of the rows filled. -/
theorem part7_run {t : Fin cfg0.N} {a2 ha2 a4 ha4} {c : Dev nD} {v4 h5 h15} {R : sProp 𝕄} :
    iprop(owns (c : Thread nD τ) (sT c) fullShare (tile m ρ c c) ∗ RvE (F := F) c ∗ Vm m ρ c 4
      ∗ AsE (F := F) c
      ∗ ArE (F := F) c ∗ RL m ρ ∗ Ow c 32 32 1 ∗ Amps c ∗ R)
      ⊢ Wpc c (k0_part7 (F := F) (grid0.coords t) a2 ha2 (Memref.whole main_arg1) (Memref.isWhole_whole _) a4 ha4 (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) (Memref.whole cc0_scratch6) (Memref.isWhole_whole _)
        (Memref.whole cc0_scratch7) (Memref.isWhole_whole _) cc0_scratch8 cc0_scratch9 cc0_scratch10 cc0_scratch11 cc0_scratch12 c v4 h5 h15)
        (fun _ => iprop(RL m ρ ∗ Ow c 32 32 2 ∗ AM m ρ c 2 ∗ (owns (c : Thread nD τ) (sT c) fullShare (tile m ρ c c) ∗ owns (c : Thread nD τ) (rvT c) fullShare (tile m ρ c c)
          ∗ Vm m ρ c 4 ∗ owns (c : Thread nD τ) (arR c) fullShare (arow m ρ c) ∗ asRest m ρ c ∗ R))) := by
  rw [k0_part7_eq_skeleton, k0_part7_skel]
  refine sb_load c (off42_eq c) fullShare _ ?_
  refine ac_step (P' := iprop(RvE (F := F) c ∗ (owns (c : Thread nD τ) (sT c) fullShare (tile m ρ c c) ∗ Vm m ρ c 4
      ∗ AsE (F := F) c
      ∗ ArE (F := F) c ∗ RL m ρ ∗ Ow c 32 32 1 ∗ Amps c ∗ R))) (by ac_rfl) ?_
  refine rb_load_ex c (off42_eq c) fun X => ?_
  refine rb_store c (off42_eq c) (tile m ρ c c) (by exact shapeCast_self _ _) ?_
  refine ac_step (P' := iprop(Vm m ρ c 4 ∗ (AsE (F := F) c ∗ owns (c : Thread nD τ) (rvT c) fullShare (tile m ρ c c)
      ∗ owns (c : Thread nD τ) (sT c) fullShare (tile m ρ c c)
      ∗ ArE (F := F) c ∗ RL m ρ ∗ Ow c 32 32 1 ∗ Amps c ∗ R))) (by ac_rfl) ?_
  refine vm_load m ρ ?_
  refine ac_step (P' := iprop(AsE (F := F) c ∗ (owns (c : Thread nD τ) (rvT c) fullShare (tile m ρ c c)
      ∗ owns (c : Thread nD τ) (sT c) fullShare (tile m ρ c c) ∗ Vm m ρ c 4
      ∗ ArE (F := F) c ∗ RL m ρ ∗ Ow c 32 32 1 ∗ Amps c ∗ R))) (by ac_rfl) ?_
  unfold AsE; refine ex_step fun f => ?_
  refine load_whole cc0_scratch6 rfl ?_
  refine store_whole (f' := abuf m ρ c) (Memref.write_access_unit_zero_univ (Elt F) cc0_scratch6 (by funext a; fin_cases a <;> rfl) _ f _) ?_
  refine load_whole (X := arow m ρ c) cc0_scratch6 rfl ?_
  refine ac_step (P' := iprop(ArE (F := F) c ∗ (owns (c : Thread nD τ) (rvT c) fullShare (tile m ρ c c)
      ∗ owns (c : Thread nD τ) (sT c) fullShare (tile m ρ c c) ∗ Vm m ρ c 4
      ∗ ((asM : Memref sig .tc .vmem S8x128 .f32).view.loc (c : Thread nD τ) ↦{fullShare} abuf m ρ c) ∗ RL m ρ ∗ Ow c 32 32 1 ∗ Amps c ∗ R))) (by ac_rfl) ?_
  refine ar_load_ex c (off43_eq c) fun X => ?_
  refine ar_store c (off43_eq c) (arow m ρ c) (by exact shapeCast_self _ _) ?_
  refine ac_step (P' := iprop((((asM : Memref sig .tc .vmem S8x128 .f32).view.loc (c : Thread nD τ) ↦{fullShare} abuf m ρ c) ∗ Amps c) ∗ (owns (c : Thread nD τ) (arR c) fullShare (arow m ρ c)
      ∗ owns (c : Thread nD τ) (rvT c) fullShare (tile m ρ c c)
      ∗ owns (c : Thread nD τ) (sT c) fullShare (tile m ρ c c) ∗ Vm m ρ c 4
      ∗ RL m ρ ∗ Ow c 32 32 1 ∗ R))) (by ac_rfl) ?_
  rw [am_start]
  refine ac_step (P' := iprop(RL m ρ ∗ Ow c 32 32 1 ∗ AM m ρ c 1 ∗ (owns (c : Thread nD τ) (sT c) fullShare (tile m ρ c c) ∗ owns (c : Thread nD τ) (rvT c) fullShare (tile m ρ c c)
          ∗ Vm m ρ c 4 ∗ owns (c : Thread nD τ) (arR c) fullShare (arow m ρ c) ∗ asRest m ρ c ∗ R))) (by ac_rfl) ?_
  refine am_send m ρ 1 (by decide) (by decide) (Fin.ext (peerW_dev c _ (by decide))) (off46_eq c) (off44_eq c _ (by decide)) (off45_eq c) ?_
  exact ret_step .rfl

/-- A step by a run proved before. -/
theorem run_step {α β : Type} {Q : α → sProp 𝕄} {c : Dev nD} {P : sProp 𝕄} {p : Prog (TpuEff nD τ sig (Elt F) Λ₀ .tc) β} {k : β → Prog (TpuEff nD τ sig (Elt F) Λ₀ .tc) α}
    {Q' : β → sProp 𝕄} (h : P ⊢ Wpc c p Q') (h' : ∀ v, Q' v ⊢ Wpc c (k v) Q) : P ⊢ Wpc c (p >>= k) Q :=
  bind_step (h.trans (wp_mono _ _ _ h'))

/-- When the row is sent to all there are the credits for the sendings. -/
theorem am_done (c : Dev nD) : AM m ρ c 32 = Crd asSem Na c := by
  unfold AM Crd; rw [emp0 (le_refl 32), emp_l]; rfl

/-- Loading the received rows reads the rows of all the devices. -/
theorem ar_whole_load {α : Type} {Q : α → sProp 𝕄} {c : Dev nD} {R : sProp 𝕄} {ib hl}
    {k : Vec F S32x128 .f32 → Prog (TpuEff nD τ sig (Elt F) Λ₀ .tc) α}
    (h : iprop(((arM : Memref sig .tc .vmem S32x128 .f32).view.loc (c : Thread nD τ) ↦{fullShare} gall m ρ) ∗ R) ⊢ Wpc c (k (gall m ρ)) Q) :
    iprop(((arM : Memref sig .tc .vmem S32x128 .f32).view.loc (c : Thread nD τ) ↦{fullShare} gall m ρ) ∗ R)
      ⊢ Wpc c (Prog.lift (.load (arM : Memref sig .tc .vmem S32x128 .f32) (Rect.unit (s := S32x128) ![0, 0] S32x128.size ib).toLoadRect hl) >>= k) Q :=
  load_whole cc0_scratch7 (Memref.readAt_unit_zero (Elt F) cc0_scratch7 (by funext a; fin_cases a <;> rfl) ib (gall m ρ)) h

set_option maxHeartbeats 4000000 in
/-- The run of the last point's end: the rows are exchanged, the tiles waited for, and the result is written. -/
theorem part60_run {t : Fin cfg0.N} {a2 ha2 a4 ha4} {c : Dev nD} {v4 h5 h15} {R : sProp 𝕄} :
    iprop(RL m ρ ∗ Ow c 32 32 1 ∗ DT m ρ c 32 ∗ Vm m ρ c 4 ∗ Amps c ∗ Ct c ∗ OUT m ρ c a4 0 ∗ R)
      ⊢ Wpc c (k0_part60 (F := F) (grid0.coords t) a2 ha2 (Memref.whole main_arg1) (Memref.isWhole_whole _) a4 ha4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 c v4 h5 h15)
        (fun _ => iprop(RL m ρ ∗ Ow c 32 32 32 ∗ Wds c 31 ∗ (Was m ρ c 31 ∗ (Late m ρ c ∗ Vm m ρ c 4 ∗ OUT m ρ c a4 32 ∗ R)))) := by
  rw [k0_part60_eq_skeleton, k0_part60_skel, dt_end]
  unfold Ct
  refine ac_step (P' := iprop(owns (c : Thread nD τ) (sT c) fullShare (tile m ρ c c) ∗ RvE (F := F) c ∗ Vm m ρ c 4 ∗ AsE (F := F) c ∗ ArE (F := F) c ∗ RL m ρ ∗ Ow c 32 32 1 ∗ Amps c
    ∗ (Crd dsSem Nt c ∗ Crd arSem Na c ∗ Pos arSem c ∗ Crd drSem Nt c ∗ Pos drSem c ∗ Pos dsSem c ∗ Pos asSem c ∗ Own4 c ∗ OUT m ρ c a4 0 ∗ R))) (by ac_rfl) ?_
  refine run_step (part7_run m ρ (t := t) (R := iprop(Crd dsSem Nt c ∗ Crd arSem Na c ∗ Pos arSem c ∗ Crd drSem Nt c ∗ Pos drSem c ∗ Pos dsSem c ∗ Pos asSem c ∗ Own4 c ∗ OUT m ρ c a4 0 ∗ R))) ?_
  rintro ⟨v171, c0⟩
  refine bind_step ?_; rw [k0_part8_eq_skeleton, k0_part8_skel]
  iterate 3 refine am_send m ρ _ (by decide) (by decide) (Fin.ext (peerW_dev c _ (by decide))) (off46_eq c) (off44_eq c _ (by decide)) (off45_eq c) ?_
  refine ret_step ?_
  refine bind_step ?_; rw [k0_part9_eq_skeleton, k0_part9_skel]
  iterate 4 refine am_send m ρ _ (by decide) (by decide) (Fin.ext (peerW_dev c _ (by decide))) (off46_eq c) (off44_eq c _ (by decide)) (off45_eq c) ?_
  refine ret_step ?_
  refine bind_step ?_; rw [k0_part10_eq_skeleton, k0_part10_skel]
  iterate 3 refine am_send m ρ _ (by decide) (by decide) (Fin.ext (peerW_dev c _ (by decide))) (off46_eq c) (off44_eq c _ (by decide)) (off45_eq c) ?_
  refine ret_step ?_
  refine bind_step ?_; rw [k0_part11_eq_skeleton, k0_part11_skel]
  iterate 3 refine am_send m ρ _ (by decide) (by decide) (Fin.ext (peerW_dev c _ (by decide))) (off46_eq c) (off44_eq c _ (by decide)) (off45_eq c) ?_
  refine ret_step ?_
  refine bind_step ?_; rw [k0_part12_eq_skeleton, k0_part12_skel]
  iterate 4 refine am_send m ρ _ (by decide) (by decide) (Fin.ext (peerW_dev c _ (by decide))) (off46_eq c) (off44_eq c _ (by decide)) (off45_eq c) ?_
  refine ret_step ?_
  refine bind_step ?_; rw [k0_part13_eq_skeleton, k0_part13_skel]
  iterate 3 refine am_send m ρ _ (by decide) (by decide) (Fin.ext (peerW_dev c _ (by decide))) (off46_eq c) (off44_eq c _ (by decide)) (off45_eq c) ?_
  refine ret_step ?_
  refine bind_step ?_; rw [k0_part14_eq_skeleton, k0_part14_skel]
  iterate 3 refine am_send m ρ _ (by decide) (by decide) (Fin.ext (peerW_dev c _ (by decide))) (off46_eq c) (off44_eq c _ (by decide)) (off45_eq c) ?_
  refine ret_step ?_
  refine bind_step ?_; rw [k0_part15_eq_skeleton, k0_part15_skel]
  iterate 4 refine am_send m ρ _ (by decide) (by decide) (Fin.ext (peerW_dev c _ (by decide))) (off46_eq c) (off44_eq c _ (by decide)) (off45_eq c) ?_
  refine ret_step ?_
  refine bind_step ?_; rw [k0_part16_eq_skeleton, k0_part16_skel]
  iterate 3 refine am_send m ρ _ (by decide) (by decide) (Fin.ext (peerW_dev c _ (by decide))) (off46_eq c) (off44_eq c _ (by decide)) (off45_eq c) ?_
  refine ret_step ?_
  show iprop(RL m ρ ∗ Ow c 32 32 32 ∗ AM m ρ c 32 ∗ _) ⊢ _
  rw [am_done]
  refine ac_step (P' := iprop(RL m ρ ∗ Ow c 32 32 32 ∗ (Crd arSem Na c ∗ Pos arSem c) ∗ ((Crd drSem Nt c ∗ Pos drSem c) ∗ (Crd dsSem Nt c ∗ Pos dsSem c) ∗ (Crd asSem Na c ∗ Pos asSem c)
    ∗ owns (c : Thread nD τ) (sT c) fullShare (tile m ρ c c) ∗ owns (c : Thread nD τ) (rvT c) fullShare (tile m ρ c c) ∗ owns (c : Thread nD τ) (arR c) fullShare (arow m ρ c) ∗ asRest m ρ c ∗ Own4 c ∗ Vm m ρ c 4 ∗ OUT m ρ c a4 0 ∗ R))) (by ac_rfl) ?_
  rw [wt_start arSem Na (arPay m ρ c), wt_start drSem Nt (drPay m ρ c), wt_start dsSem Nt (dsPay c), wt_start asSem Na (asPay m ρ c)]
  show iprop(RL m ρ ∗ Ow c 32 32 32 ∗ War m ρ c 1 ∗ (Wdr m ρ c 1 ∗ Wds c 1 ∗ Was m ρ c 1
    ∗ owns (c : Thread nD τ) (sT c) fullShare (tile m ρ c c) ∗ owns (c : Thread nD τ) (rvT c) fullShare (tile m ρ c c) ∗ owns (c : Thread nD τ) (arR c) fullShare (arow m ρ c) ∗ asRest m ρ c ∗ Own4 c ∗ Vm m ρ c 4 ∗ OUT m ρ c a4 0 ∗ R)) ⊢ _
  refine bind_step ?_; rw [k0_part17_eq_skeleton, k0_part17_skel]
  iterate 3 refine ar_wait m ρ _ (by decide) (by decide) (off44_eq c _ (by decide)) ?_
  refine ret_step ?_
  refine bind_step ?_; rw [k0_part18_eq_skeleton, k0_part18_skel]
  iterate 4 refine ar_wait m ρ _ (by decide) (by decide) (off44_eq c _ (by decide)) ?_
  refine ret_step ?_
  refine bind_step ?_; rw [k0_part19_eq_skeleton, k0_part19_skel]
  iterate 4 refine ar_wait m ρ _ (by decide) (by decide) (off44_eq c _ (by decide)) ?_
  refine ret_step ?_
  refine bind_step ?_; rw [k0_part20_eq_skeleton, k0_part20_skel]
  iterate 3 refine ar_wait m ρ _ (by decide) (by decide) (off44_eq c _ (by decide)) ?_
  refine ret_step ?_
  refine bind_step ?_; rw [k0_part21_eq_skeleton, k0_part21_skel]
  iterate 4 refine ar_wait m ρ _ (by decide) (by decide) (off44_eq c _ (by decide)) ?_
  refine ret_step ?_
  refine bind_step ?_; rw [k0_part22_eq_skeleton, k0_part22_skel]
  iterate 3 refine ar_wait m ρ _ (by decide) (by decide) (off44_eq c _ (by decide)) ?_
  refine ret_step ?_
  refine bind_step ?_; rw [k0_part23_eq_skeleton, k0_part23_skel]
  iterate 4 refine ar_wait m ρ _ (by decide) (by decide) (off44_eq c _ (by decide)) ?_
  refine ret_step ?_
  refine bind_step ?_; rw [k0_part24_eq_skeleton, k0_part24_skel]
  iterate 3 refine ar_wait m ρ _ (by decide) (by decide) (off44_eq c _ (by decide)) ?_
  refine ret_step ?_
  refine bind_step ?_; rw [k0_part25_eq_skeleton, k0_part25_skel]
  iterate 3 refine ar_wait m ρ _ (by decide) (by decide) (off44_eq c _ (by decide)) ?_
  show iprop(RL m ρ ∗ Ow c 32 32 32 ∗ Wt arSem Na (arPay m ρ c) c 32 ∗ _) ⊢ _
  rw [wt_done]
  refine ac_step (P' := iprop((owns (c : Thread nD τ) (arR c) fullShare (arow m ρ c) ∗ bigSep (Finset.Ico 1 32) (fun n => arPay m ρ c (tgt c n))) ∗ (RL m ρ ∗ Ow c 32 32 32 ∗ Wdr m ρ c 1 ∗ (Wds c 1 ∗ Was m ρ c 1
    ∗ SV arSem c ∗ owns (c : Thread nD τ) (sT c) fullShare (tile m ρ c c) ∗ owns (c : Thread nD τ) (rvT c) fullShare (tile m ρ c c) ∗ asRest m ρ c ∗ Own4 c ∗ Vm m ρ c 4 ∗ OUT m ρ c a4 0 ∗ R)))) (by ac_rfl) ?_
  refine pre_step (sep_mono (rows_whole m ρ c) .rfl) ?_
  refine ar_whole_load m ρ ?_
  refine ret_step ?_
  refine ac_step (P' := iprop(RL m ρ ∗ Ow c 32 32 32 ∗ Wdr m ρ c 1 ∗ (Wds c 1 ∗ Was m ρ c 1
    ∗ SV arSem c ∗ ((arM : Memref sig .tc .vmem S32x128 .f32).view.loc (c : Thread nD τ) ↦{fullShare} gall m ρ) ∗ owns (c : Thread nD τ) (sT c) fullShare (tile m ρ c c) ∗ owns (c : Thread nD τ) (rvT c) fullShare (tile m ρ c c) ∗ asRest m ρ c ∗ Own4 c ∗ Vm m ρ c 4 ∗ OUT m ρ c a4 0 ∗ R))) (by ac_rfl) ?_
  refine bind_step ?_; rw [k0_part26_eq_skeleton, k0_part26_skel]
  iterate 3 refine dr_wait m ρ _ (by decide) (by decide) (off44_eq c _ (by decide)) ?_
  refine ret_step ?_
  refine bind_step ?_; rw [k0_part27_eq_skeleton, k0_part27_skel]
  iterate 3 refine dr_wait m ρ _ (by decide) (by decide) (off44_eq c _ (by decide)) ?_
  refine ret_step ?_
  refine bind_step ?_; rw [k0_part28_eq_skeleton, k0_part28_skel]
  iterate 3 refine dr_wait m ρ _ (by decide) (by decide) (off44_eq c _ (by decide)) ?_
  refine ret_step ?_
  refine bind_step ?_; rw [k0_part29_eq_skeleton, k0_part29_skel]
  iterate 4 refine dr_wait m ρ _ (by decide) (by decide) (off44_eq c _ (by decide)) ?_
  refine ret_step ?_
  refine bind_step ?_; rw [k0_part30_eq_skeleton, k0_part30_skel]
  iterate 3 refine dr_wait m ρ _ (by decide) (by decide) (off44_eq c _ (by decide)) ?_
  refine ret_step ?_
  refine bind_step ?_; rw [k0_part31_eq_skeleton, k0_part31_skel]
  iterate 3 refine dr_wait m ρ _ (by decide) (by decide) (off44_eq c _ (by decide)) ?_
  refine ret_step ?_
  refine bind_step ?_; rw [k0_part32_eq_skeleton, k0_part32_skel]
  iterate 3 refine dr_wait m ρ _ (by decide) (by decide) (off44_eq c _ (by decide)) ?_
  refine ret_step ?_
  refine bind_step ?_; rw [k0_part33_eq_skeleton, k0_part33_skel]
  iterate 3 refine dr_wait m ρ _ (by decide) (by decide) (off44_eq c _ (by decide)) ?_
  refine ret_step ?_
  refine bind_step ?_; rw [k0_part34_eq_skeleton, k0_part34_skel]
  iterate 3 refine dr_wait m ρ _ (by decide) (by decide) (off44_eq c _ (by decide)) ?_
  refine ret_step ?_
  refine bind_step ?_; rw [k0_part35_eq_skeleton, k0_part35_skel]
  iterate 3 refine dr_wait m ρ _ (by decide) (by decide) (off44_eq c _ (by decide)) ?_
  show iprop(RL m ρ ∗ Ow c 32 32 32 ∗ Wt drSem Nt (drPay m ρ c) c 32 ∗ _) ⊢ _
  rw [wt_done]
  refine ac_step (P' := iprop((owns (c : Thread nD τ) (rvT c) fullShare (tile m ρ c c) ∗ bigSep (Finset.Ico 1 32) (fun n => drPay m ρ c (tgt c n))) ∗ (RL m ρ ∗ Ow c 32 32 32 ∗ Wds c 1 ∗ Was m ρ c 1
    ∗ SV arSem c ∗ SV drSem c ∗ ((arM : Memref sig .tc .vmem S32x128 .f32).view.loc (c : Thread nD τ) ↦{fullShare} gall m ρ) ∗ owns (c : Thread nD τ) (sT c) fullShare (tile m ρ c c) ∗ asRest m ρ c ∗ Own4 c ∗ Vm m ρ c 4 ∗ OUT m ρ c a4 0 ∗ R))) (by ac_rfl) ?_
  rw [rv_whole]
  refine ac_step (P' := iprop(OUT m ρ c a4 0 ∗ RV m ρ c ∗ (RL m ρ ∗ Ow c 32 32 32 ∗ Wds c 1 ∗ Was m ρ c 1
    ∗ SV arSem c ∗ SV drSem c ∗ ((arM : Memref sig .tc .vmem S32x128 .f32).view.loc (c : Thread nD τ) ↦{fullShare} gall m ρ) ∗ owns (c : Thread nD τ) (sT c) fullShare (tile m ρ c c) ∗ asRest m ρ c ∗ Own4 c ∗ Vm m ρ c 4 ∗ R))) (by ac_rfl) ?_
  refine rv_load m ρ _ (by decide) rfl ?_
  refine ret_step ?_
  refine bind_step ?_; rw [k0_part36_eq_skeleton, k0_part36_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part37_eq_skeleton, k0_part37_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part38_eq_skeleton, k0_part38_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part39_eq_skeleton, k0_part39_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part40_eq_skeleton, k0_part40_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part41_eq_skeleton, k0_part41_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine ret_step ?_
  refine bind_step ?_; rw [k0_part42_eq_skeleton, k0_part42_skel]
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part43_eq_skeleton, k0_part43_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part44_eq_skeleton, k0_part44_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part45_eq_skeleton, k0_part45_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine rv_load m ρ _ (by decide) rfl ?_
  refine ret_step ?_
  refine bind_step ?_; rw [k0_part46_eq_skeleton, k0_part46_skel]
  refine out_store m ρ _ (by decide) rfl rfl ?_
  refine rv_load m ρ _ (by decide) rfl ?_
  refine out_store m ρ _ (by decide) rfl rfl ?_
  refine rv_load m ρ _ (by decide) rfl ?_
  refine out_store m ρ _ (by decide) rfl rfl ?_
  refine ret_step ?_
  show iprop(OUT m ρ c a4 32 ∗ RV m ρ c ∗ _) ⊢ _
  refine ac_step (P' := iprop(RL m ρ ∗ Ow c 32 32 32 ∗ Wds c 1 ∗ (Was m ρ c 1 ∗ (Late m ρ c ∗ Vm m ρ c 4 ∗ OUT m ρ c a4 32 ∗ R)))) (by unfold Late; ac_rfl) ?_
  refine bind_step ?_; rw [k0_part47_eq_skeleton, k0_part47_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part48_eq_skeleton, k0_part48_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine ret_step ?_
  refine bind_step ?_; rw [k0_part49_eq_skeleton, k0_part49_skel]
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part50_eq_skeleton, k0_part50_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part51_eq_skeleton, k0_part51_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine ret_step ?_
  refine bind_step ?_; rw [k0_part52_eq_skeleton, k0_part52_skel]
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part53_eq_skeleton, k0_part53_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part54_eq_skeleton, k0_part54_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine ret_step ?_
  refine bind_step ?_; rw [k0_part55_eq_skeleton, k0_part55_skel]
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part56_eq_skeleton, k0_part56_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine bind_step ?_; rw [k0_part57_eq_skeleton, k0_part57_skel]
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine ret_step ?_
  refine bind_step ?_; rw [k0_part58_eq_skeleton, k0_part58_skel]
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine ret_step ?_
  refine bind_step ?_; rw [k0_part59_eq_skeleton, k0_part59_skel]
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ds_wait m ρ _ (by decide) (by decide) (off44_eq c _ (by decide)) ?_
  refine as_wait m ρ _ (by decide) (by decide) (off44_eq c _ (by decide)) ?_
  refine ret_step ?_
  refine ret_step ?_
  exact .rfl

end Cert.KProof

end
-- ==== Proof.Tiles.lean ====
/-
The last point of a column group: the running maximum, at the first of them the barrier, then the group's eight tiles stored and sent.
-/
module

public import proofs.«01_k».proof.Proof.Finish

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The running product, as the step before `s` left it; at the first step of a group it may be anything. -/
def Yx (c : Dev nD) (s : ℕ) : sProp 𝕄 := ((ygM : Memref sig .tc .vmem S128x2048 .f32).view.loc (c : Thread nD τ) ↦{fullShare} yg m ρ c s)
/-- The duties of a device's own transfers. -/
def BTok (c : Dev nD) : sProp 𝕄 := bigSep (Finset.univ.erase c) fun t =>
  iprop((dutyTok ER (ds c t) 0 0 ∗ dutyTok ER (dr t c) 0 0) ∗ (dutyTok ER (ac c t) 0 0 ∗ dutyTok ER (ar t c) 0 0))
/-- Before the barrier: its credits, its position, and the duties of the transfers. -/
def BB (c : Dev nD) : sProp 𝕄 := iprop((cred (tallyAt (bar c) () 31) ∗ atPos ER (bar c) 0 ∅ 0) ∗ BTok (F := F) c)
/-- After the barrier: its counter at zero. -/
def BV (c : Dev nD) : sProp 𝕄 := iprop(semVal (bar c) 0)
/-- The send buffer, anything in its places. -/
def SE (c : Dev nD) : sProp 𝕄 := bigSep Finset.univ fun t => iprop(∃ X, owns (c : Thread nD τ) (sT t) fullShare X)
/-- The exchange between the points: before the barrier, and after it. -/
def EX (c : Dev nD) (s : ℕ) : sProp 𝕄 := if s < 4 then iprop(BB (F := F) c ∗ SE (F := F) c) else iprop(BV (F := F) c ∗ DT m ρ c (8 * (s / 4)) ∗ Amps (F := F) c)

/-- The barrier's signals and the duties make up what the transfers spend. -/
theorem bar_deal (c : Dev nD) :
    iprop(bigSep (Finset.univ.erase c) (barPay (F := F) c) ∗ (BTok (F := F) c ∗ SE (F := F) c)) = iprop(DT m ρ c 0 ∗ Amps (F := F) c) := by
  have hA : Amps (F := F) c = bigSep (Finset.univ.erase c) fun t =>
      iprop(dutyTok ER (ac c t) 0 0 ∗ dutyTok ER (ar t c) 0 0 ∗ ∃ X, owns (t : Thread nD τ) (arR c) fullShare X) :=
    over_others c (A := fun t => iprop(dutyTok ER (ac c t) 0 0 ∗ dutyTok ER (ar t c) 0 0 ∗ ∃ X, owns (t : Thread nD τ) (arR c) fullShare X))
  have hD : DT m ρ c 0 = iprop(bigSep (Finset.univ.erase c) (datTok (F := F) c) ∗ SE (F := F) c) := by
    unfold DT
    rw [emp0 (le_refl 0), emp_r]
    have h1 := over_all (A := fun t => iprop((if t = c then iprop(emp) else datTok (F := F) c t) ∗ ∃ X, owns (c : Thread nD τ) (sT t) fullShare X))
    refine h1.trans ?_
    rw [bigSep_sep', bigSep_take (Finset.mem_univ c), if_pos rfl, emp_l]
    unfold SE
    refine congrArg (fun x => iprop(x ∗ _)) (bigSep_congr fun t ht => if_neg (Finset.ne_of_mem_erase ht))
  rw [hA, hD]
  have hb : bigSep (Finset.univ.erase c) (barPay (F := F) c) = iprop(bigSep (Finset.univ.erase c) (fun t => iprop(∃ X, owns (t : Thread nD τ) (rvT c) fullShare X))
      ∗ bigSep (Finset.univ.erase c) (fun t => iprop(∃ X, owns (t : Thread nD τ) (arR c) fullShare X))) := bigSep_sep' ..
  have hd : bigSep (Finset.univ.erase c) (datTok (F := F) c) = iprop(bigSep (Finset.univ.erase c) (fun t => iprop(dutyTok ER (ds c t) 0 0 ∗ dutyTok ER (dr t c) 0 0))
      ∗ bigSep (Finset.univ.erase c) (fun t => iprop(∃ X, owns (t : Thread nD τ) (rvT c) fullShare X))) := by
    rw [← bigSep_sep']
    exact bigSep_congr fun t _ => by unfold datTok; ac_rfl
  have ha : bigSep (Finset.univ.erase c) (fun t =>
      iprop(dutyTok ER (ac c t) 0 0 ∗ dutyTok ER (ar t c) 0 0 ∗ ∃ X, owns (t : Thread nD τ) (arR c) fullShare X) : Dev nD → sProp 𝕄) =
      iprop(bigSep (Finset.univ.erase c) (fun t => iprop(dutyTok ER (ac c t) 0 0 ∗ dutyTok ER (ar t c) 0 0))
      ∗ bigSep (Finset.univ.erase c) (fun t => iprop(∃ X, owns (t : Thread nD τ) (arR c) fullShare X))) := by
    rw [← bigSep_sep']
    exact bigSep_congr fun t _ => by ac_rfl
  have ht : BTok (F := F) c = iprop(bigSep (Finset.univ.erase c) (fun t => iprop(dutyTok ER (ds c t) 0 0 ∗ dutyTok ER (dr t c) 0 0))
      ∗ bigSep (Finset.univ.erase c) (fun t => iprop(dutyTok ER (ac c t) 0 0 ∗ dutyTok ER (ar t c) 0 0))) := bigSep_sep' ..
  rw [hb, hd, ha, ht]
  ac_rfl

/-- The tiles of a column group are cut from its activations. -/
theorem tile_eq (c : Dev nD) (t : Fin cfg0.N) (h5 : t.val % 4 = 3) (n : ℕ) (h : n < 8) :
    tile m ρ c (D (8 * (t.val / 4) + n)) = cut (k0_pay59 (yg m ρ c (t.val + 1))) ⟨n, h⟩ := by
  have ht : t.val < 16 := t.isLt
  unfold tile
  have e1 : 4 * ((D (8 * (t.val / 4) + n)).val / 8) + 4 = t.val + 1 := by rw [D_val]; omega
  have e2 : (D (8 * (t.val / 4) + n)).val % 8 = n := by rw [D_val]; omega
  rw [e1]
  exact congrArg _ (Fin.ext e2)

/-- The printed first tile is tile 0 of the rectified product. -/
theorem cut_0 (v : FVec F S128x2048 .f32) : k0_pay60 v = cut (k0_pay59 v) ⟨0, by decide⟩ := shapeCast_self _ _
/-- The printed second tile is tile 1 of the rectified product. -/
theorem cut_1 (v : FVec F S128x2048 .f32) : k0_pay61 v = cut (k0_pay59 v) ⟨1, by decide⟩ := shapeCast_self _ _
/-- The printed third tile is tile 2. -/
theorem cut_2 (v : FVec F S128x2048 .bf16) : k0_pay62 v = cut v ⟨2, by decide⟩ := shapeCast_self _ _
/-- The printed fourth tile is tile 3. -/
theorem cut_3 (v : FVec F S128x2048 .bf16) : k0_pay63 v = cut v ⟨3, by decide⟩ := shapeCast_self _ _
/-- The printed fifth tile is tile 4. -/
theorem cut_4 (v : FVec F S128x2048 .bf16) : k0_pay64 v = cut v ⟨4, by decide⟩ := shapeCast_self _ _
/-- The printed sixth tile is tile 5. -/
theorem cut_5 (v : FVec F S128x2048 .bf16) : k0_pay1 (k0_pay65 v) = cut v ⟨5, by decide⟩ := shapeCast_self _ _
/-- The printed seventh tile is tile 6. -/
theorem cut_6 (v : FVec F S128x2048 .bf16) : k0_pay2 v = cut v ⟨6, by decide⟩ := shapeCast_self _ _
/-- The printed eighth tile is tile 7. -/
theorem cut_7 (v : FVec F S128x2048 .bf16) : k0_pay3 v = cut v ⟨7, by decide⟩ := shapeCast_self _ _

/-- Loading the running product reads it. -/
theorem yg_load {α : Type} {Q : α → sProp 𝕄} {c : Dev nD} {R : sProp 𝕄} {s : ℕ} {ib hl}
    {k : Vec F S128x2048 .f32 → Prog (TpuEff nD τ sig (Elt F) Λ₀ .tc) α}
    (h : iprop(Yx m ρ c s ∗ R) ⊢ Wpc c (k (yg m ρ c s)) Q) :
    iprop(Yx m ρ c s ∗ R) ⊢ Wpc c (Prog.lift (.load (ygM : Memref sig .tc .vmem S128x2048 .f32) (Rect.unit (s := S128x2048) ![0, 0] S128x2048.size ib).toLoadRect hl) >>= k) Q :=
  load_whole cc0_scratch2 (Memref.readAt_unit_zero (Elt F) cc0_scratch2 (by funext a; fin_cases a <;> rfl) ib (yg m ρ c s)) h

/-- Storing the next running maximum puts it in place of the old one. -/
theorem vm_store {α : Type} {Q : α → sProp 𝕄} {c : Dev nD} {R : sProp 𝕄} {g : ℕ} {ib hx hm} {w : Vec F S128x2048 .f32} (hw : w = vm m ρ c (g + 1))
    {k : PUnit → Prog (TpuEff nD τ sig (Elt F) Λ₀ .tc) α}
    (h : iprop(Vm m ρ c (g + 1) ∗ R) ⊢ Wpc c (k ⟨⟩) Q) :
    iprop(Vm m ρ c g ∗ R) ⊢ Wpc c (Prog.lift (.store (vmM : Memref sig .tc .vmem S128x2048 .f32) (Rect.unit (s := S128x2048) ![0, 0] S128x2048.size ib) w Finset.univ hx hm) >>= k) Q := by
  subst hw
  exact store_whole (Memref.write_access_unit_zero_univ (Elt F) cc0_scratch3 (by funext a; fin_cases a <;> rfl) ib _ _) h

/-- The run of a group's last point up to its second tile: the maximum is updated, the barrier passed at the first group, two tiles sent. -/
theorem part61_run {t : Fin cfg0.N} {a2 ha2 a4 ha4} {c : Dev nD} {v4 h5} {R : sProp 𝕄} (h5' : t.val % 4 = 3) :
    iprop(RL m ρ ∗ Ow c 32 (8 * (t.val / 4)) 1 ∗ EX m ρ c t.val ∗ (Yx m ρ c (t.val + 1) ∗ Vm m ρ c (t.val / 4) ∗ R))
      ⊢ Wpc c (k0_part61 (F := F) (grid0.coords t) a2 ha2 (Memref.whole main_arg1) (Memref.isWhole_whole _) a4 ha4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (BitVec.ofNat 32 (grid0.coords t 0).val) c v4 h5)
        (fun v => iprop(⌜v = ⟨k0_pay59 (yg m ρ c (t.val + 1)), 8#32⟩⌝ ∗ (RL m ρ ∗ Ow c 32 (8 * (t.val / 4) + 2) 1 ∗ DT m ρ c (8 * (t.val / 4) + 2)
          ∗ (BV c ∗ Amps c ∗ Yx m ρ c (t.val + 1) ∗ Vm m ρ c (t.val / 4 + 1) ∗ R)))) := by
  have ht : t.val < 16 := t.isLt
  rw [k0_part61_eq_skeleton, k0_part61_skel]
  refine ac_step (P' := iprop(Yx m ρ c (t.val + 1) ∗ (RL m ρ ∗ Ow c 32 (8 * (t.val / 4)) 1 ∗ EX m ρ c t.val ∗ Vm m ρ c (t.val / 4) ∗ R))) (by ac_rfl) ?_
  refine yg_load m ρ ?_
  refine ac_step (P' := iprop(Vm m ρ c (t.val / 4) ∗ (RL m ρ ∗ Ow c 32 (8 * (t.val / 4)) 1 ∗ EX m ρ c t.val ∗ Yx m ρ c (t.val + 1) ∗ R))) (by ac_rfl) ?_
  refine vm_load m ρ ?_
  refine vm_load m ρ ?_
  refine vm_store m ρ (by rw [vm, show 4 * (t.val / 4) + 4 = t.val + 1 by omega]) ?_
  have key : ∀ {α : Type} {Q : α → sProp 𝕄} {C : Prop} {inst : Decidable C} (hC : C ↔ t.val < 4) {rest : Prog (TpuEff nD τ sig (Elt F) Λ₀ .tc) α},
      (iprop(RL m ρ ∗ Ow c 32 (8 * (t.val / 4) + 0) 1 ∗ DT m ρ c (8 * (t.val / 4) + 0) ∗ (BV c ∗ Amps c ∗ Yx m ρ c (t.val + 1) ∗ Vm m ρ c (t.val / 4 + 1) ∗ R)) ⊢ Wpc c rest Q) →
      (iprop(Vm m ρ c (t.val / 4 + 1) ∗ (RL m ρ ∗ Ow c 32 (8 * (t.val / 4)) 1 ∗ EX m ρ c t.val ∗ Yx m ρ c (t.val + 1) ∗ R))
        ⊢ Wpc c (@dite _ C inst (fun _ => semWaitWord barS 31#32 >>= fun _ => rest) (fun _ => rest)) Q) := by
    intro α Q C inst hC rest h
    by_cases h4 : t.val < 4
    · rw [dif_pos (hC.mpr h4), EX, if_pos h4]
      unfold BB
      refine ac_step (P' := iprop(RL m ρ ∗ Ow c 32 (8 * (t.val / 4)) 1 ∗ (cred (tallyAt (bar c) () 31) ∗ atPos ER (bar c) 0 ∅ 0)
        ∗ ((BTok c ∗ SE c) ∗ Vm m ρ c (t.val / 4 + 1) ∗ Yx m ρ c (t.val + 1) ∗ R))) (by ac_rfl) ?_
      refine bar_step m ρ ?_
      refine ac_step (P' := iprop((bigSep (Finset.univ.erase c) (barPay c) ∗ (BTok c ∗ SE c)) ∗ (RL m ρ ∗ Ow c 32 (8 * (t.val / 4)) 1 ∗ BV c
        ∗ Vm m ρ c (t.val / 4 + 1) ∗ Yx m ρ c (t.val + 1) ∗ R))) (by unfold BV; ac_rfl) ?_
      rw [bar_deal m ρ c]
      rw [show t.val / 4 = 0 by omega] at h ⊢
      exact ac_step (by ac_rfl) h
    · rw [dif_neg (fun x => h4 (hC.mp x)), EX, if_neg h4]
      exact ac_step (by ac_rfl) h
  refine key (arg0_zero t) ?_
  refine tile_step m ρ (8 * (t.val / 4) + 0) (by omega) (off9_eq t 0 (by decide)) ((cut_0 _).trans (tile_eq m ρ c t h5' 0 (by decide)).symm) (otherW_iff t c 0 (by decide))
    (fun hC hc {R} h => dsend_step m ρ (D (8 * (t.val / 4) + 0)) hc _ (by omega) rfl (Fin.ext (tileW_dev t 0 (by decide))) (vec3 (tileW_val t 0 (by decide))) (vec3 (selfW_val c))
      (vec1 (tileW_val t 0 (by decide))) (vec1 (selfW_val c)) h) ?_
  refine tile_step m ρ (8 * (t.val / 4) + 1) (by omega) (off9_eq t 1 (by decide)) ((cut_1 _).trans (tile_eq m ρ c t h5' 1 (by decide)).symm) (otherW_iff t c 1 (by decide))
    (fun hC hc {R} h => dsend_step m ρ (D (8 * (t.val / 4) + 1)) hc _ (by omega) rfl (Fin.ext (tileW_dev t 1 (by decide))) (vec3 (tileW_val t 1 (by decide))) (vec3 (selfW_val c))
      (vec1 (tileW_val t 1 (by decide))) (vec1 (selfW_val c)) h) ?_
  refine ret_step ?_
  iintro H
  isplitr; · ipureintro; rfl
  iexact H

/-- The run of a group's last point over its third, fourth and fifth tile. -/
theorem part62_run {t : Fin cfg0.N} {a2 ha2 a4 ha4} {c : Dev nD} {v4 h5 c8} {R : sProp 𝕄} (h5' : t.val % 4 = 3) :
    iprop(RL m ρ ∗ Ow c 32 (8 * (t.val / 4) + 2) 1 ∗ DT m ρ c (8 * (t.val / 4) + 2) ∗ R)
      ⊢ Wpc c (k0_part62 (F := F) (grid0.coords t) a2 ha2 (Memref.whole main_arg1) (Memref.isWhole_whole _) a4 ha4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (BitVec.ofNat 32 (grid0.coords t 0).val) c v4 h5 (k0_pay59 (yg m ρ c (t.val + 1))) c8)
        (fun v => iprop(⌜v.2 = k0_pay65 (k0_pay59 (yg m ρ c (t.val + 1)))⌝ ∗ (RL m ρ ∗ Ow c 32 (8 * (t.val / 4) + 5) 1 ∗ DT m ρ c (8 * (t.val / 4) + 5) ∗ R))) := by
  have ht : t.val < 16 := t.isLt
  rw [k0_part62_eq_skeleton, k0_part62_skel]
  refine tile_step m ρ (8 * (t.val / 4) + 2) (by omega) (off9_eq t 2 (by decide)) ((cut_2 _).trans (tile_eq m ρ c t h5' 2 (by decide)).symm) (otherW_iff t c 2 (by decide))
    (fun hC hc {R} h => dsend_step m ρ (D (8 * (t.val / 4) + 2)) hc _ (by omega) rfl (Fin.ext (tileW_dev t 2 (by decide))) (vec3 (tileW_val t 2 (by decide))) (vec3 (selfW_val c))
      (vec1 (tileW_val t 2 (by decide))) (vec1 (selfW_val c)) h) ?_
  refine tile_step m ρ (8 * (t.val / 4) + 3) (by omega) (off9_eq t 3 (by decide)) ((cut_3 _).trans (tile_eq m ρ c t h5' 3 (by decide)).symm) (otherW_iff t c 3 (by decide))
    (fun hC hc {R} h => dsend_step m ρ (D (8 * (t.val / 4) + 3)) hc _ (by omega) rfl (Fin.ext (tileW_dev t 3 (by decide))) (vec3 (tileW_val t 3 (by decide))) (vec3 (selfW_val c))
      (vec1 (tileW_val t 3 (by decide))) (vec1 (selfW_val c)) h) ?_
  refine tile_step m ρ (8 * (t.val / 4) + 4) (by omega) (off9_eq t 4 (by decide)) ((cut_4 _).trans (tile_eq m ρ c t h5' 4 (by decide)).symm) (otherW_iff t c 4 (by decide))
    (fun hC hc {R} h => dsend_step m ρ (D (8 * (t.val / 4) + 4)) hc _ (by omega) rfl (Fin.ext (tileW_dev t 4 (by decide))) (vec3 (tileW_val t 4 (by decide))) (vec3 (selfW_val c))
      (vec1 (tileW_val t 4 (by decide))) (vec1 (selfW_val c)) h) ?_
  refine ret_step ?_
  iintro H
  isplitr; · ipureintro; rfl
  iexact H

end Cert.KProof

end
-- ==== Proof.Prod.lean ====
/-
A point of the grid up to the product: at the first point the weights' ring started, the activations laid out by blocks and the
barrier signalled; at every point the block waited for and the running product updated.
-/
module

public import proofs.«01_k».proof.Proof.Tiles

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Asking for the device gives `c`. -/
theorem dev_step {α : Type} {Q : α → sProp 𝕄} {c : Dev nD} {P : sProp 𝕄} {k : Dev nD → Prog (TpuEff nD τ sig (Elt F) Λ₀ .tc) α}
    (h : P ⊢ Wpc c (k c) Q) : P ⊢ Wpc c (Prog.lift .deviceId >>= k) Q := by
  refine lift_step ?_
  exact h.trans (Entails.of_eq (wp_deviceId 𝒱₀ (c : Thread nD τ) none Set.univ (k := k)).symm)

/-- A conditional whose condition holds runs its first branch. -/
theorem dite_t {α : Type} {Q : α → sProp 𝕄} {c : Dev nD} {P : sProp 𝕄} {C : Prop} {inst : Decidable C} {B : C → Prog (TpuEff nD τ sig (Elt F) Λ₀ .tc) α} {E}
    (hC : C) (h : P ⊢ Wpc c (B hC) Q) : P ⊢ Wpc c (@dite _ C inst B E) Q := by rw [dif_pos hC]; exact h
/-- A conditional whose condition fails runs its second branch. -/
theorem dite_f {α : Type} {Q : α → sProp 𝕄} {c : Dev nD} {P : sProp 𝕄} {C : Prop} {inst : Decidable C} {B : C → Prog (TpuEff nD τ sig (Elt F) Λ₀ .tc) α} {E}
    (hC : ¬ C) (h : P ⊢ Wpc c (E hC) Q) : P ⊢ Wpc c (@dite _ C inst B E) Q := by rw [dif_neg hC]; exact h

/-! ## The activations -/

/-- A block of the activations where the kernel lays it out: anything there, and the block there. -/
def XE (c : Dev nD) (k : Fin 4) : sProp 𝕄 := iprop(∃ X, owns (c : Thread nD τ) ((xpM : Memref sig .tc .vmem S4x128x1024 .f32).slice (rX k) (fun _ => rfl)) fullShare X)
/-- The `k`-th block of the cut activations, filled. -/
def XB (c : Dev nD) (k : Fin 4) : sProp 𝕄 := owns (c : Thread nD τ) ((xpM : Memref sig .tc .vmem S4x128x1024 .f32).slice (rX k) (fun _ => rfl)) fullShare (xBlk m ρ c k)
/-- All four blocks of the cut activations, filled. -/
def Xp (c : Dev nD) : sProp 𝕄 := bigSep Finset.univ (XB m ρ c)
/-- All four blocks of the cut activations, anything in them. -/
def XpE (c : Dev nD) : sProp 𝕄 := bigSep Finset.univ (XE (F := F) c)
/-- The running maximum's buffer, anything in it. -/
def VmE (c : Dev nD) : sProp 𝕄 := iprop(∃ f, ((vmM : Memref sig .tc .vmem S128x2048 .f32).view.loc (c : Thread nD τ) ↦{fullShare} f))
/-- The running product's buffer before point `s`: anything at the first point of a group, else the product so far. -/
def Yg (c : Dev nD) (s : ℕ) : sProp 𝕄 :=
  iprop(∃ f, ⌜s % 4 ≠ 0 → f = yg m ρ c s⌝ ∗ ((ygM : Memref sig .tc .vmem S128x2048 .f32).view.loc (c : Thread nD τ) ↦{fullShare} f))
/-- The activations as staged. -/
def X2 (c : Dev nD) : sProp 𝕄 := owns (c : Thread nD τ) xM fullShare (xstg m ρ c)

/-- A family over four indices, written out. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- Loading a block of columns of the activations reads them. -/
theorem x_load {α : Type} {Q : α → sProp 𝕄} {c : Dev nD} {R : sProp 𝕄} (k : Fin 4) {off : Fin 2 → ℕ} (he : off = ![0, 1024 * k.val]) {ib : ∀ a, off a + S128x1024.size a ≤ S128x4096.size a} {hl}
    {p : Vec F S128x1024 .f32 → Prog (TpuEff nD τ sig (Elt F) Λ₀ .tc) α}
    (h : iprop(X2 m ρ c ∗ R) ⊢ Wpc c (p ((xM : Memref sig .tc .vmem S128x4096 .f32).view.readAt (Elt F) (rx k).toLoadRect (xstg m ρ c))) Q) :
    iprop(X2 m ρ c ∗ R) ⊢ Wpc c (Prog.lift (.load (xM : Memref sig .tc .vmem S128x4096 .f32) (Rect.unit (s := S128x4096) off S128x1024.size ib).toLoadRect hl) >>= p) Q := by
  subst he
  have e : X2 m ρ c = ((xM : Memref sig .tc .vmem S128x4096 .f32).view.loc (c : Thread nD τ) ↦{fullShare} xstg m ρ c) := owns_buf c cc0_stg0_0 _
  rw [e] at h ⊢
  exact load_whole (mem := xM) (r := rx k) cc0_stg0_0 rfl h

/-- Loading a block of the cut activations reads something. -/
theorem xp_load_ex {α : Type} {Q : α → sProp 𝕄} {c : Dev nD} {R : sProp 𝕄} (k : Fin 4) {off : Fin 3 → ℕ} (he : off = ![k.val, 0, 0]) {ib : ∀ a, off a + S1x128x1024.size a ≤ S4x128x1024.size a} {hl}
    {p : Vec F S1x128x1024 .f32 → Prog (TpuEff nD τ sig (Elt F) Λ₀ .tc) α}
    (h : ∀ X, iprop(XE c k ∗ R) ⊢ Wpc c (p X) Q) :
    iprop(XE c k ∗ R) ⊢ Wpc c (Prog.lift (.load (xpM : Memref sig .tc .vmem S4x128x1024 .f32) (Rect.unit (s := S4x128x1024) off S1x128x1024.size ib).toLoadRect hl) >>= p) Q := by
  subst he; exact load_ex (b := xpM) (r := rX k) h

/-- Storing a block of the cut activations fills it. -/
theorem xp_store {α : Type} {Q : α → sProp 𝕄} {c : Dev nD} {R : sProp 𝕄} (k : Fin 4) {off : Fin 3 → ℕ} (he : off = ![k.val, 0, 0]) {ib : ∀ a, off a + S1x128x1024.size a ≤ S4x128x1024.size a} {hx hm}
    {w : Vec F S1x128x1024 .f32} (hw : w = xBlk m ρ c k) {p : PUnit → Prog (TpuEff nD τ sig (Elt F) Λ₀ .tc) α}
    (h : iprop(XB m ρ c k ∗ R) ⊢ Wpc c (p ⟨⟩) Q) :
    iprop(XE c k ∗ R) ⊢ Wpc c (Prog.lift (.store (xpM : Memref sig .tc .vmem S4x128x1024 .f32) (Rect.unit (s := S4x128x1024) off S1x128x1024.size ib) w Finset.univ hx hm) >>= p) Q := by
  subst he hw; exact store_step (b := xpM) (r := rX k) h

/-- Loading a filled block of the cut activations reads it. -/
theorem xp_load {α : Type} {Q : α → sProp 𝕄} {c : Dev nD} {R : sProp 𝕄} (k : Fin 4) {off : Fin 3 → ℕ} (he : off = ![k.val, 0, 0]) {ib : ∀ a, off a + S1x128x1024.size a ≤ S4x128x1024.size a} {hl}
    {p : Vec F S1x128x1024 .f32 → Prog (TpuEff nD τ sig (Elt F) Λ₀ .tc) α}
    (h : iprop(XB m ρ c k ∗ R) ⊢ Wpc c (p (xBlk m ρ c k)) Q) :
    iprop(XB m ρ c k ∗ R) ⊢ Wpc c (Prog.lift (.load (xpM : Memref sig .tc .vmem S4x128x1024 .f32) (Rect.unit (s := S4x128x1024) off S1x128x1024.size ib).toLoadRect hl) >>= p) Q := by
  subst he; exact load_step (b := xpM) (r := rX k) fullShare (xBlk m ρ c k) h

/-- Loading a slot of the ring reads what is in it. -/
theorem w_load {α : Type} {Q : α → sProp 𝕄} {c : Dev nD} {R : sProp 𝕄} (k : Fin 4) {off : Fin 3 → ℕ} (he : off = ![k.val, 0, 0]) {ib : ∀ a, off a + S1x1024x2048.size a ≤ S4x1024x2048.size a} {hl}
    {p : Vec F S1x1024x2048 .f32 → Prog (TpuEff nD τ sig (Elt F) Λ₀ .tc) α} (X : Vec F S1x1024x2048 .f32)
    (h : iprop(owns (c : Thread nD τ) (wS k) fullShare X ∗ R) ⊢ Wpc c (p X) Q) :
    iprop(owns (c : Thread nD τ) (wS k) fullShare X ∗ R) ⊢ Wpc c (Prog.lift (.load (wM : Memref sig .tc .vmem S4x1024x2048 .f32) (Rect.unit (s := S4x1024x2048) off S1x1024x2048.size ib).toLoadRect hl) >>= p) Q := by
  subst he; exact load_step (b := wM) (r := rW k) fullShare X h

/-- The first store into the running maximum leaves zeros. -/
theorem vm_init {α : Type} {Q : α → sProp 𝕄} {c : Dev nD} {R : sProp 𝕄} {ib hl ib' hx hm} {p : PUnit → Prog (TpuEff nD τ sig (Elt F) Λ₀ .tc) α}
    (h : iprop(Vm m ρ c 0 ∗ R) ⊢ Wpc c (p ⟨⟩) Q) :
    iprop(VmE c ∗ R) ⊢ Wpc c (Prog.lift (.load (vmM : Memref sig .tc .vmem S128x2048 .f32) (Rect.unit (s := S128x2048) ![0, 0] S128x2048.size ib).toLoadRect hl) >>= fun _ =>
      Prog.lift (.store (vmM : Memref sig .tc .vmem S128x2048 .f32) (Rect.unit (s := S128x2048) ![0, 0] S128x2048.size ib') (k0_pay8 (F := F)) Finset.univ hx hm) >>= p) Q := by
  unfold VmE; refine ex_step fun f => ?_
  refine load_whole (mem := vmM) cc0_scratch3 rfl ?_
  exact store_whole (mem := vmM) (Memref.write_access_unit_zero_univ (Elt F) cc0_scratch3 (by funext a; fin_cases a <;> rfl) ib' _ _) h

/-! ## The running product -/

/-- The first step of a column group puts the product down. -/
theorem yg_first {α : Type} {Q : α → sProp 𝕄} {c : Dev nD} {R : sProp 𝕄} {s : ℕ} (hs : s % 4 = 0) {ib hl ib' hx hm} {p : PUnit → Prog (TpuEff nD τ sig (Elt F) Λ₀ .tc) α}
    (h : iprop(Yx m ρ c (s + 1) ∗ R) ⊢ Wpc c (p ⟨⟩) Q) :
    iprop(Yg m ρ c s ∗ R) ⊢ Wpc c (Prog.lift (.load (ygM : Memref sig .tc .vmem S128x2048 .f32) (Rect.unit (s := S128x2048) ![0, 0] S128x2048.size ib).toLoadRect hl) >>= fun _ =>
      Prog.lift (.store (ygM : Memref sig .tc .vmem S128x2048 .f32) (Rect.unit (s := S128x2048) ![0, 0] S128x2048.size ib') (k0_pay67 (xBlk m ρ c (sl s)) (wBlk m ρ c s)) Finset.univ hx hm) >>= p) Q := by
  have e : yg m ρ c (s + 1) = k0_pay67 (xBlk m ρ c (sl s)) (wBlk m ρ c s) := by rw [yg, if_pos hs]
  unfold Yx at h; rw [e] at h
  unfold Yg; refine ex_step fun f => ?_
  refine pre_step (P' := iprop(((ygM : Memref sig .tc .vmem S128x2048 .f32).view.loc (c : Thread nD τ) ↦{fullShare} f) ∗ R)) ?_ ?_
  · iintro ⟨⟨-, H⟩, HR⟩
    isplitl [H] <;> iassumption
  refine load_whole (mem := ygM) cc0_scratch2 rfl ?_
  exact store_whole (mem := ygM) (Memref.write_access_unit_zero_univ (Elt F) cc0_scratch2 (by funext a; fin_cases a <;> rfl) ib' _ _) h
/-- The later ones add to it. -/
theorem yg_later {α : Type} {Q : α → sProp 𝕄} {c : Dev nD} {R : sProp 𝕄} {s : ℕ} (hs : ¬ s % 4 = 0) {ib hl ib' ib'' hl' hx hm} {p : PUnit → Prog (TpuEff nD τ sig (Elt F) Λ₀ .tc) α}
    (h : iprop(Yx m ρ c (s + 1) ∗ R) ⊢ Wpc c (p ⟨⟩) Q) :
    iprop(Yg m ρ c s ∗ R) ⊢ Wpc c (Prog.lift (.load (ygM : Memref sig .tc .vmem S128x2048 .f32) (Rect.unit (s := S128x2048) ![0, 0] S128x2048.size ib).toLoadRect hl) >>= fun v =>
      Prog.lift (.load (ygM : Memref sig .tc .vmem S128x2048 .f32) (Rect.unit (s := S128x2048) ![0, 0] S128x2048.size ib'').toLoadRect hl') >>= fun _ =>
      Prog.lift (.store (ygM : Memref sig .tc .vmem S128x2048 .f32) (Rect.unit (s := S128x2048) ![0, 0] S128x2048.size ib') (k0_pay68 (xBlk m ρ c (sl s)) (wBlk m ρ c s) v) Finset.univ hx hm) >>= p) Q := by
  have e : yg m ρ c (s + 1) = k0_pay68 (xBlk m ρ c (sl s)) (wBlk m ρ c s) (yg m ρ c s) := by rw [yg, if_neg hs]
  unfold Yx at h; rw [e] at h
  refine pre_step (P' := iprop(Yx m ρ c s ∗ R)) ?_ ?_
  · unfold Yg Yx
    iintro ⟨⟨%f, %hf, H⟩, HR⟩
    rw [← hf hs]
    isplitl [H] <;> iassumption
  refine yg_load m ρ ?_
  unfold Yx
  refine load_whole (mem := ygM) cc0_scratch2 rfl ?_
  exact store_whole (mem := ygM) (Memref.write_access_unit_zero_univ (Elt F) cc0_scratch2 (by funext a; fin_cases a <;> rfl) ib' _ _) h

/-! ## A point up to the product -/

/-- Before the block of the point is waited for. -/
def Mid (c : Dev nD) (s : ℕ) (R : sProp 𝕄) : sProp 𝕄 :=
  iprop(RL m ρ ∗ Ow c 32 (8 * (s / 4)) 1 ∗ WS m ρ c (min (s + 4) 16) s (s + 4) ∗ (Xp m ρ c ∗ Yg m ρ c s ∗ Vm m ρ c (s / 4) ∗ X2 m ρ c ∗ R))
/-- After the running product is updated. -/
def Mid' (c : Dev nD) (s : ℕ) (R : sProp 𝕄) : sProp 𝕄 :=
  iprop(RL m ρ ∗ Ow c 32 (8 * (s / 4)) 1 ∗ WS m ρ c (min (s + 4) 16) (s + 1) (s + 5) ∗ (Xp m ρ c ∗ Yx m ρ c (s + 1) ∗ Vm m ρ c (s / 4) ∗ X2 m ρ c ∗ R))
/-- Before the first point. -/
def Start (c : Dev nD) (R : sProp 𝕄) : sProp 𝕄 :=
  iprop(RL m ρ ∗ Ow c 1 0 1 ∗ WS m ρ c 0 0 4 ∗ (bigSep (Finset.Ico 1 32) (sigTok (F := F) c) ∗ XpE (F := F) c ∗ Yg m ρ c 0 ∗ VmE (F := F) c ∗ X2 m ρ c ∗ R))

/-- The first point's own part leads to the state in which every other point starts. -/
theorem start_join {α : Type} {Q : α → sProp 𝕄} {c : Dev nD} {R : sProp 𝕄} (s : ℕ) {C : Prop} {inst : Decidable C} (hC : C ↔ s = 0)
    {rest : Prog (TpuEff nD τ sig (Elt F) Λ₀ .tc) α} {B : C → Prog (TpuEff nD τ sig (Elt F) Λ₀ .tc) α}
    (hB : ∀ hC : C, (Mid m ρ c 0 R ⊢ Wpc c rest Q) → (Start m ρ c R ⊢ Wpc c (B hC) Q))
    (h : Mid m ρ c s R ⊢ Wpc c rest Q) :
    (if s = 0 then Start m ρ c R else Mid m ρ c s R) ⊢ Wpc c (@dite _ C inst B (fun _ => rest)) Q := by
  by_cases h0 : s = 0
  · rw [if_pos h0, dif_pos (hC.mpr h0)]
    subst h0
    exact hB _ h
  · rw [if_neg h0, dif_neg (fun x => h0 (hC.mp x))]
    exact h

/-- The run of a grid point up to the running product. -/
theorem part63_run {t : Fin cfg0.N} {ha2 a4 ha4} {c : Dev nD} {R : sProp 𝕄} :
    (if t.val = 0 then Start m ρ c R else Mid m ρ c t.val R)
      ⊢ Wpc c (k0_part63 (F := F) (grid0.coords t) xM ha2 (Memref.whole main_arg1) (Memref.isWhole_whole _) a4 ha4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12)
        (fun v => iprop(⌜v.1 = BitVec.ofNat 32 (grid0.coords t 0).val ∧ v.2.2.1 = c⌝ ∗ Mid' m ρ c t.val R)) := by
  have ht : t.val < 16 := t.isLt
  rw [k0_part63_eq_skeleton, k0_part63_skel]
  refine dev_step ?_
  refine start_join m ρ t.val (cond1_iff t) ?_ ?_
  · intro h1 h
    unfold Start
    refine ac_step (P' := iprop(RL m ρ ∗ WS m ρ c 0 0 4 ∗ (Ow c 1 0 1 ∗ bigSep (Finset.Ico 1 32) (sigTok c) ∗ XpE c ∗ Yg m ρ c 0 ∗ VmE c ∗ X2 m ρ c ∗ R))) (by ac_rfl) ?_
    refine bind_step ?_; rw [k0_part1_eq_skeleton, k0_part1_skel]
    refine w_enq m ρ 0 0 4 (by decide) (by decide) (by decide) (by decide) (by decide) (by decide) (by decide) ?_
    refine w_enq m ρ 1 0 4 (by decide) (by decide) (by decide) (by decide) (by decide) (by decide) (by decide) ?_
    refine w_enq m ρ 2 0 4 (by decide) (by decide) (by decide) (by decide) (by decide) (by decide) (by decide) ?_
    refine w_enq m ρ 3 0 4 (by decide) (by decide) (by decide) (by decide) (by decide) (by decide) (by decide) ?_
    unfold XpE; rw [four]
    refine ac_step (P' := iprop(X2 m ρ c ∗ (XE c 0 ∗ XE c 1 ∗ XE c 2 ∗ XE c 3 ∗ RL m ρ ∗ WS m ρ c (3 + 1) 0 4 ∗ Ow c 1 0 1 ∗ bigSep (Finset.Ico 1 32) (sigTok c) ∗ Yg m ρ c 0 ∗ VmE c ∗ R))) (by ac_rfl) ?_
    refine x_load m ρ 0 (by decide) ?_
    refine ac_step (P' := iprop(XE c 0 ∗ (XE c 1 ∗ XE c 2 ∗ XE c 3 ∗ RL m ρ ∗ WS m ρ c (3 + 1) 0 4 ∗ Ow c 1 0 1 ∗ bigSep (Finset.Ico 1 32) (sigTok c) ∗ Yg m ρ c 0 ∗ VmE c ∗ X2 m ρ c ∗ R))) (by ac_rfl) ?_
    refine xp_load_ex 0 rfl fun _ => ?_
    refine xp_store m ρ 0 rfl rfl ?_
    refine ret_step ?_
    refine bind_step ?_; rw [k0_part2_eq_skeleton, k0_part2_skel]
    refine ac_step (P' := iprop(X2 m ρ c ∗ (XB m ρ c 0 ∗ XE c 1 ∗ XE c 2 ∗ XE c 3 ∗ RL m ρ ∗ WS m ρ c (3 + 1) 0 4 ∗ Ow c 1 0 1 ∗ bigSep (Finset.Ico 1 32) (sigTok c) ∗ Yg m ρ c 0 ∗ VmE c ∗ R))) (by ac_rfl) ?_
    refine x_load m ρ 1 (by decide) ?_
    refine ac_step (P' := iprop(XE c 1 ∗ (XB m ρ c 0 ∗ XE c 2 ∗ XE c 3 ∗ X2 m ρ c ∗ RL m ρ ∗ WS m ρ c (3 + 1) 0 4 ∗ Ow c 1 0 1 ∗ bigSep (Finset.Ico 1 32) (sigTok c) ∗ Yg m ρ c 0 ∗ VmE c ∗ R))) (by ac_rfl) ?_
    refine xp_load_ex 1 rfl fun _ => ?_
    refine xp_store m ρ 1 rfl rfl ?_
    refine ac_step (P' := iprop(X2 m ρ c ∗ (XB m ρ c 0 ∗ XB m ρ c 1 ∗ XE c 2 ∗ XE c 3 ∗ RL m ρ ∗ WS m ρ c (3 + 1) 0 4 ∗ Ow c 1 0 1 ∗ bigSep (Finset.Ico 1 32) (sigTok c) ∗ Yg m ρ c 0 ∗ VmE c ∗ R))) (by ac_rfl) ?_
    refine x_load m ρ 2 (by decide) ?_
    refine ac_step (P' := iprop(XE c 2 ∗ (XB m ρ c 0 ∗ XB m ρ c 1 ∗ XE c 3 ∗ X2 m ρ c ∗ RL m ρ ∗ WS m ρ c (3 + 1) 0 4 ∗ Ow c 1 0 1 ∗ bigSep (Finset.Ico 1 32) (sigTok c) ∗ Yg m ρ c 0 ∗ VmE c ∗ R))) (by ac_rfl) ?_
    refine xp_load_ex 2 rfl fun _ => ?_
    refine xp_store m ρ 2 rfl rfl ?_
    refine ac_step (P' := iprop(X2 m ρ c ∗ (XB m ρ c 0 ∗ XB m ρ c 1 ∗ XB m ρ c 2 ∗ XE c 3 ∗ RL m ρ ∗ WS m ρ c (3 + 1) 0 4 ∗ Ow c 1 0 1 ∗ bigSep (Finset.Ico 1 32) (sigTok c) ∗ Yg m ρ c 0 ∗ VmE c ∗ R))) (by ac_rfl) ?_
    refine x_load m ρ 3 (by decide) ?_
    refine ac_step (P' := iprop(XE c 3 ∗ (XB m ρ c 0 ∗ XB m ρ c 1 ∗ XB m ρ c 2 ∗ X2 m ρ c ∗ RL m ρ ∗ WS m ρ c (3 + 1) 0 4 ∗ Ow c 1 0 1 ∗ bigSep (Finset.Ico 1 32) (sigTok c) ∗ Yg m ρ c 0 ∗ VmE c ∗ R))) (by ac_rfl) ?_
    refine xp_load_ex 3 rfl fun _ => ?_
    refine xp_store m ρ 3 rfl rfl ?_
    refine ac_step (P' := iprop(VmE c ∗ ((XB m ρ c 0 ∗ XB m ρ c 1 ∗ XB m ρ c 2 ∗ XB m ρ c 3) ∗ X2 m ρ c ∗ RL m ρ ∗ WS m ρ c 4 0 4 ∗ Ow c 1 0 1 ∗ bigSep (Finset.Ico 1 32) (sigTok c) ∗ Yg m ρ c 0 ∗ R))) (by ac_rfl) ?_
    refine vm_init m ρ ?_
    rw [← four (XB m ρ c)]
    refine ac_step (P' := iprop(RL m ρ ∗ Ow c 1 0 1 ∗ bigSep (Finset.Ico 1 32) (sigTok c) ∗ (Xp m ρ c ∗ X2 m ρ c ∗ WS m ρ c 4 0 4 ∗ Yg m ρ c 0 ∗ Vm m ρ c 0 ∗ R))) (by unfold Xp; ac_rfl) ?_
    refine signal_step m ρ _ (by decide) (by decide) (Fin.ext (peerW_dev c _ (by decide))) ?_
    refine ret_step ?_
    refine bind_step ?_; rw [k0_part3_eq_skeleton, k0_part3_skel]
    iterate 6 refine signal_step m ρ _ (by decide) (by decide) (Fin.ext (peerW_dev c _ (by decide))) ?_
    refine ret_step ?_
    refine bind_step ?_; rw [k0_part4_eq_skeleton, k0_part4_skel]
    iterate 6 refine signal_step m ρ _ (by decide) (by decide) (Fin.ext (peerW_dev c _ (by decide))) ?_
    refine ret_step ?_
    refine bind_step ?_; rw [k0_part5_eq_skeleton, k0_part5_skel]
    iterate 6 refine signal_step m ρ _ (by decide) (by decide) (Fin.ext (peerW_dev c _ (by decide))) ?_
    refine ret_step ?_
    refine bind_step ?_; rw [k0_part6_eq_skeleton, k0_part6_skel]
    iterate 6 refine signal_step m ρ _ (by decide) (by decide) (Fin.ext (peerW_dev c _ (by decide))) ?_
    refine ret_step ?_
    iterate 6 refine signal_step m ρ _ (by decide) (by decide) (Fin.ext (peerW_dev c _ (by decide))) ?_
    show iprop(RL m ρ ∗ Ow c 32 0 1 ∗ bigSep (Finset.Ico 32 32) (sigTok c) ∗ _) ⊢ _
    rw [emp0 (le_refl 32), emp_l]
    refine ac_step ?_ h
    unfold Mid
    show _ = iprop(RL m ρ ∗ Ow c 32 0 1 ∗ WS m ρ c 4 0 4 ∗ (Xp m ρ c ∗ Yg m ρ c 0 ∗ Vm m ρ c 0 ∗ X2 m ρ c ∗ R))
    ac_rfl
  · unfold Mid
    refine w_wait m ρ _ t.val (t.val + 4) ht (by omega) (off1_eq t) ?_
    unfold Xp; rw [bigSep_take (Finset.mem_univ (sl t.val))]
    refine ac_step (P' := iprop(XB m ρ c (sl t.val) ∗ (owns (c : Thread nD τ) (wS (sl t.val)) fullShare (wBlk m ρ c t.val) ∗ bigSep (Finset.univ.erase (sl t.val)) (XB m ρ c)
      ∗ RL m ρ ∗ Ow c 32 (8 * (t.val / 4)) 1 ∗ WS m ρ c (min (t.val + 4) 16) (t.val + 1) (t.val + 4) ∗ Yg m ρ c t.val ∗ Vm m ρ c (t.val / 4) ∗ X2 m ρ c ∗ R))) (by ac_rfl) ?_
    refine xp_load m ρ _ (off4_eq t) ?_
    refine ac_step (P' := iprop(owns (c : Thread nD τ) (wS (sl t.val)) fullShare (wBlk m ρ c t.val) ∗ ((XB m ρ c (sl t.val) ∗ bigSep (Finset.univ.erase (sl t.val)) (XB m ρ c))
      ∗ RL m ρ ∗ Ow c 32 (8 * (t.val / 4)) 1 ∗ WS m ρ c (min (t.val + 4) 16) (t.val + 1) (t.val + 4) ∗ Yg m ρ c t.val ∗ Vm m ρ c (t.val / 4) ∗ X2 m ρ c ∗ R))) (by ac_rfl) ?_
    refine w_load _ (off5_eq t) _ ?_
    rw [← bigSep_take (A := XB m ρ c) (Finset.mem_univ (sl t.val))]
    refine ac_step (P' := iprop((owns (c : Thread nD τ) (wS (sl t.val)) fullShare (wBlk m ρ c t.val) ∗ WS m ρ c (min (t.val + 4) 16) (t.val + 1) (t.val + 4)) ∗ (Xp m ρ c
      ∗ RL m ρ ∗ Ow c 32 (8 * (t.val / 4)) 1 ∗ Yg m ρ c t.val ∗ Vm m ρ c (t.val / 4) ∗ X2 m ρ c ∗ R))) (by unfold Xp; ac_rfl) ?_
    refine pre_step (sep_mono (w_free m ρ c _ t.val _ (by omega)) .rfl) ?_
    refine ac_step (P' := iprop(Yg m ρ c t.val ∗ (RL m ρ ∗ Ow c 32 (8 * (t.val / 4)) 1 ∗ WS m ρ c (min (t.val + 4) 16) (t.val + 1) (t.val + 5) ∗ Xp m ρ c ∗ Vm m ρ c (t.val / 4) ∗ X2 m ρ c ∗ R))) (by ac_rfl) ?_
    have fin : iprop(Yx m ρ c (t.val + 1) ∗ (RL m ρ ∗ Ow c 32 (8 * (t.val / 4)) 1 ∗ WS m ρ c (min (t.val + 4) 16) (t.val + 1) (t.val + 5) ∗ Xp m ρ c ∗ Vm m ρ c (t.val / 4) ∗ X2 m ρ c ∗ R))
        = Mid' m ρ c t.val R := by unfold Mid'; ac_rfl
    by_cases h0 : t.val % 4 = 0
    · refine dite_t ((arg1_zero t).mpr h0) ?_
      refine yg_first m ρ h0 ?_
      refine dite_f (fun x => (arg1_pos t).mp x h0) ?_
      refine ret_step ?_
      rw [fin]
      iintro H
      isplitr; · ipureintro; exact ⟨rfl, rfl⟩
      iexact H
    · refine dite_f (fun x => h0 ((arg1_zero t).mp x)) ?_
      refine dite_t ((arg1_pos t).mpr h0) ?_
      refine yg_later m ρ h0 ?_
      refine ret_step ?_
      rw [fin]
      iintro H
      isplitr; · ipureintro; exact ⟨rfl, rfl⟩
      iexact H

end Cert.KProof

end
-- ==== Proof.Whole.lean ====
/-
A point of the grid whole: the product, the block four on asked for, at the end of a column group the tiles, and at the last
point the exchange of the rows and the result.
-/
module

public import proofs.«01_k».proof.Proof.Prod

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A fact held beside the rest may be assumed. -/
theorem pure_step {φ : Prop} {P Q : sProp 𝕄} (h : φ → P ⊢ Q) : iprop(⌜φ⌝ ∗ P) ⊢ Q := by
  iintro ⟨%hφ, H⟩
  iapply (h hφ)
  iexact H

/-- The result's stage, anything in it. -/
def AE (c : Dev nD) (a4 : Memref sig .tc .vmem S4096x256 .f32) : sProp 𝕄 := iprop(∃ X, owns (c : Thread nD τ) a4 fullShare X)
/-- What is untouched by the product. -/
def Rst (c : Dev nD) (a4 : Memref sig .tc .vmem S4096x256 .f32) (s : ℕ) : sProp 𝕄 := iprop(EX m ρ c s ∗ Ct (F := F) c ∗ AE (F := F) c a4)
/-- What a device holds before a point of the grid. -/
def In (c : Dev nD) (a4 : Memref sig .tc .vmem S4096x256 .f32) (s : ℕ) : sProp 𝕄 := if s = 0 then Start m ρ c (Rst m ρ c a4 s) else Mid m ρ c s (Rst m ρ c a4 s)
/-- What it holds after the last. -/
def Last (c : Dev nD) (a4 : Memref sig .tc .vmem S4096x256 .f32) : sProp 𝕄 :=
  iprop(RL m ρ ∗ Ow c 32 32 32 ∗ Wds (F := F) c 32 ∗ Was m ρ c 32 ∗ Late m ρ c ∗ Vm m ρ c 4 ∗ OUT m ρ c a4 32 ∗ BV (F := F) c ∗ Xp m ρ c ∗ Yx m ρ c 16 ∗ X2 m ρ c ∗ WS m ρ c 16 16 20)
/-- What a device holds after point `s`. -/
def Next (c : Dev nD) (a4 : Memref sig .tc .vmem S4096x256 .f32) (s : ℕ) : sProp 𝕄 := if s = 15 then Last m ρ c a4 else Mid m ρ c (s + 1) (Rst m ρ c a4 (s + 1))

/-- The known running product is one of those allowed before a point. -/
theorem yx_yg (c : Dev nD) (s : ℕ) : Yx m ρ c s ⊢ Yg m ρ c s := by
  unfold Yx Yg
  iintro H
  iexists (yg m ρ c s)
  isplitr; · ipureintro; exact fun _ => rfl
  iexact H

/-- Inside a column group the exchange's state does not change. -/
theorem ex_next (c : Dev nD) (s : ℕ) (h : ¬ s % 4 = 3) : EX m ρ c (s + 1) = EX m ρ c s := by
  unfold EX
  rw [show (s + 1) / 4 = s / 4 by omega]
  by_cases h4 : s < 4
  · rw [if_pos h4, if_pos (show s + 1 < 4 by omega)]
  · rw [if_neg h4, if_neg (show ¬ s + 1 < 4 by omega)]

/-- Whether or not a block is left to fetch, the ring comes to the state of the next point. -/
theorem enq_join {α : Type} {Q : α → sProp 𝕄} {c : Dev nD} {R : sProp 𝕄} (s : ℕ) {C : Prop} {inst : Decidable C} (hC : C ↔ s + 4 < 16)
    {rest : Prog (TpuEff nD τ sig (Elt F) Λ₀ .tc) α} {B : C → Prog (TpuEff nD τ sig (Elt F) Λ₀ .tc) α}
    (hB : ∀ (hC : C) (h4 : s + 4 < 16), (iprop(RL m ρ ∗ WS m ρ c (s + 4 + 1) (s + 1) (s + 5) ∗ R) ⊢ Wpc c rest Q) →
      (iprop(RL m ρ ∗ WS m ρ c (s + 4) (s + 1) (s + 5) ∗ R) ⊢ Wpc c (B hC) Q))
    (h : iprop(RL m ρ ∗ WS m ρ c (min (s + 1 + 4) 16) (s + 1) (s + 1 + 4) ∗ R) ⊢ Wpc c rest Q) :
    iprop(RL m ρ ∗ WS m ρ c (min (s + 4) 16) (s + 1) (s + 5) ∗ R) ⊢ Wpc c (@dite _ C inst B (fun _ => rest)) Q := by
  by_cases h4 : s + 4 < 16
  · rw [dif_pos (hC.mpr h4), show min (s + 4) 16 = s + 4 by omega]
    refine hB _ h4 ?_
    rwa [show min (s + 1 + 4) 16 = s + 4 + 1 by omega] at h
  · rw [dif_neg (fun x => h4 (hC.mp x)), show min (s + 4) 16 = 16 by omega]
    rwa [show min (s + 1 + 4) 16 = 16 by omega] at h

/-- The result's stage, by the blocks the devices' tiles fill. -/
theorem out_start (c : Dev nD) (a4 : Memref sig .tc .vmem S4096x256 .f32) : AE (F := F) c a4 ⊢ OUT m ρ c a4 0 := by
  unfold AE OUT
  rw [emp0 (le_refl 0), emp_r]
  refine (cut_ex c a4 rO (fun _ _ => rfl) dO cO).trans (Entails.of_eq ?_)
  exact (over_all (A := fun t => iprop(∃ X, owns (c : Thread nD τ) (a4.slice (rO t) (fun _ => rfl)) fullShare X))).symm

set_option maxHeartbeats 4000000 in
/-- The run of the body at any grid point, from what is held before it to what is held after it. -/
theorem body_run {t : Fin cfg0.N} {ha2 a4 ha4} {c : Dev nD} :
    In m ρ c a4 t.val ⊢ Wpc c (cc0_body (F := F) (grid0.coords t) xM ha2 (Memref.whole main_arg1) (Memref.isWhole_whole _) a4 ha4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) (fun _ => Next m ρ c a4 t.val) := by
  have ht : t.val < 16 := t.isLt
  rw [cc0_body_eq_skeleton, cc0_body_skel]
  unfold In
  refine run_step (part63_run m ρ (t := t)) ?_
  rintro ⟨arg0, arg1, d2, v4, v29, v31⟩
  refine pure_step ?_
  rintro ⟨h0, h1⟩
  dsimp only at h0 h1
  subst h0; obtain rfl := h1.symm
  unfold Mid'
  refine ac_step (P' := iprop(RL m ρ ∗ WS m ρ c (min (t.val + 4) 16) (t.val + 1) (t.val + 5) ∗ (Ow c 32 (8 * (t.val / 4)) 1 ∗ Xp m ρ c ∗ Yx m ρ c (t.val + 1) ∗ Vm m ρ c (t.val / 4)
    ∗ X2 m ρ c ∗ Rst m ρ c a4 t.val))) (by ac_rfl) ?_
  refine enq_join m ρ t.val (cond4_iff t) ?_ ?_
  · intro hC h4 h
    exact w_enq m ρ (t.val + 4) (t.val + 1) (t.val + 5) h4 (by omega) (by omega) (by omega) (off8_eq t h4) (off7_eq t) (off6_eq t) h
  by_cases h3 : t.val % 4 = 3
  · refine dite_t ((cond5_iff t).mpr h3) ?_
    unfold Rst
    refine ac_step (P' := iprop(RL m ρ ∗ Ow c 32 (8 * (t.val / 4)) 1 ∗ EX m ρ c t.val ∗ (Yx m ρ c (t.val + 1) ∗ Vm m ρ c (t.val / 4)
      ∗ (Ct c ∗ AE c a4 ∗ WS m ρ c (min (t.val + 1 + 4) 16) (t.val + 1) (t.val + 1 + 4) ∗ Xp m ρ c ∗ X2 m ρ c)))) (by ac_rfl) ?_
    refine run_step (part61_run m ρ (t := t) h3) ?_
    intro v
    refine pure_step ?_
    rintro rfl
    refine run_step (part62_run m ρ (t := t) h3) ?_
    rintro ⟨v104, v106⟩
    refine pure_step ?_
    intro h106
    dsimp only at h106
    subst h106
    refine tile_step m ρ (8 * (t.val / 4) + 5) (by omega) (off9_eq t 5 (by decide)) ((cut_5 _).trans (tile_eq m ρ c t h3 5 (by decide)).symm) (otherW_iff t c 5 (by decide))
      (fun hC hc {R} h => dsend_step m ρ (D (8 * (t.val / 4) + 5)) hc _ (by omega) rfl (Fin.ext (tileW_dev t 5 (by decide))) (vec3 (tileW_val t 5 (by decide))) (vec3 (selfW_val c))
        (vec1 (tileW_val t 5 (by decide))) (vec1 (selfW_val c)) h) ?_
    refine tile_step m ρ (8 * (t.val / 4) + 6) (by omega) (off9_eq t 6 (by decide)) ((cut_6 _).trans (tile_eq m ρ c t h3 6 (by decide)).symm) (otherW_iff t c 6 (by decide))
      (fun hC hc {R} h => dsend_step m ρ (D (8 * (t.val / 4) + 6)) hc _ (by omega) rfl (Fin.ext (tileW_dev t 6 (by decide))) (vec3 (tileW_val t 6 (by decide))) (vec3 (selfW_val c))
        (vec1 (tileW_val t 6 (by decide))) (vec1 (selfW_val c)) h) ?_
    refine tile_step m ρ (8 * (t.val / 4) + 7) (by omega) (off9_eq t 7 (by decide)) ((cut_7 _).trans (tile_eq m ρ c t h3 7 (by decide)).symm) (otherW_iff t c 7 (by decide))
      (fun hC hc {R} h => dsend_step m ρ (D (8 * (t.val / 4) + 7)) hc _ (by omega) rfl (Fin.ext (tileW_dev t 7 (by decide))) (vec3 (tileW_val t 7 (by decide))) (vec3 (selfW_val c))
        (vec1 (tileW_val t 7 (by decide))) (vec1 (selfW_val c)) h) ?_
    by_cases h15 : 12 ≤ t.val
    · have e15 : t.val = 15 := by omega
      refine dite_t ((cond15_iff t).mpr h15) ?_
      have e1 : 8 * (t.val / 4) + 7 + 1 = 32 := by omega
      have e2 : t.val / 4 + 1 = 4 := by omega
      have e3 : t.val + 1 = 16 := by omega
      rw [e1, e2, e3]
      refine ac_step (P' := iprop(AE c a4 ∗ (RL m ρ ∗ Ow c 32 32 1 ∗ DT m ρ c 32 ∗ Vm m ρ c 4 ∗ Amps c ∗ Ct c ∗ (BV c ∗ Xp m ρ c ∗ Yx m ρ c 16 ∗ X2 m ρ c ∗ WS m ρ c 16 16 20)))) ?_ ?_
      · show _ = iprop(AE c a4 ∗ (RL m ρ ∗ Ow c 32 32 1 ∗ DT m ρ c 32 ∗ Vm m ρ c 4 ∗ Amps c ∗ Ct c ∗ (BV c ∗ Xp m ρ c ∗ Yx m ρ c 16 ∗ X2 m ρ c ∗ WS m ρ c (min (16 + 4) 16) 16 (16 + 4))))
        ac_rfl
      refine pre_step (sep_mono (out_start m ρ c a4) .rfl) ?_
      refine ac_step (P' := iprop(RL m ρ ∗ Ow c 32 32 1 ∗ DT m ρ c 32 ∗ Vm m ρ c 4 ∗ Amps c ∗ Ct c ∗ OUT m ρ c a4 0 ∗ (BV c ∗ Xp m ρ c ∗ Yx m ρ c 16 ∗ X2 m ρ c ∗ WS m ρ c 16 16 20))) (by ac_rfl) ?_
      refine run_step (part60_run m ρ (t := t)) ?_
      intro _
      refine ds_wait m ρ _ (by decide) (by decide) (off44_eq c _ (by decide)) ?_
      refine as_wait m ρ _ (by decide) (by decide) (off44_eq c _ (by decide)) ?_
      refine ret_step ?_
      unfold Next; rw [if_pos e15]
      unfold Last
      refine Entails.of_eq ?_
      show iprop(RL m ρ ∗ Ow c 32 32 32 ∗ Wds c 32 ∗ (Was m ρ c 32 ∗ (Late m ρ c ∗ Vm m ρ c 4 ∗ OUT m ρ c a4 32 ∗ (BV c ∗ Xp m ρ c ∗ Yx m ρ c 16 ∗ X2 m ρ c ∗ WS m ρ c 16 16 20)))) = _
      ac_rfl
    · refine dite_f (fun x => h15 ((cond15_iff t).mp x)) ?_
      refine ret_step ?_
      unfold Next; rw [if_neg (show ¬ t.val = 15 by omega)]
      unfold Mid Rst EX
      rw [if_neg (show ¬ t.val + 1 < 4 by omega), show (t.val + 1) / 4 = t.val / 4 + 1 by omega, show 8 * (t.val / 4 + 1) = 8 * (t.val / 4) + 7 + 1 by omega]
      refine .trans ?_ (sep_mono .rfl (sep_mono .rfl (sep_mono .rfl (sep_mono .rfl (sep_mono (yx_yg m ρ c (t.val + 1)) .rfl)))))
      refine Entails.of_eq ?_
      ac_rfl
  · refine dite_f (fun x => h3 ((cond5_iff t).mp x)) ?_
    refine ret_step ?_
    unfold Next; rw [if_neg (show ¬ t.val = 15 by omega)]
    unfold Mid Rst
    rw [ex_next m ρ c _ h3, show (t.val + 1) / 4 = t.val / 4 by omega]
    refine .trans ?_ (sep_mono .rfl (sep_mono .rfl (sep_mono .rfl (sep_mono .rfl (sep_mono (yx_yg m ρ c (t.val + 1)) .rfl)))))
    refine Entails.of_eq ?_
    ac_rfl

end Cert.KProof

end
-- ==== Proof.Close.lean ====
/-
What a device holds once its kernel has run, put back together: every scratch buffer whole, its copy of the weights as it
was, every counter at zero, and the result's stage holding the columns it computes.
-/
module

public import proofs.«01_k».proof.Proof.Whole

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of cells -/

section Fam
omit [FloatOps F]
/-- A run of naturals is a finite type shifted. -/
theorem ico_fin {a n : ℕ} {g : ℕ → sProp 𝕄} : bigSep (Finset.Ico a (a + n)) g = bigSep Finset.univ (fun t : Fin n => g (a + t.val)) := by
  have e : Finset.Ico a (a + n) = (Finset.univ : Finset (Fin n)).image (fun t => a + t.val) := by
    ext i
    rw [Finset.mem_Ico, Finset.mem_image]
    exact ⟨fun h => ⟨⟨i - a, by omega⟩, Finset.mem_univ _, by show a + (i - a) = i; omega⟩, fun ⟨t, _, h⟩ => by have := t.isLt; omega⟩
  rw [e]
  exact bigSep_image_of_injOn (fun x _ y _ h => Fin.ext (by have : a + x.val = a + y.val := h; omega)) g
/-- Two adjacent runs are one. -/
theorem ico_cut {a b d : ℕ} {g : ℕ → sProp 𝕄} (h : a ≤ b) (h' : b ≤ d) :
    bigSep (Finset.Ico a d) g = iprop(bigSep (Finset.Ico a b) g ∗ bigSep (Finset.Ico b d) g) := by
  refine Eq.trans (congrArg (fun S => bigSep S g) ?_) (BI.bigSep_union (s := Finset.Ico a b) (t := Finset.Ico b d)
    (Finset.disjoint_left.mpr fun x hx hy => by have := (Finset.mem_Ico.mp hx).2; have := (Finset.mem_Ico.mp hy).1; omega))
  ext i
  rw [Finset.mem_union, Finset.mem_Ico, Finset.mem_Ico, Finset.mem_Ico]
  omega
end Fam

/-- The `n`-th of a device's cells. -/
def nsem (n : ℕ) : SemLoc sig := if n = 0 then .reg barS else .dma ⟨(n + 1) % 134, Nat.mod_lt _ (by decide)⟩
/-- The `j`-th cell's semaphore, by the numbers of the schedule. -/
theorem csem_n (j : Fin 133) : csem j = nsem (0 + j.val) := by
  unfold csem nsem
  have := j.isLt
  by_cases h : j.val = 0
  · rw [if_pos h, if_pos (by omega)]
  · rw [if_neg h, if_neg (by omega)]
    congr 1
    exact Fin.ext (by show j.val + 1 = (0 + j.val + 1) % 134; omega)
/-- Which copy semaphore has a given number. -/
theorem nsem_at (q : DmaSem sig) (n : ℕ) (hq : q.val = n + 1) (h : n ≠ 0) : nsem n = .dma q := by
  unfold nsem
  rw [if_neg h]
  have : q.val < 134 := q.isLt
  congr 1
  exact Fin.ext (by show (n + 1) % 134 = q.val; omega)

/-- A family over a device's cells, kind by kind. -/
theorem cells_split (Φ : SemLoc sig → sProp 𝕄) : bigSep Finset.univ (fun j : Fin 133 => Φ (csem j))
    = iprop(Φ (.reg barS) ∗ bigSep Finset.univ (fun k : Fin 4 => Φ (.dma (wSem k))) ∗ bigSep Finset.univ (fun t : Dev nD => Φ (.dma (dsSem t)))
      ∗ bigSep Finset.univ (fun t : Dev nD => Φ (.dma (drSem t))) ∗ bigSep Finset.univ (fun t : Dev nD => Φ (.dma (asSem t)))
      ∗ bigSep Finset.univ (fun t : Dev nD => Φ (.dma (arSem t)))) := by
  have e0 : bigSep (Finset.Ico 0 1) (fun n => Φ (nsem n)) = Φ (.reg barS) := by
    rw [bot (by decide : 0 < 1), emp0 (le_refl _), emp_r]; rfl
  have ew : bigSep (Finset.Ico 1 5) (fun n => Φ (nsem n)) = bigSep Finset.univ (fun k : Fin 4 => Φ (.dma (wSem k))) := by
    rw [ico_fin (a := 1) (n := 4)]
    exact bigSep_congr fun k _ => congrArg Φ (nsem_at (wSem k) _ (by show 2 + k.val = 1 + k.val + 1; omega) (by omega))
  have e1 : bigSep (Finset.Ico 5 37) (fun n => Φ (nsem n)) = bigSep Finset.univ (fun t : Dev nD => Φ (.dma (dsSem t))) := by
    rw [ico_fin (a := 5) (n := 32)]
    exact bigSep_congr fun k _ => congrArg Φ (nsem_at (dsSem k) _ (by show 6 + k.val = 5 + k.val + 1; omega) (by omega))
  have e2 : bigSep (Finset.Ico 37 69) (fun n => Φ (nsem n)) = bigSep Finset.univ (fun t : Dev nD => Φ (.dma (drSem t))) := by
    rw [ico_fin (a := 37) (n := 32)]
    exact bigSep_congr fun k _ => congrArg Φ (nsem_at (drSem k) _ (by show 38 + k.val = 37 + k.val + 1; omega) (by omega))
  have e3 : bigSep (Finset.Ico 69 101) (fun n => Φ (nsem n)) = bigSep Finset.univ (fun t : Dev nD => Φ (.dma (asSem t))) := by
    rw [ico_fin (a := 69) (n := 32)]
    exact bigSep_congr fun k _ => congrArg Φ (nsem_at (asSem k) _ (by show 70 + k.val = 69 + k.val + 1; omega) (by omega))
  have e4 : bigSep (Finset.Ico 101 133) (fun n => Φ (nsem n)) = bigSep Finset.univ (fun t : Dev nD => Φ (.dma (arSem t))) := by
    rw [ico_fin (a := 101) (n := 32)]
    exact bigSep_congr fun k _ => congrArg Φ (nsem_at (arSem k) _ (by show 102 + k.val = 101 + k.val + 1; omega) (by omega))
  have e : bigSep Finset.univ (fun j : Fin 133 => Φ (csem j)) = bigSep (Finset.Ico 0 (0 + 133)) (fun n => Φ (nsem n)) := by
    rw [ico_fin (a := 0) (n := 133)]
    exact bigSep_congr fun j _ => congrArg Φ (csem_n j)
  rw [e, ico_cut (by decide : 0 ≤ 1) (by decide), ico_cut (by decide : 1 ≤ 5) (by decide), ico_cut (by decide : 5 ≤ 37) (by decide),
    ico_cut (by decide : 37 ≤ 69) (by decide), ico_cut (by decide : 69 ≤ 101) (by decide : 101 ≤ 0 + 133), e0, ew, e1, e2, e3]
  rw [← e4]

/-- A persistent proposition goes with every member of a family. -/
theorem each_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-! ## The buffers -/

/-- A buffer whole, anything in it. -/
def Any (c : Dev nD) (b : Ref sig .tc) : sProp 𝕄 := iprop(∃ f : Buf (Elt F) ((c : Thread nD τ).loc b), ((c : Thread nD τ).loc b) ↦{fullShare} f)

/-- Who owns a whole buffer with some value holds it with anything in it. -/
theorem any_of (c : Dev nD) (b : Ref sig .tc) : iprop(∃ X, owns (c : Thread nD τ) (Memref.whole b) fullShare X) ⊢ (Any c b : sProp 𝕄) := by
  unfold Any
  iintro ⟨%X, H⟩
  iexists X
  iapply (Entails.of_eq (owns_buf c b X))
  iexact H
/-- Who holds a whole buffer owns it with some value. -/
theorem of_any (c : Dev nD) (b : Ref sig .tc) : (Any c b : sProp 𝕄) ⊢ iprop(∃ X, owns (c : Thread nD τ) (Memref.whole b) fullShare X) := by
  unfold Any
  iintro ⟨%X, H⟩
  iexists X
  iapply (Entails.of_eq (owns_buf c b X).symm)
  iexact H
omit [FloatOps F] in
/-- A buffer with known contents is one with anything in it. -/
theorem any_pt {c : Dev nD} {b : Ref sig .tc} (f : Buf (Elt F) ((c : Thread nD τ).loc b)) : (((c : Thread nD τ).loc b) ↦{fullShare} f) ⊢ (Any c b : sProp 𝕄) := by
  unfold Any
  iintro H
  iexists f
  iexact H

/-- The blocks of the weights are the weights. -/
theorem g_whole (c : Dev nD) : bigSep (Finset.Ico 0 16) (gPt m ρ c) = (((c : Thread nD τ).loc main_arg1) ↦{fullShare} garr m ρ c) := by
  have h := pointsTo_rects (Ix := Unit) (Name := ℕ) (U := UU) (Lvl := ℕ) (c : Thread nD τ) gM fullShare rB (fun _ _ => rfl) dB cB (garr m ρ c)
  have hw : ((gM : Memref sig .tc .hbm S4096x8192 .f32).view.loc (c : Thread nD τ) ↦[(gM : Memref sig .tc .hbm S4096x8192 .f32).view.set]{fullShare} garr m ρ c : sProp 𝕄)
      = (((c : Thread nD τ).loc main_arg1) ↦{fullShare} garr m ρ c) := congrArg (fun S => (((c : Thread nD τ).loc main_arg1) ↦[S]{fullShare} garr m ρ c : sProp 𝕄)) (View.set_whole main_arg1)
  refine Eq.trans ?_ (h.symm.trans hw)
  rw [show (Finset.Ico 0 16) = Finset.Ico 0 (0 + 16) from rfl, ico_fin]
  refine bigSep_congr fun t _ => ?_
  have e : bl (0 + t.val) = t := Fin.ext (by show (0 + t.val) % 16 = t.val; have := t.isLt; omega)
  unfold gPt
  rw [e]
  exact (owns_slice_read (c : Thread nD τ) gM fullShare (rB t) (fun _ => rfl) (garr m ρ c)).symm

/-- The result as the blocks of the devices' tiles make it. -/
def outV (c : Dev nD) : Vec F S4096x256 .f32 := fun i =>
  outT m ρ c (D ((i 0).val / 128)) (fun | 0 => (⟨(i 0).val % 128, Nat.mod_lt _ (by decide)⟩ : Fin 128) | 1 => i 1)

/-- Device `t`'s rows of the whole result are the tile from `t`, quantised. -/
theorem outV_blk (c t : Dev nD) : outT m ρ c t = fun j => outV m ρ c ((rO t).emb j) := by
  funext j
  unfold outV
  have h0 : (j 0).val < 128 := (j 0).isLt
  have e0 : ((rO t).emb j 0).val = 128 * t.val + (j 0).val := by
    show 128 * t.val + 1 * (j 0).val = _; omega
  have e1 : ((rO t).emb j 1).val = (j 1).val := by
    show 0 + 1 * (j 1).val = _; omega
  have eD : D (((rO t).emb j 0).val / 128) = t := Fin.ext (by rw [D_val, e0]; have : t.val < 32 := t.isLt; omega)
  rw [eD]
  congr 1
  funext a
  match a with
  | 0 => exact Fin.ext (by show (j 0).val = ((rO t).emb j 0).val % 128; omega)
  | 1 => exact Fin.ext e1.symm

/-- The result's written parts make up the whole result. -/
theorem out_whole (c : Dev nD) (a4 : Memref sig .tc .vmem S4096x256 .f32) : OUT m ρ c a4 32 ⊢ owns (c : Thread nD τ) a4 fullShare (outV m ρ c) := by
  unfold OUT
  rw [emp0 (le_refl 32), emp_l]
  refine (Entails.of_eq (over_all (A := fun t => owns (c : Thread nD τ) (a4.slice (rO t) (fun _ => rfl)) fullShare (outT m ρ c t)))).trans ?_
  simp only [outV_blk m ρ c]
  exact owns_of_rects (c : Thread nD τ) a4 fullShare rO (fun _ _ => rfl) dO cO (outV m ρ c)

/-- The places of the tiles sent make up the send buffer. -/
theorem sb_whole (c : Dev nD) : iprop(owns (c : Thread nD τ) (sT c) fullShare (tile m ρ c c) ∗ bigSep (Finset.Ico 1 32) (fun n => dsPay (F := F) c (tgt c n))) ⊢ Any c cc0_scratch4 := by
  refine .trans ?_ (any_of c cc0_scratch4)
  refine .trans ?_ (join_ex c sbM rT (fun _ _ => rfl) dT cT)
  rw [all_others c (A := fun t => iprop(∃ X, owns (c : Thread nD τ) (sbM.slice (rT t) (fun _ => rfl)) fullShare X))]
  exact sep_mono (ex_owns _) .rfl

/-- The places of the tiles received make up their buffer. -/
theorem rb_whole (c : Dev nD) : RV m ρ c ⊢ Any c cc0_scratch5 := by
  refine .trans ?_ (any_of c cc0_scratch5)
  refine .trans ?_ (join_ex c rbM rT (fun _ _ => rfl) dT cT)
  unfold RV
  rw [over_all (A := fun t => owns (c : Thread nD τ) (rvT t) fullShare (tile m ρ t c))]
  exact bigSep_mono fun t _ => ex_owns _

/-- The four blocks make up the cut activations. -/
theorem xp_whole (c : Dev nD) : Xp m ρ c ⊢ Any c cc0_scratch0 := by
  refine .trans ?_ (any_of c cc0_scratch0)
  refine .trans ?_ (join_ex c xpM rX (fun _ _ => rfl) dX cX)
  unfold Xp
  exact bigSep_mono fun t _ => ex_owns _

omit [FloatOps F] in
/-- After a multiple of four blocks the slots come in order. -/
theorem sl_add (n : ℕ) (h : n % 4 = 0) (k : Fin 4) : sl (n + k.val) = k := Fin.ext (by show (n + k.val) % 4 = k.val; have := k.isLt; omega)

/-- The four slots make up the ring. -/
theorem w_whole (c : Dev nD) : bigSep (Finset.Ico 16 20) (wFree (F := F) c) ⊢ Any c cc0_scratch1 := by
  refine .trans ?_ (any_of c cc0_scratch1)
  refine .trans ?_ (join_ex c wM rW (fun _ _ => rfl) dW cW)
  rw [show (Finset.Ico 16 20) = Finset.Ico 16 (16 + 4) from rfl, ico_fin]
  refine bigSep_mono fun k _ => ?_
  unfold wFree
  rw [sl_add 16 (by decide) k]
  exact BI.BIBase.Entails.of_eq (PROP := sProp 𝕄) rfl

/-! ## The counters -/

instance RL_pers : BI.Persistent (RL (F := F) m ρ) := by unfold RL; infer_instance

/-- When the ring is done its counters are at zero. -/
theorem w_closes (c : Dev nD) : iprop(RL m ρ ∗ bigSep (Finset.Ico 16 20) (wPos (F := F) c)) ⊢ |={Set.univ}=> bigSep Finset.univ (fun k : Fin 4 => semVal (wC c k) 0) := by
  rw [show (Finset.Ico 16 20) = Finset.Ico 16 (16 + 4) from rfl, ico_fin]
  refine (each_with (Ψ := fun k : Fin 4 => iprop(|={Set.univ}=> semVal (wC c k) 0)) fun k => ?_).trans (bigSep_fupd _ _)
  unfold wPos
  have h : (16 + k.val) / 4 = 4 := by have := k.isLt; omega
  rw [sl_add 16 (by decide) k, h]
  iintro ⟨#HR, Ha, -⟩
  iapply (w_close m ρ c k)
  isplitr; · iexact HR
  iexact Ha

/-- The counters for the device's own place, never used, are at zero. -/
theorem own4_close (c : Dev nD) : iprop(RL m ρ ∗ Own4 (F := F) c) ⊢ |={Set.univ}=> iprop(semVal (ds c c) 0 ∗ semVal (dr c c) 0 ∗ semVal (ac c c) 0 ∗ semVal (ar c c) 0) := by
  unfold Own4
  iintro ⟨#HR, H1, H2, H3, H4⟩
  imod (own_close m ρ c (dsSem c) (ds_lo c) (dsIx c)) $$ [H1] with H1
  · isplitr; · iexact HR
    iexact H1
  imod (own_close m ρ c (drSem c) (by have := dr_lo c; omega) (D6 c _ (by show (38 + c.val - 6) % 32 = c.val; have : c.val < 32 := c.isLt; omega))) $$ [H2] with H2
  · isplitr; · iexact HR
    iexact H2
  imod (own_close m ρ c (asSem c) (by have := ac_lo c; omega) (D6 c _ (by show (70 + c.val - 6) % 32 = c.val; have : c.val < 32 := c.isLt; omega))) $$ [H3] with H3
  · isplitr; · iexact HR
    iexact H3
  imod (own_close m ρ c (arSem c) (by have := ar_lo c; omega) (D6 c _ (by show (102 + c.val - 6) % 32 = c.val; have : c.val < 32 := c.isLt; omega))) $$ [H4] with H4
  · isplitr; · iexact HR
    iexact H4
  imodintro
  isplitl [H1]; · iexact H1
  isplitl [H2]; · iexact H2
  isplitl [H3]; · iexact H3
  iexact H4

/-- The counters a device has at zero are its cells'. -/
theorem zeros (c : Dev nD) :
    iprop(BV c ∗ bigSep Finset.univ (fun k : Fin 4 => semVal (wC c k) 0) ∗ (semVal (ds c c) 0 ∗ semVal (dr c c) 0 ∗ semVal (ac c c) 0 ∗ semVal (ar c c) 0)
      ∗ SV dsSem c ∗ SV drSem c ∗ SV asSem c ∗ SV arSem c) = (bigSep Finset.univ (fun j : Fin 133 => semVal (kcell (c, j)) 0) : sProp 𝕄) := by
  have h := cells_split (F := F) (fun s => semVal ((c : Thread nD τ), s) 0)
  rw [all_others c (A := fun t => semVal (ds c t) 0), all_others c (A := fun t => semVal (dr c t) 0), all_others c (A := fun t => semVal (ac c t) 0),
    all_others c (A := fun t => semVal (ar c t) 0)] at h
  refine Eq.trans ?_ h.symm
  show iprop(semVal (bar c) 0 ∗ bigSep Finset.univ (fun k : Fin 4 => semVal (wC c k) 0) ∗ (semVal (ds c c) 0 ∗ semVal (dr c c) 0 ∗ semVal (ac c c) 0 ∗ semVal (ar c c) 0)
      ∗ SV dsSem c ∗ SV drSem c ∗ SV asSem c ∗ SV arSem c)
    = iprop(semVal (bar c) 0 ∗ bigSep Finset.univ (fun k : Fin 4 => semVal (wC c k) 0) ∗ (semVal (ds c c) 0 ∗ SV dsSem c) ∗ (semVal (dr c c) 0 ∗ SV drSem c)
      ∗ (semVal (ac c c) 0 ∗ SV asSem c) ∗ (semVal (ar c c) 0 ∗ SV arSem c))
  ac_rfl

/-! ## All together -/

/-- What the kernel leaves besides its two windows. -/
def Done (c : Dev nD) : sProp 𝕄 :=
  iprop((Any (F := F) c cc0_scratch0 ∗ Any (F := F) c cc0_scratch1 ∗ Any (F := F) c cc0_scratch2 ∗ Any (F := F) c cc0_scratch3 ∗ Any (F := F) c cc0_scratch4
      ∗ Any (F := F) c cc0_scratch5 ∗ Any (F := F) c cc0_scratch6 ∗ Any (F := F) c cc0_scratch7)
    ∗ bigSep Finset.univ (fun j : Fin 133 => semVal (kcell (c, j)) 0) ∗ (((c : Thread nD τ).loc main_arg1) ↦{fullShare} garr m ρ c))

/-- What is held after the last point is closed: every buffer whole, every counter at zero, nothing owed, the result written. -/
theorem last_close (c : Dev nD) (a4 : Memref sig .tc .vmem S4096x256 .f32) :
    Last m ρ c a4 ⊢ |={Set.univ}=> iprop(Done m ρ c ∗ Ow c 32 32 32 ∗ X2 m ρ c ∗ owns (c : Thread nD τ) a4 fullShare (outV m ρ c)) := by
  unfold Last Late Wds Was WS
  rw [wt_done, wt_done, g_whole]
  iintro ⟨#HR, HO, ⟨Hsd, Hds⟩, ⟨Hsa, Has⟩, ⟨Hown, Hrest, H4, Hsr, Hsv, Har, Hrv⟩, Hvm, Hout, Hbv, Hxp, Hyx, Hx2, Hw0, Hw1, Hg, Hwp, Hwf⟩
  imod (w_closes m ρ c) $$ [Hwp] with Hwz
  · isplitr; · iexact HR
    iexact Hwp
  imod (own4_close m ρ c) $$ [H4] with H4
  · isplitr; · iexact HR
    iexact H4
  ihave Hz := (Entails.of_eq (zeros (F := F) c)) $$ [Hbv Hwz H4 Hsd Hsv Hsa Hsr]
  · isplitl [Hbv]; · iexact Hbv
    isplitl [Hwz]; · iexact Hwz
    isplitl [H4]; · iexact H4
    isplitl [Hsd]; · iexact Hsd
    isplitl [Hsv]; · iexact Hsv
    isplitl [Hsa]; · iexact Hsa
    iexact Hsr
  ihave Hs4 := (sb_whole m ρ c) $$ [Hown Hds]
  · isplitl [Hown]; · iexact Hown
    iexact Hds
  ihave Hs6 := ((Entails.of_eq (row_back m ρ c)).trans (any_pt (c := c) (b := cc0_scratch6) (abuf m ρ c))) $$ [Has Hrest]
  · isplitl [Has]; · iexact Has
    iexact Hrest
  ihave Hs0 := (xp_whole m ρ c) $$ Hxp
  ihave Hs1 := (w_whole (F := F) c) $$ Hwf
  ihave Hs5 := (rb_whole m ρ c) $$ Hrv
  ihave Hs2 := (show Yx m ρ c 16 ⊢ Any c cc0_scratch2 from any_pt (c := c) (b := cc0_scratch2) (yg m ρ c 16)) $$ Hyx
  ihave Hs3 := (show Vm m ρ c 4 ⊢ Any c cc0_scratch3 from any_pt (c := c) (b := cc0_scratch3) (vm m ρ c 4)) $$ Hvm
  ihave Hs7 := (any_pt (c := c) (b := cc0_scratch7) (gall m ρ)) $$ Har
  ihave Ho := (out_whole m ρ c a4) $$ Hout
  imodintro
  unfold Done
  isplitr [HO Hx2 Ho]
  · isplitr [Hz Hg]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Hz]; · iexact Hz
    iexact Hg
  isplitl [HO]; · iexact HO
  isplitl [Hx2]; · iexact Hx2
  iexact Ho

end Cert.KProof

end
-- ==== Proof.Body.lean ====
/-
The kernel as the pipeline runs it: what a device holds before every grid point, and the body's obligation at each.
-/
module

public import proofs.«01_k».proof.Proof.Close
public import Idealize.ShloMosaic.Lib.Pipeline.FrameBody
public import Idealize.ShloMosaic.Lib.Pipeline.TableIdle

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before the first point: nothing exchanged, nothing asked for. -/
def Phi0 (c : Dev nD) : sProp 𝕄 :=
  iprop(RL m ρ ∗ WS m ρ c 0 0 4 ∗ bigSep (Finset.Ico 1 32) (sigTok (F := F) c) ∗ XpE (F := F) c ∗ Yg m ρ c 0 ∗ VmE (F := F) c ∗ EX m ρ c 0 ∗ Ct (F := F) c)
/-- Between points. -/
def PhiM (c : Dev nD) (s : ℕ) : sProp 𝕄 :=
  iprop(RL m ρ ∗ WS m ρ c (min (s + 4) 16) s (s + 4) ∗ (Xp m ρ c ∗ Yg m ρ c s ∗ Vm m ρ c (s / 4)) ∗ EX m ρ c s ∗ Ct (F := F) c)
/-- What a device holds before point `s`, its two windows apart. -/
def PhiS (c : Dev nD) (s : ℕ) : sProp 𝕄 := if s = 0 then Phi0 m ρ c else if s = 16 then Done m ρ c else PhiM m ρ c s
/-- What it owes then. -/
def owedS (c : Dev nD) (s : ℕ) : CellTallies nD τ sig Unit := if s = 0 then O₀ c else if s = 16 then 0 else Owe c 32 (8 * (s / 4)) 1

/-- The run's data: what each window holds after a point, and what is held between points. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ c
  Φ t := PhiS m ρ c t.val
  q _ := fullShare
  owed t := owedS c t.val

/-- The result's window is idle before the last point. -/
theorem idle1 : ∀ t : Fin cfg0.N, t.val < 15 → cfg0.idle 1 (cfg0.grid.coords t) = true := by
  show ∀ t : Fin 16, _
  decide +kernel
/-- The result's window is not idle at the last point. -/
theorem busy1 : ∀ t : Fin cfg0.N, t.val = 15 → cfg0.idle 1 (cfg0.grid.coords t) = false := by
  show ∀ t : Fin 16, _
  decide +kernel

/-- Before a point the activations' stage holds the activations. -/
theorem before0 (c : Dev nD) (t : Fin cfg0.N) (d) : (dats m ρ 0 c).before 0 t d = xstg m ρ c :=
  ((dats m ρ 0 c).before_in_eq_fetched 0 rfl (fun _ => rfl) (fun _ _ _ => rfl) (fun t => rfl) t d).trans rfl

/-- The result is not written back before the last point. -/
theorem flush1 (t : Fin cfg0.N) (h : t.val < 15) : (cfg0.win 1).flush t = false :=
  Bool.eq_false_iff.mpr fun x => by have := (flush0_1 t).mp x; omega

/-- Before a point the result's stage holds what it held. -/
theorem before1 (c : Dev nD) (t : Fin cfg0.N) (d) : (dats m ρ 0 c).before 1 t d = d := by
  have ht : t.val < 16 := t.isLt
  refine ((dats m ρ 0 c).before_idle_run 1 (fun _ => rfl) d t.val t (Nat.le_refl _) (fun j _ hj => ⟨idle1 j (by omega), flush1 j (by omega)⟩)).trans ?_
  unfold Dat.before
  rw [if_neg (by simp [show (cfg0.win 1).fetch _ = false from rfl]), if_pos (Nat.sub_self _)]

/-- The debt of the pipeline's account, in the proof's own words. -/
theorem owes_in (c : Dev nD) (t : Fin (cfg0.N + 1)) : (dats m ρ 0 c).owesAt () t ⊢ iprop(∃ W, owes (c : Thread nD τ) (owedS c t.val) W) := by
  unfold Dat.owesAt Pipeline.owesWithin
  iintro ⟨%W, -, H⟩
  iexists W
  iexact H
/-- The debt in the proof's own words, as the pipeline's account has it. -/
theorem owes_out (c : Dev nD) (t : Fin (cfg0.N + 1)) : iprop(∃ W, owes (c : Thread nD τ) (owedS c t.val) W) ⊢ (dats m ρ 0 c).owesAt () t := by
  unfold Dat.owesAt Pipeline.owesWithin
  iintro ⟨%W, H⟩
  iexists W
  isplitr; · ipureintro; exact fun _ _ => Or.inl trivial
  iexact H

/-- What is held before a point, the windows taken apart. -/
theorem in_eq (c : Dev nD) (a4) (s : ℕ) (h : s < 16) :
    In m ρ c a4 s = iprop(PhiS m ρ c s ∗ (∃ W, owes (c : Thread nD τ) (owedS c s) W) ∗ X2 m ρ c ∗ AE (F := F) c a4) := by
  unfold In PhiS owedS
  by_cases h0 : s = 0
  · subst h0
    rw [if_pos rfl, if_pos rfl, if_pos rfl]
    unfold Start Rst Phi0
    show _ = iprop(_ ∗ Ow c 1 0 1 ∗ _)
    ac_rfl
  · rw [if_neg h0, if_neg h0, if_neg h0, if_neg (by omega : ¬ s = 16), if_neg (by omega : ¬ s = 16)]
    unfold Mid Rst PhiM
    show _ = iprop(_ ∗ Ow c 32 (8 * (s / 4)) 1 ∗ _)
    ac_rfl

/-- After a point but the last: ready for the next. -/
theorem next_mid (c : Dev nD) (a4) (s : ℕ) (h : s < 15) :
    Next m ρ c a4 s = iprop(PhiS m ρ c (s + 1) ∗ (∃ W, owes (c : Thread nD τ) (owedS c (s + 1)) W) ∗ X2 m ρ c ∗ AE (F := F) c a4) := by
  rw [← in_eq m ρ c a4 (s + 1) (by omega)]
  unfold Next In
  rw [if_neg (by omega), if_neg (by omega)]
/-- After the last: all put back. -/
theorem next_last (c : Dev nD) (a4) :
    Next m ρ c a4 15 ⊢ |={Set.univ}=> iprop(PhiS m ρ c (15 + 1) ∗ (∃ W, owes (c : Thread nD τ) (owedS c (15 + 1)) W) ∗ X2 m ρ c ∗ owns (c : Thread nD τ) a4 fullShare (outV m ρ c)) := by
  unfold Next PhiS owedS
  rw [if_pos rfl, if_neg (by decide), if_pos rfl, if_neg (by decide), if_pos rfl, ← Owe_none c]
  exact last_close m ρ c a4

/-- A point of the grid, on the windows' stages. -/
theorem point_run {t : Fin cfg0.N} {a2 ha2 a4 ha4} {c : Dev nD} {Q : sProp 𝕄} (e2 : a2 = xM)
    (hQ : t.val < 15 → iprop(PhiS m ρ c (t.val + 1) ∗ (∃ W, owes (c : Thread nD τ) (owedS c (t.val + 1)) W) ∗ X2 m ρ c ∗ AE (F := F) c a4) ⊢ Q)
    (hQ' : t.val = 15 → iprop(PhiS m ρ c (t.val + 1) ∗ (∃ W, owes (c : Thread nD τ) (owedS c (t.val + 1)) W) ∗ X2 m ρ c ∗ owns (c : Thread nD τ) a4 fullShare (outV m ρ c)) ⊢ Q) :
    iprop(PhiS m ρ c t.val ∗ (∃ W, owes (c : Thread nD τ) (owedS c t.val) W) ∗ X2 m ρ c ∗ AE (F := F) c a4)
      ⊢ Wpc c (cc0_body (F := F) (grid0.coords t) a2 ha2 (Memref.whole main_arg1) (Memref.isWhole_whole _) a4 ha4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) (fun _ => Q) := by
  subst e2
  have ht : t.val < 16 := t.isLt
  rw [← in_eq m ρ c a4 t.val ht]
  refine (body_run m ρ (t := t) (a4 := a4)).trans (.trans (wp_mono _ _ _ fun _ => ?_) (wp_fupd _ _ _ _ _))
  by_cases h : t.val < 15
  · rw [next_mid m ρ c a4 t.val h]
    exact (hQ h).trans fupd_intro
  · have e : t.val = 15 := by omega
    refine .trans (by rw [e]; exact next_last m ρ c a4) (fupd_mono ?_)
    have := hQ' e
    rwa [e] at this

/-- The activations have one stage. -/
theorem stage0_eq (s : Fin (cfg0.win 0).nbuf) : (cfg0.win 0).stage s = xM := by
  have : s = ⟨0, by decide⟩ := Fin.ext (by have h : s.val < 1 := s.isLt; show s.val = 0; omega)
  subst this; rfl

/-- What the pipeline gives of the activations before a point. -/
theorem pre0 (c : Dev nD) (t : Fin cfg0.N) :
    (iprop(∃ d, owns (c : Thread nD τ) ((cfg0.win 0).stage (cfg0.slots t 0)) fullShare ((dats m ρ 0 c).before 0 t d)) : sProp 𝕄) ⊢ X2 m ρ c := by
  refine exists_elim fun d => ?_
  rw [before0, stage0_eq]
  exact Entails.of_eq rfl
/-- What the pipeline gives of the result's stage before a point. -/
theorem pre1 (c : Dev nD) (t : Fin cfg0.N) :
    (iprop(∃ d, owns (c : Thread nD τ) ((cfg0.win 1).stage (cfg0.slots t 1)) fullShare ((dats m ρ 0 c).before 1 t d)) : sProp 𝕄)
      = AE (F := F) c ((cfg0.win 1).stage (cfg0.slots t 1)) := by
  simp only [before1]
  rfl

/-- The result's stage after a point. -/
def Post1 (c : Dev nD) (t : Fin cfg0.N) : sProp 𝕄 :=
  match cfg0.idle 1 (cfg0.grid.coords t) with
  | true =>
    match (cfg0.win 1).flush t with
    | false => iprop(∃ d, owns (c : Thread nD τ) ((cfg0.win 1).stage (cfg0.slots t 1)) fullShare ((dats m ρ 0 c).before 1 t d))
    | true => owns (c : Thread nD τ) ((cfg0.win 1).stage (cfg0.slots t 1)) fullShare ((dats m ρ 0 c).after 1 t)
  | false => owns (c : Thread nD τ) ((cfg0.win 1).stage (cfg0.slots t 1)) fullShare ((dats m ρ 0 c).after 1 t)
/-- What the pipeline asks of the result's stage after a point before the last. -/
theorem post1_idle (c : Dev nD) (t : Fin cfg0.N) (h : t.val < 15) : Post1 m ρ c t = AE (F := F) c ((cfg0.win 1).stage (cfg0.slots t 1)) := by
  unfold Post1
  rw [idle1 t h, flush1 t h]
  exact pre1 m ρ c t
/-- What the pipeline asks of the result's stage after the last point: the result. -/
theorem post1_last (c : Dev nD) (t : Fin cfg0.N) (h : t.val = 15) :
    Post1 m ρ c t = owns (c : Thread nD τ) ((cfg0.win 1).stage (cfg0.slots t 1)) fullShare (outV m ρ c) := by
  unfold Post1
  rw [busy1 t h]
  rfl

/-- What is held after a point. -/
theorem phi_succ (c : Dev nD) (t : Fin cfg0.N) : (dats m ρ 0 c).Φ t.succ = PhiS m ρ c (t.val + 1) := by dsimp only [dats]; rfl
/-- What is held before a point. -/
theorem phi_cast (c : Dev nD) (t : Fin cfg0.N) : (dats m ρ 0 c).Φ t.castSucc = PhiS m ρ c t.val := by dsimp only [dats]; rfl
/-- After a point the activations' stage holds the activations. -/
theorem after0 (c : Dev nD) (t : Fin cfg0.N) : (dats m ρ 0 c).after 0 t = xstg m ρ c := by dsimp only [dats]

/-- The state after a point, in the pipeline's words. -/
theorem out0 (c : Dev nD) (t : Fin cfg0.N) (R : sProp 𝕄) :
    iprop(PhiS m ρ c (t.val + 1) ∗ (∃ W, owes (c : Thread nD τ) (owedS c (t.val + 1)) W) ∗ X2 m ρ c ∗ R)
      ⊢ iprop((dats m ρ 0 c).Φ t.succ ∗ (dats m ρ 0 c).owesAt () t.succ
        ∗ owns (c : Thread nD τ) ((cfg0.win 0).stage (cfg0.slots t 0)) fullShare ((dats m ρ 0 c).after 0 t) ∗ R) := by
  rw [stage0_eq, phi_succ, after0]
  unfold X2
  iintro ⟨HP, HO, HX, HR⟩
  isplitl [HP]; · iexact HP
  isplitl [HO]
  · iapply (owes_out m ρ c t.succ); iexact HO
  isplitl [HX]; · iexact HX
  iexact HR

/-- The state before a point, in the pipeline's words. -/
theorem in0 (c : Dev nD) (t : Fin cfg0.N) :
    iprop((dats m ρ 0 c).Φ t.castSucc ∗ (dats m ρ 0 c).owesAt () t.castSucc
      ∗ (∃ d, owns (c : Thread nD τ) ((cfg0.win 0).stage (cfg0.slots t 0)) fullShare ((dats m ρ 0 c).before 0 t d))
      ∗ (∃ d, owns (c : Thread nD τ) ((cfg0.win 1).stage (cfg0.slots t 1)) fullShare ((dats m ρ 0 c).before 1 t d)))
    ⊢ iprop(PhiS m ρ c t.val ∗ (∃ W, owes (c : Thread nD τ) (owedS c t.val) W) ∗ X2 m ρ c ∗ AE (F := F) c ((cfg0.win 1).stage (cfg0.slots t 1))) := by
  rw [phi_cast]
  iintro ⟨HP, HO, HX, HA⟩
  isplitl [HP]; · iexact HP
  isplitl [HO]
  · iapply (owes_in m ρ c t.castSucc); iexact HO
  isplitl [HX]
  · iapply (pre0 m ρ c t); iexact HX
  iapply (Entails.of_eq (pre1 m ρ c t)); iexact HA

/-- Every point of the grid runs from the pipeline's state before it to the one after it. -/
theorem point_obligation (c : Dev nD) (t : Fin cfg0.N) :
    iprop((dats m ρ 0 c).Φ t.castSucc ∗ (dats m ρ 0 c).owesAt () t.castSucc
      ∗ (∃ d, owns (c : Thread nD τ) ((cfg0.win 0).stage (cfg0.slots t 0)) fullShare ((dats m ρ 0 c).before 0 t d))
      ∗ (∃ d, owns (c : Thread nD τ) ((cfg0.win 1).stage (cfg0.slots t 1)) fullShare ((dats m ρ 0 c).before 1 t d)))
    ⊢ Wpc c (bodyAt0 t) fun _ => iprop((dats m ρ 0 c).Φ t.succ ∗ (dats m ρ 0 c).owesAt () t.succ
        ∗ owns (c : Thread nD τ) ((cfg0.win 0).stage (cfg0.slots t 0)) fullShare ((dats m ρ 0 c).after 0 t) ∗ Post1 m ρ c t) := by
  refine (in0 m ρ c t).trans ?_
  unfold bodyAt0
  generalize hQ : iprop((dats m ρ 0 c).Φ t.succ ∗ (dats m ρ 0 c).owesAt () t.succ
        ∗ owns (c : Thread nD τ) ((cfg0.win 0).stage (cfg0.slots t 0)) fullShare ((dats m ρ 0 c).after 0 t) ∗ Post1 m ρ c t) = Q
  have hQ1 := (out0 m ρ c t (Post1 m ρ c t)).trans (Entails.of_eq hQ)
  clear hQ
  refine point_run m ρ (t := t) (stage0_eq _) (fun h => ?_) (fun h => ?_)
  · rw [← post1_idle m ρ c t h]; exact hQ1
  · refine Entails.trans (Entails.of_eq ?_) hQ1
    rw [post1_last m ρ c t h]

/-- The body's obligation at every point, on every device. -/
theorem body_obligation (c : Dev nD) : BodyObligation (dats (F := F) m ρ 0 c) (defs₀ (F := F)) 𝒱₀ () Set.univ := fun t => by
  rw [bigSep_W0, bigSep_W0]
  exact point_obligation m ρ c t

end Cert.KProof

end
-- ==== Proof.Deal.lean ====
module

public import proofs.«01_k».proof.Proof.Body
public import proofs.«01_k».proof.Proof.Gen.KernelIdeal.Launch
public import Idealize.ShloMosaic.Lib.Pipeline.Launch
public import Idealize.ShloMosaic.Lib.Pipeline.Kit

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! What the launch deals the devices: the cells' rounds, their positions and duties, and the credits. -/

/-- Different numbers name different semaphores. -/
theorem csem_injective : Function.Injective csem := by
  intro a b h
  rw [csem_n, csem_n] at h
  unfold nsem at h
  have ha := a.isLt; have hb := b.isLt
  apply Fin.ext
  by_cases h1 : 0 + a.val = 0
  · by_cases h2 : 0 + b.val = 0
    · omega
    · rw [if_pos h1, if_neg h2] at h; exact absurd h (by intro h; cases h)
  · by_cases h2 : 0 + b.val = 0
    · rw [if_neg h1, if_pos h2] at h; exact absurd h (by intro h; cases h)
    · rw [if_neg h1, if_neg h2] at h
      have h3 := congrArg Fin.val (SemLoc.dma.inj h)
      have h4 : (0 + a.val + 1) % 134 = (0 + b.val + 1) % 134 := h3
      omega
/-- Different devices or numbers name different cells. -/
theorem kcell_injective : Function.Injective (kcell : Dev nD × Fin 133 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
/-- All the cells of the schedule. -/
def ringCells : Finset (GSem nD τ sig) := Finset.univ.map ⟨kcell, kcell_injective⟩

/-- The four rows of per-peer semaphores: sends and receives of tiles, sends and receives of largest values. -/
def xsem (q : Fin 4) (t : Dev nD) : DmaSem sig := ⟨6 + 32 * q.val + t.val, by have := q.isLt; have : t.val < 32 := t.isLt; show _ < 134; omega⟩
/-- The first row of semaphores counts the sendings of tiles. -/
theorem xsem_0 (t : Dev nD) : xsem 0 t = dsSem t := Fin.ext (by show 6 + 32 * 0 + t.val = 6 + t.val; omega)
/-- The second row of semaphores counts the arrivals of tiles. -/
theorem xsem_1 (t : Dev nD) : xsem 1 t = drSem t := Fin.ext (by show 6 + 32 * 1 + t.val = 38 + t.val; omega)
/-- The third row of semaphores counts the sendings of rows. -/
theorem xsem_2 (t : Dev nD) : xsem 2 t = asSem t := Fin.ext (by show 6 + 32 * 2 + t.val = 70 + t.val; omega)
/-- The fourth row of semaphores counts the arrivals of rows. -/
theorem xsem_3 (t : Dev nD) : xsem 3 t = arSem t := Fin.ext (by show 6 + 32 * 3 + t.val = 102 + t.val; omega)

/-- The duties of a device's own cells: its barrier's, one for every device; its weight slots', one for every block;
    its per-peer semaphores', one each. -/
abbrev TokIx := Dev nD ⊕ (Fin 16 ⊕ (Fin 4 × Dev nD))
/-- A duty's semaphore, round and payer. -/
def tokIn : TokIx → SemLoc sig × ℕ × Fin 32
  | .inl d => (.reg barS, 0, d)
  | .inr (.inl j) => (.dma (wSem (sl j.val)), j.val / 4, 0)
  | .inr (.inr (q, t)) => (.dma (xsem q t), 0, 0)
/-- Different duties of a device have different tokens. -/
theorem tokIn_injective : Function.Injective tokIn := by
  rintro (d | j | ⟨q, t⟩) (d' | j' | ⟨q', t'⟩) h
  · have h2 : d = d' := congrArg (fun x : SemLoc sig × ℕ × Fin 32 => x.2.2) h
    rw [h2]
  · exact absurd (congrArg Prod.fst h) (by intro h; cases h)
  · exact absurd (congrArg Prod.fst h) (by intro h; cases h)
  · exact absurd (congrArg Prod.fst h) (by intro h; cases h)
  · have h1 : (SemLoc.dma (wSem (sl j.val)) : SemLoc sig) = .dma (wSem (sl j'.val)) := congrArg Prod.fst h
    have h2 : j.val / 4 = j'.val / 4 := congrArg (fun x : SemLoc sig × ℕ × Fin 32 => x.2.1) h
    have h3 : 2 + j.val % 4 = 2 + j'.val % 4 := congrArg Fin.val (SemLoc.dma.inj h1)
    rw [show j = j' from Fin.ext (by omega)]
  · have h1 : (SemLoc.dma (wSem (sl j.val)) : SemLoc sig) = .dma (xsem q' t') := congrArg Prod.fst h
    have h3 : 2 + j.val % 4 = 6 + 32 * q'.val + t'.val := congrArg Fin.val (SemLoc.dma.inj h1)
    omega
  · exact absurd (congrArg Prod.fst h) (by intro h; cases h)
  · have h1 : (SemLoc.dma (xsem q t) : SemLoc sig) = .dma (wSem (sl j'.val)) := congrArg Prod.fst h
    have h3 : 6 + 32 * q.val + t.val = 2 + j'.val % 4 := congrArg Fin.val (SemLoc.dma.inj h1)
    omega
  · have h1 : (SemLoc.dma (xsem q t) : SemLoc sig) = .dma (xsem q' t') := congrArg Prod.fst h
    have h3 : 6 + 32 * q.val + t.val = 6 + 32 * q'.val + t'.val := congrArg Fin.val (SemLoc.dma.inj h1)
    have : t.val < 32 := t.isLt
    have : t'.val < 32 := t'.isLt
    rw [show q = q' from Fin.ext (by omega), show t = t' from Fin.ext (by omega)]
/-- A duty's cell, round and payer. -/
def tokOf (x : Dev nD × TokIx) : GSem nD τ sig × ℕ × Fin 32 := (((x.1 : Thread nD τ), (tokIn x.2).1), (tokIn x.2).2)
/-- Different duties have different tokens. -/
theorem tokOf_injective : Function.Injective tokOf := by
  rintro ⟨c, x⟩ ⟨c', x'⟩ h
  have h1 : c = c' := congrArg (fun g : GSem nD τ sig × ℕ × Fin 32 => g.1.1.1) h
  subst h1
  have h2 : tokIn x = tokIn x' := congrArg (fun g : GSem nD τ sig × ℕ × Fin 32 => (g.1.2, g.2)) h
  rw [tokIn_injective h2]
/-- All the tokens of the schedule. -/
def ringToks : Finset (GSem nD τ sig × ℕ × Fin 32) := Finset.univ.map ⟨tokOf, tokOf_injective⟩

/-- What the proof starts with beside the memory. -/
def u₀ : UU :=
  (initOf (Pipeline.cells cfgs cellOf_inj) (Pipeline.launchToks cfgs cellOf_inj), initOf ringCells ringToks)

/-- The tokens of the ring's duties. -/
def wToks (c : Dev nD) : sProp 𝕄 := bigSep Finset.univ fun j : Fin 16 => dutyTok ER (wC c (sl j.val)) (j.val / 4) 0
/-- The duty tokens of device `c`'s own cells. -/
def toks (c : Dev nD) : sProp 𝕄 :=
  iprop(bigSep Finset.univ (fun d : Dev nD => dutyTok ER (bar c) 0 d) ∗ wToks c
    ∗ bigSep Finset.univ (fun t : Dev nD => dutyTok ER (ds c t) 0 0) ∗ bigSep Finset.univ (fun t : Dev nD => dutyTok ER (dr c t) 0 0)
    ∗ bigSep Finset.univ (fun t : Dev nD => dutyTok ER (ac c t) 0 0) ∗ bigSep Finset.univ (fun t : Dev nD => dutyTok ER (ar c t) 0 0))

/-- The tokens of a device's cells, sorted by kind. -/
theorem toks_eq (c : Dev nD) : bigSep Finset.univ (fun x : TokIx => (dutyTok ER (tokOf (c, x)).1 (tokOf (c, x)).2.1 (tokOf (c, x)).2.2 : sProp 𝕄)) = toks c := by
  rw [bigSep_univ_sum, bigSep_univ_sum, bigSep_univ_prod, four]
  unfold toks wToks
  have e (q : Fin 4) (t : Dev nD) : (dutyTok ER (tokOf (c, (.inr (.inr (q, t)) : TokIx))).1 (tokOf (c, (.inr (.inr (q, t)) : TokIx))).2.1 (tokOf (c, (.inr (.inr (q, t)) : TokIx))).2.2 : sProp 𝕄)
      = dutyTok ER ((c : Thread nD τ), .dma (xsem q t)) 0 0 := rfl
  simp only [e, xsem_0, xsem_1, xsem_2, xsem_3]
  rfl

/-- What the launch element deals device `c`. -/
def G (c : Dev nD) : sProp 𝕄 :=
  iprop((bigSep Finset.univ fun k : Fin 133 => roundState ER (rd m ρ) (kcell (c, k)) 0)
    ∗ (bigSep Finset.univ fun k : Fin 133 => iprop(atPos ER (kcell (c, k)) 0 ∅ 0 ∗ reached ER (kcell (c, k)) 0)) ∗ toks c)

/-- A family over all the cells, by device and number. -/
theorem over_cells (Φ : GSem nD τ sig → sProp 𝕄) : bigSep ringCells Φ = bigSep Finset.univ fun c : Dev nD => bigSep Finset.univ fun k : Fin 133 => Φ (kcell (c, k)) := by
  unfold ringCells; rw [bigSep_map, bigSep_univ_prod]; rfl
/-- The tokens of all the cells, by device. -/
theorem over_toks : bigSep ringToks (fun x => (dutyTok ER x.1 x.2.1 x.2.2 : sProp 𝕄)) = bigSep Finset.univ fun c : Dev nD => toks c := by
  unfold ringToks; rw [bigSep_map, bigSep_univ_prod]
  exact bigSep_congr fun c _ => toks_eq c

/-- What the proof starts with gives every device its part. -/
theorem fund_ring : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst' := (Entails.of_eq (over_cells fun g => roundState ER (rd m ρ) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-- The kernel's own semaphores: all the dma semaphores but the staging pair. -/
abbrev osem : Fin 132 → SemLoc sig := fun j => csem j.succ
/-- The kernel's own semaphores are those after the windows' two. -/
theorem osem_eq : osem = fun j => SemLoc.dma ⟨j.val + 2, by have := j.isLt; show _ < 134; omega⟩ := by
  funext j
  unfold osem
  rw [csem_n]
  have := j.isLt
  refine nsem_at ⟨j.val + 2, by show _ < 134; omega⟩ (0 + j.succ.val) ?_ (by rw [Fin.val_succ]; omega)
  show j.val + 2 = 0 + j.succ.val + 1
  rw [Fin.val_succ]; omega

/-- The kernel's own semaphores are different ones, and none is a window's. -/
theorem ownSemFacts : Pipeline.OwnSemFacts cfg0.spec osem := by
  rw [osem_eq]
  decide +kernel

/-- The only counter outside the region is the barrier's. -/
theorem unscopedSems0_eq (c : Dev nD) : (unscopedSems0 c : sProp 𝕄) = semVal (bar c) 0 := by
  unfold unscopedSems0; rw [bigSep_eq_bigSepL_of_eq [SemLoc.reg barS] (by decide +kernel) (by decide +kernel)]; rfl

/-- A family over an initial segment is its first member and the rest. -/
theorem first_rest {n : ℕ} (Φ : Fin (n + 1) → sProp 𝕄) : bigSep Finset.univ Φ = iprop(Φ 0 ∗ bigSep Finset.univ (fun j : Fin n => Φ j.succ)) := by
  rw [Fin.univ_succ, Finset.cons_eq_insert, bigSep_insert (by simp), bigSep_map]; rfl

/-- A device's counters are those of its cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 133 => semVal (kcell (c, k)) 0 : sProp 𝕄) := by
  rw [unscopedSems0_eq, first_rest]; rfl

/-- A device turns its counters into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 133 => semVal (kcell (c, k)) 0) ∗ bigSep Finset.univ fun k : Fin 133 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(bigSep Finset.univ (fun d : Dev nD => dutyTok ER (bar d) 0 c) ∗ wToks c
    ∗ bigSep Finset.univ (fun t : Dev nD => dutyTok ER (ds c t) 0 0) ∗ bigSep Finset.univ (fun t : Dev nD => dutyTok ER (dr t c) 0 0)
    ∗ bigSep Finset.univ (fun t : Dev nD => dutyTok ER (ac c t) 0 0) ∗ bigSep Finset.univ (fun t : Dev nD => dutyTok ER (ar t c) 0 0))
/-- What a device gets for itself: its positions, and the tokens of the duties that it pays. -/
def linear (c : Dev nD) : sProp 𝕄 :=
  iprop(bigSep Finset.univ (fun j : Fin 133 => atPos ER (kcell (c, j)) 0 ∅ 0) ∗ payToks c)
/-- What the global step makes of it. -/
def G' (c : Dev nD) : sProp 𝕄 := iprop((∃ K, records m ρ K) ∗ linear c)

/-- A family over pairs of devices, dealt by the other one. -/
theorem swap (Φ : Dev nD → Dev nD → sProp 𝕄) : bigSep Finset.univ (fun c => bigSep Finset.univ fun t => Φ c t) = bigSep Finset.univ (fun c => bigSep Finset.univ fun t => Φ t c) := by
  rw [← bigSep_univ_prod (fun x : Dev nD × Dev nD => Φ x.1 x.2), ← bigSep_univ_prod (fun x : Dev nD × Dev nD => Φ x.2 x.1)]
  exact bigSep_univ_equiv (Equiv.prodComm (Dev nD) (Dev nD)) _

/-- The tokens sorted by cell are the tokens sorted by payer. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep', bigSep_sep', bigSep_sep',
    swap (fun c d => dutyTok ER (bar c) 0 d), swap (fun c t => dutyTok ER (dr c t) 0 0), swap (fun c t => dutyTok ER (ar c t) 0 0)]

/-- The invariants go to everybody, the rest to its device. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 133 => iprop(∃ κ : ℕ, cellInv ER (rd m ρ) κ (kcell ck))),
    bigSep_congr (s := Finset.univ) (fun (c : Dev nD) _ => bigSep_sep' Finset.univ (fun k : Fin 133 => (atPos ER (kcell (c, k)) 0 ∅ 0 : sProp 𝕄)) (fun k => reached ER (kcell (c, k)) 0)),
    bigSep_sep', ← bigSep_univ_prod (fun ck : Dev nD × Fin 133 => (reached ER (kcell ck) 0 : sProp 𝕄)), toks_around]
  iintro ⟨HI, ⟨Hat, #HR⟩, Htok⟩
  ihave HK := (BI.bigSep_exists_pi Finset.univ (fun (ck : Dev nD × Fin 133) (κ : ℕ) => (cellInv ER (rd m ρ) κ (kcell ck) : sProp 𝕄))) $$ HI
  icases HK with ⟨%K, #HI'⟩
  ihave Hl := (show iprop((bigSep Finset.univ fun c : Dev nD => bigSep Finset.univ fun j : Fin 133 => (atPos ER (kcell (c, j)) 0 ∅ 0 : sProp 𝕄)) ∗ bigSep Finset.univ fun c : Dev nD => (payToks c : sProp 𝕄))
      ⊢ bigSep Finset.univ fun c : Dev nD => (linear c : sProp 𝕄) from by unfold linear; rw [bigSep_sep']) $$ [Hat Htok]
  · isplitl [Hat] <;> iassumption
  iapply (each_with (R := records m ρ K) (Φ := fun c : Dev nD => linear c) (Ψ := G' m ρ) fun c => by
    unfold G'; iintro ⟨HR, HL⟩; isplitl [HR]
    · iexists K; iexact HR
    iexact HL) $$ [Hl]
  isplitr
  · unfold records; isplitr; · iexact HI'
    iexact HR
  iexact Hl

/-- All devices together turn their counters into what each of them starts with. -/
theorem glob : (bigSep Finset.univ fun c : Dev nD => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credits -/

/-- A chain over the devices after `c` is a sum over the others. -/
theorem sum_others {A : Type} [AddCommMonoid A] (c : Dev nD) (f : Dev nD → A) : ∑ n ∈ Finset.Ico 1 32, f (tgt c n) = ∑ t ∈ Finset.univ.erase c, f t := by
  rw [others_image]
  refine (Finset.sum_image ?_).symm
  intro a ha b hb e
  have ha := Finset.mem_Ico.mp ha; have hb := Finset.mem_Ico.mp hb
  rw [← dist_tgt c a ha.2, ← dist_tgt c b hb.2, e]
/-- A sum over 32 places is one over the devices. -/
theorem sum_all {A : Type} [AddCommMonoid A] (f : Dev nD → A) : ∑ n ∈ Finset.Ico 0 32, f (D n) = ∑ t, f t := by
  rw [show (Finset.univ : Finset (Dev nD)) = (Finset.Ico 0 32).image D by decide +kernel]
  refine (Finset.sum_image ?_).symm
  intro a ha b hb e
  have ha := Finset.mem_Ico.mp ha; have hb := Finset.mem_Ico.mp hb
  have := congrArg Fin.val e; rw [D_val, D_val] at this; omega

/-- A debt counts at its own cell and nowhere else. -/
theorem tally_if (g g' : GSem nD τ sig) (N : ℕ) : (tallyAt g () N : CellTallies nD τ sig Unit) g' () = if g' = g then N else 0 := by
  by_cases h : g' = g
  · subst h; rw [if_pos rfl]; simp [tallyAt_apply]
  · rw [if_neg h, tallyAt_ne_cell h]; rfl

/-- What a device owes a cell at the launch. -/
theorem owes_at (d : Dev nD) (g : GSem nD τ sig) : O₀ d g () =
    (∑ t ∈ Finset.univ.erase d, if g = bar t then 1 else 0) + (∑ t : Dev nD, if t = d then 0 else if g = dr t d then Nt else 0)
      + ∑ t ∈ Finset.univ.erase d, if g = ar t d then Na else 0 := by
  unfold O₀ Owe Ob Od Oa
  rw [sum_others d (fun t => (tallyAt (bar t) () 1 : CellTallies nD τ sig Unit)), sum_others d (fun t => (tallyAt (ar t d) () Na : CellTallies nD τ sig Unit)),
    sum_all (fun t => if t = d then 0 else (tallyAt (dr t d) () Nt : CellTallies nD τ sig Unit))]
  have hm (t : Dev nD) : (if t = d then 0 else (tallyAt (dr t d) () Nt : CellTallies nD τ sig Unit)) g () = if t = d then 0 else if g = dr t d then Nt else 0 := by
    split
    · rfl
    · exact tally_if _ _ _
  simp only [Pi.add_apply, Finsupp.add_apply, Finset.sum_apply, Finsupp.finset_sum_apply, tally_if, hm]

/-- A barrier cell is not a copy's cell. -/
theorem bar_ne (c : Dev nD) (x y : Dev nD) (q : DmaSem sig) : bar x ≠ ((y : Thread nD τ), .dma q) := fun h => by
  have h2 := congrArg Prod.snd h; cases h2
/-- Barrier cells are equal when their devices are. -/
theorem bar_iff (x y : Dev nD) : bar x = bar y ↔ x = y := ⟨fun h => congrArg (fun g : GSem nD τ sig => g.1.1) h, fun h => by rw [h]⟩
/-- Cells of arrivals of tiles are equal when both devices are. -/
theorem dr_iff (x y x' y' : Dev nD) : dr x y = dr x' y' ↔ x = x' ∧ y = y' := by
  refine ⟨fun h => ⟨congrArg (fun g : GSem nD τ sig => g.1.1) h, ?_⟩, fun h => by rw [h.1, h.2]⟩
  have h2 : (SemLoc.dma (drSem y) : SemLoc sig) = .dma (drSem y') := congrArg Prod.snd h
  have h3 : 38 + y.val = 38 + y'.val := congrArg Fin.val (SemLoc.dma.inj h2)
  exact Fin.ext (by omega)
/-- Cells of arrivals of rows are equal when both devices are. -/
theorem ar_iff (x y x' y' : Dev nD) : ar x y = ar x' y' ↔ x = x' ∧ y = y' := by
  refine ⟨fun h => ⟨congrArg (fun g : GSem nD τ sig => g.1.1) h, ?_⟩, fun h => by rw [h.1, h.2]⟩
  have h2 : (SemLoc.dma (arSem y) : SemLoc sig) = .dma (arSem y') := congrArg Prod.snd h
  have h3 : 102 + y.val = 102 + y'.val := congrArg Fin.val (SemLoc.dma.inj h2)
  exact Fin.ext (by omega)
/-- A row's cell is not a tile's. -/
theorem ar_dr (x y x' y' : Dev nD) : ar x y ≠ dr x' y' := fun h => by
  have h2 : (SemLoc.dma (arSem y) : SemLoc sig) = .dma (drSem y') := congrArg Prod.snd h
  have h3 : 102 + y.val = 38 + y'.val := congrArg Fin.val (SemLoc.dma.inj h2)
  have : y'.val < 32 := y'.isLt
  omega

/-- A cell named by two devices, summed over all pairs of different devices. -/
theorem pair_sum (c t : Dev nD) (h : t ≠ c) (N : ℕ) : ∑ d : Dev nD, ∑ t' ∈ Finset.univ.erase d, (if c = t' ∧ t = d then N else 0) = N := by
  rw [Finset.sum_eq_single t]
  · rw [Finset.sum_eq_single c]
    · rw [if_pos ⟨rfl, rfl⟩]
    · intro b _ hb; rw [if_neg fun x => hb x.1.symm]
    · intro hn; exact absurd (Finset.mem_erase.mpr ⟨fun e => h e.symm, Finset.mem_univ c⟩) hn
  · intro b _ hb
    exact Finset.sum_eq_zero fun x _ => if_neg fun y => hb y.2.symm
  · intro hn; exact absurd (Finset.mem_univ t) hn

/-- A sum that leaves one device out is one over the others. -/
theorem all_others_sum (d : Dev nD) (f : Dev nD → ℕ) : ∑ t : Dev nD, (if t = d then 0 else f t) = ∑ t ∈ Finset.univ.erase d, f t := by
  rw [← Finset.add_sum_erase Finset.univ _ (Finset.mem_univ d), if_pos rfl, Nat.zero_add]
  exact Finset.sum_congr rfl fun t ht => if_neg (Finset.ne_of_mem_erase ht)

/-- All devices together owe a barrier 31 signals. -/
theorem owed_bar (c : Dev nD) : ∑ d : Dev nD, O₀ d (bar c) () = 31 := by
  have h (d : Dev nD) : O₀ d (bar c) () = ∑ t ∈ Finset.univ.erase d, if c = t then 1 else 0 := by
    rw [owes_at]
    simp only [bar_iff, fun t => if_neg (c := bar c = dr t d) (t := Nt) (e := 0) (bar_ne c c t (drSem d)), fun t => if_neg (c := bar c = ar t d) (t := Na) (e := 0) (bar_ne c c t (arSem d)), ite_self, Finset.sum_const_zero, Nat.add_zero]
  rw [Finset.sum_congr rfl fun d _ => h d]
  exact (by decide +kernel : ∀ c : Fin 32, ∑ d : Fin 32, ∑ t ∈ Finset.univ.erase d, (if c = t then 1 else 0) = 31) c
/-- All devices together owe a tile's cell one tile. -/
theorem owed_dr (c t : Dev nD) (ht : t ≠ c) : ∑ d : Dev nD, O₀ d (dr c t) () = Nt := by
  have h (d : Dev nD) : O₀ d (dr c t) () = ∑ t' ∈ Finset.univ.erase d, if c = t' ∧ t = d then Nt else 0 := by
    rw [owes_at, all_others_sum]
    simp only [dr_iff, fun x => if_neg (c := dr c t = bar x) (t := 1) (e := 0) (bar_ne c x c (drSem t)).symm, fun x => if_neg (c := dr c t = ar x d) (t := Na) (e := 0) (ar_dr x d c t).symm, Finset.sum_const_zero, Nat.add_zero, Nat.zero_add]
  rw [Finset.sum_congr rfl fun d _ => h d]
  exact pair_sum c t ht Nt
/-- All devices together owe a row's cell one row. -/
theorem owed_ar (c t : Dev nD) (ht : t ≠ c) : ∑ d : Dev nD, O₀ d (ar c t) () = Na := by
  have h (d : Dev nD) : O₀ d (ar c t) () = ∑ t' ∈ Finset.univ.erase d, if c = t' ∧ t = d then Na else 0 := by
    rw [owes_at]
    simp only [ar_iff, fun x => if_neg (c := ar c t = bar x) (t := 1) (e := 0) (bar_ne c x c (arSem t)).symm, fun x => if_neg (c := ar c t = dr x d) (t := Nt) (e := 0) (ar_dr c t x d), ite_self, Finset.sum_const_zero, Nat.add_zero, Nat.zero_add]
  rw [Finset.sum_congr rfl fun d _ => h d]
  exact pair_sum c t ht Na

/-- What is owed to a cell at the launch is the credit on it. -/
theorem credit_at (g : GSem nD τ sig) (N : ℕ) (h : ∑ d : Dev nD, O₀ d g () = N) :
    (tallyOn g (launchCredit (Pipeline.owing O₀) 0 g) : CellTallies nD τ sig Unit) = tallyAt g () N := by
  unfold tallyAt
  refine congrArg (tallyOn g) (Finsupp.ext fun u => ?_)
  obtain ⟨⟩ := u
  rw [Pipeline.launchCredit_owing, h, Finsupp.single_eq_same]

/-- The credits a device is dealt: its barrier's, and for every other device those of its tile and of its largest value. -/
theorem creds (c : Dev nD) : (Pipeline.launchCred O₀ c : sProp 𝕄) ⊢ iprop(cred (tallyAt (bar c) () 31) ∗ Crd (F := F) drSem Nt c ∗ Crd (F := F) arSem Na c) := by
  unfold Pipeline.launchCred
  refine (bigSep_subset (Finset.subset_univ ((Finset.univ : Finset (Fin 133)).image csem))).trans ?_
  rw [bigSep_image_of_injOn (fun a _ b _ h => csem_injective h)]
  have h := cells_split (F := F) (fun sm => cred (tallyOn ((c : Thread nD τ), sm) (launchCredit (Pipeline.owing O₀) 0 ((c : Thread nD τ), sm))))
  refine (Entails.of_eq h).trans ?_
  rw [credit_at (bar c) 31 (owed_bar c), all_others c (A := fun t => cred (tallyOn (dr c t) (launchCredit (Pipeline.owing O₀) 0 (dr c t)))),
    all_others c (A := fun t => cred (tallyOn (ar c t) (launchCredit (Pipeline.owing O₀) 0 (ar c t))))]
  have hd : bigSep (Finset.Ico 1 32) (fun n => cred (tallyOn (dr c (tgt c n)) (launchCredit (Pipeline.owing O₀) 0 (dr c (tgt c n))))) ⊢ (Crd (F := F) drSem Nt c : sProp 𝕄) := by
    unfold Crd
    exact bigSep_mono fun n hn => Entails.of_eq (congrArg cred (credit_at (dr c (tgt c n)) Nt (owed_dr c (tgt c n) (tgt_ne c n (Finset.mem_Ico.mp hn).1 (Finset.mem_Ico.mp hn).2))))
  have ha : bigSep (Finset.Ico 1 32) (fun n => cred (tallyOn (ar c (tgt c n)) (launchCredit (Pipeline.owing O₀) 0 (ar c (tgt c n))))) ⊢ (Crd (F := F) arSem Na c : sProp 𝕄) := by
    unfold Crd
    exact bigSep_mono fun n hn => Entails.of_eq (congrArg cred (credit_at (ar c (tgt c n)) Na (owed_ar c (tgt c n) (tgt_ne c n (Finset.mem_Ico.mp hn).1 (Finset.mem_Ico.mp hn).2))))
  iintro ⟨Hb, -, -, ⟨-, Hd⟩, -, ⟨-, Ha⟩⟩
  isplitl [Hb]; · iexact Hb
  isplitl [Hd]; · iapply hd; iexact Hd
  iapply ha; iexact Ha

end Cert.KProof

end
-- ==== Proof.Launch.lean ====
module

public import proofs.«01_k».proof.Proof.Deal
public import Idealize.ShloMosaic.Lib.Pipeline.CollectiveSegs

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The run of @main: what the first grid point starts from, what the last leaves, and the launch. -/

/-- The region's scratch buffers, one by one. -/
theorem scoped_any (c : Dev nD) : (Pipeline.scopedRest (Ix := Unit) (Name := ℕ) (U := UU) (Lvl := ℕ) (Val := Elt F) cfg0.spec c : sProp 𝕄)
    = iprop(Any (F := F) c cc0_scratch0 ∗ Any (F := F) c cc0_scratch1 ∗ Any (F := F) c cc0_scratch2 ∗ Any (F := F) c cc0_scratch3 ∗ Any (F := F) c cc0_scratch4
      ∗ Any (F := F) c cc0_scratch5 ∗ Any (F := F) c cc0_scratch6 ∗ Any (F := F) c cc0_scratch7) := scopedRest0_eq c

/-- What a device has before its scratch buffers are added. -/
def start (c : Dev nD) : sProp 𝕄 :=
  iprop(RL m ρ ∗ linear c ∗ (cred (tallyAt (bar c) () 31) ∗ Crd (F := F) drSem Nt c ∗ Crd (F := F) arSem Na c) ∗ (((c : Thread nD τ).loc main_arg1) ↦{fullShare} garr m ρ c))

/-- Of the arrays only the weights are outside the windows. -/
theorem rest_eq (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = (((c : Thread nD τ).loc main_arg1) ↦{fullShare} V main_arg1) :=
  Pipeline.unscopedRestP_eq_of_list cfg0.spec c Pipeline.Prefetch.none V [main_arg1] (by decide) (by decide)

/-- What the launch gives a device is what the device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [rest_eq]
  iintro ⟨Hg, Hlev, Hcr, -, HG⟩
  ihave Hc := (creds (F := F) c) $$ Hcr
  unfold start G' RL
  icases HG with ⟨HK, HL⟩
  imodintro
  isplitl
  · isplitl [HK Hlev]
    · isplitl [HK]; · iexact HK
      iexact Hlev
    isplitl [HL]; · iexact HL
    isplitl [Hc]; · iexact Hc
    iexact Hg
  · iempintro

/-! ## The scratch buffers cut into the places the kernel works with -/

/-- The cut activations' buffer, cut into four blocks. -/
theorem xp_cut (c : Dev nD) : Any (F := F) c cc0_scratch0 ⊢ XpE (F := F) c := by
  unfold XpE
  exact (of_any c cc0_scratch0).trans (cut_ex c xpM rX (fun _ _ => rfl) dX cX)
/-- The ring's buffer, cut into four free slots. -/
theorem w_cut (c : Dev nD) : Any (F := F) c cc0_scratch1 ⊢ bigSep (Finset.Ico 0 4) (wFree (F := F) c) := by
  refine ((of_any c cc0_scratch1).trans (cut_ex c wM rW (fun _ _ => rfl) dW cW)).trans ?_
  rw [show (Finset.Ico 0 4) = Finset.Ico 0 (0 + 4) from rfl, ico_fin]
  refine bigSep_mono fun k _ => ?_
  unfold wFree
  rw [sl_add 0 (by decide) k]
  exact BI.BIBase.Entails.of_eq (PROP := sProp 𝕄) rfl
/-- The send buffer, cut into the places of the tiles. -/
theorem sb_cut (c : Dev nD) : Any (F := F) c cc0_scratch4 ⊢ SE (F := F) c := by
  unfold SE
  exact (of_any c cc0_scratch4).trans (cut_ex c sbM rT (fun _ _ => rfl) dT cT)
/-- The buffer of received tiles, cut into the device's own place and the others'. -/
theorem rb_cut (c : Dev nD) : Any (F := F) c cc0_scratch5
    ⊢ iprop(RvE (F := F) c ∗ bigSep (Finset.Ico 1 32) fun n => iprop(∃ X, owns (c : Thread nD τ) (rvT (tgt c n)) fullShare X)) := by
  have h := (of_any (F := F) c cc0_scratch5).trans (cut_ex c rbM rT (fun _ _ => rfl) dT cT)
  rw [all_others c (A := fun t => iprop(∃ X, owns (c : Thread nD τ) (rbM.slice (rT t) (fun _ => rfl)) fullShare X))] at h
  unfold RvE
  exact h
/-- The buffer of received rows, cut into the device's own place and the others'. -/
theorem ar_cut (c : Dev nD) : Any (F := F) c cc0_scratch7
    ⊢ iprop(ArE (F := F) c ∗ bigSep (Finset.Ico 1 32) fun n => iprop(∃ X, owns (c : Thread nD τ) (arR (tgt c n)) fullShare X)) := by
  have h := (of_any (F := F) c cc0_scratch7).trans (cut_ex c arM rA (fun _ _ => rfl) dA cA)
  rw [all_others c (A := fun t => iprop(∃ X, owns (c : Thread nD τ) (arM.slice (rA t) (fun _ => rfl)) fullShare X))] at h
  unfold ArE
  exact h
/-- The running product may be anything at the start. -/
theorem yg_any (c : Dev nD) : Any (F := F) c cc0_scratch2 ⊢ Yg m ρ c 0 := by
  unfold Any Yg
  iintro ⟨%f, H⟩
  iexists f
  isplitr
  · ipureintro; intro h; exact absurd rfl h
  iexact H
/-- The running maximum may be anything at the start. -/
theorem vm_any (c : Dev nD) : Any (F := F) c cc0_scratch3 ⊢ VmE (F := F) c := by
  unfold Any VmE
  iintro ⟨%f, H⟩
  iexists f
  iexact H
/-- The buffer of the row may be anything at the start. -/
theorem as_any (c : Dev nD) : Any (F := F) c cc0_scratch6 ⊢ AsE (F := F) c := by
  unfold Any AsE
  iintro ⟨%f, H⟩
  iexists f
  iexact H

/-! ## The ghost state sorted -/

/-- The barrier's tokens and the places for the others' data make up what the signals spend. -/
theorem sig_tok (c : Dev nD) : iprop(bigSep Finset.univ (fun d : Dev nD => (dutyTok ER (bar d) 0 c : sProp 𝕄))
      ∗ (bigSep (Finset.Ico 1 32) fun n => iprop(∃ X, owns (c : Thread nD τ) (rvT (tgt c n)) fullShare X))
      ∗ (bigSep (Finset.Ico 1 32) fun n => iprop(∃ X, owns (c : Thread nD τ) (arR (tgt c n)) fullShare X)))
    ⊢ bigSep (Finset.Ico 1 32) (sigTok (F := F) c) := by
  rw [all_others c (A := fun d => dutyTok ER (bar d) 0 c)]
  iintro ⟨⟨-, H1⟩, H2, H3⟩
  iapply (show iprop((bigSep (Finset.Ico 1 32) fun n => (dutyTok ER (bar (tgt c n)) 0 c : sProp 𝕄))
      ∗ (bigSep (Finset.Ico 1 32) fun n => iprop(∃ X, owns (c : Thread nD τ) (rvT (tgt c n)) fullShare X))
      ∗ (bigSep (Finset.Ico 1 32) fun n => iprop(∃ X, owns (c : Thread nD τ) (arR (tgt c n)) fullShare X)))
    ⊢ bigSep (Finset.Ico 1 32) (sigTok (F := F) c) from by
      rw [← bigSep_sep', ← bigSep_sep']
      exact BI.BIBase.Entails.of_eq (PROP := sProp 𝕄) rfl) $$ [H1 H2 H3]
  isplitl [H1]; · iexact H1
  isplitl [H2]; · iexact H2
  iexact H3

/-- The ring's tokens and the weights make up what the copies of blocks spend. -/
theorem w_tok (c : Dev nD) : iprop(wToks (F := F) c ∗ (((c : Thread nD τ).loc main_arg1) ↦{fullShare} garr m ρ c)) ⊢ bigSep (Finset.Ico 0 16) (wTok m ρ c) := by
  rw [← g_whole]
  unfold wToks
  have h := ico_fin (F := F) (a := 0) (n := 16) (g := fun j => dutyTok ER (wC c (sl j)) (j / 4) 0)
  simp only [Nat.zero_add] at h
  rw [← h, ← bigSep_sep']
  exact BI.BIBase.Entails.of_eq (PROP := sProp 𝕄) rfl

/-- The ring's positions at the start. -/
theorem w_pos (c : Dev nD) : iprop(RL m ρ ∗ bigSep Finset.univ (fun k : Fin 4 => (atPos ER (wC c k) 0 ∅ 0 : sProp 𝕄))) ⊢ bigSep (Finset.Ico 0 4) (wPos (F := F) c) := by
  rw [show (Finset.Ico 0 4) = Finset.Ico 0 (0 + 4) from rfl, ico_fin]
  refine each_with fun k => ?_
  unfold wPos
  have h : (0 + k.val) / 4 = 0 := by have := k.isLt; omega
  rw [sl_add 0 (by decide) k, h]
  iintro ⟨HR, Ha⟩
  isplitl [Ha]; · iexact Ha
  ihave H := (RL_dma m ρ c (wSem k) (wSem_ge k)) $$ HR
  icases H with ⟨%κ, -, H⟩
  iexact H

/-- The tokens of a device's own transfers, sorted by peer. -/
theorem b_tok (c : Dev nD) : iprop(bigSep Finset.univ (fun t : Dev nD => (dutyTok ER (ds c t) 0 0 : sProp 𝕄)) ∗ bigSep Finset.univ (fun t : Dev nD => dutyTok ER (dr t c) 0 0)
      ∗ bigSep Finset.univ (fun t : Dev nD => dutyTok ER (ac c t) 0 0) ∗ bigSep Finset.univ (fun t : Dev nD => dutyTok ER (ar t c) 0 0)) ⊢ BTok (F := F) c := by
  unfold BTok
  refine .trans ?_ (bigSep_subset (Finset.subset_univ (Finset.univ.erase c)))
  rw [bigSep_sep', bigSep_sep', bigSep_sep']
  iintro ⟨H1, H2, H3, H4⟩
  isplitl [H1 H2]
  · isplitl [H1]; · iexact H1
    iexact H2
  isplitl [H3]; · iexact H3
  iexact H4

/-- A device's positions. -/
theorem pos_split (c : Dev nD) : bigSep Finset.univ (fun j : Fin 133 => (atPos ER (kcell (c, j)) 0 ∅ 0 : sProp 𝕄))
    = iprop(atPos ER (bar c) 0 ∅ 0 ∗ bigSep Finset.univ (fun k : Fin 4 => atPos ER (wC c k) 0 ∅ 0) ∗ Own4 (F := F) c
      ∗ Pos (F := F) dsSem c ∗ Pos (F := F) drSem c ∗ Pos (F := F) asSem c ∗ Pos (F := F) arSem c) := by
  have h := cells_split (F := F) (fun s => atPos ER ((c : Thread nD τ), s) 0 ∅ 0)
  rw [all_others c (A := fun t => atPos ER (ds c t) 0 ∅ 0), all_others c (A := fun t => atPos ER (dr c t) 0 ∅ 0), all_others c (A := fun t => atPos ER (ac c t) 0 ∅ 0),
    all_others c (A := fun t => atPos ER (ar c t) 0 ∅ 0)] at h
  refine h.trans ?_
  unfold Own4
  show iprop(atPos ER (bar c) 0 ∅ 0 ∗ bigSep Finset.univ (fun k : Fin 4 => atPos ER (wC c k) 0 ∅ 0) ∗ (atPos ER (ds c c) 0 ∅ 0 ∗ Pos (F := F) dsSem c)
      ∗ (atPos ER (dr c c) 0 ∅ 0 ∗ Pos (F := F) drSem c) ∗ (atPos ER (ac c c) 0 ∅ 0 ∗ Pos (F := F) asSem c) ∗ (atPos ER (ar c c) 0 ∅ 0 ∗ Pos (F := F) arSem c))
    = _
  ac_rfl

/-- What a device starts with and its scratch buffers are what is held before the first point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Phi0 m ρ c from by dsimp only [dats]; rfl, scoped_any]
  unfold start linear payToks Phi0 WS EX
  rw [pos_split, if_pos (by decide)]
  unfold BB Ct
  iintro ⟨⟨#HR, ⟨⟨Pb, Pw, Po, Pds, Pdr, Pas, Par⟩, Tb, Tw, Tds, Tdr, Tac, Tar⟩, ⟨Cb, Cd, Ca⟩, Hg⟩, -, H0, H1, H2, H3, H4, H5, H6, H7⟩
  ihave H0 := (xp_cut (F := F) c) $$ H0
  ihave H1 := (w_cut (F := F) c) $$ H1
  ihave H2 := (yg_any m ρ c) $$ H2
  ihave H3 := (vm_any (F := F) c) $$ H3
  ihave H4 := (sb_cut (F := F) c) $$ H4
  ihave H5 := (rb_cut (F := F) c) $$ H5
  ihave H6 := (as_any (F := F) c) $$ H6
  ihave H7 := (ar_cut (F := F) c) $$ H7
  icases H5 with ⟨Hrv, H5⟩
  icases H7 with ⟨Har, H7⟩
  ihave Hs := (sig_tok (F := F) c) $$ [Tb H5 H7]
  · isplitl [Tb]; · iexact Tb
    isplitl [H5]; · iexact H5
    iexact H7
  ihave Hw := (w_tok m ρ c) $$ [Tw Hg]
  · isplitl [Tw]; · iexact Tw
    iexact Hg
  ihave Hp := (w_pos m ρ c) $$ [Pw]
  · isplitr; · iexact HR
    iexact Pw
  ihave Hb := (b_tok (F := F) c) $$ [Tds Tdr Tac Tar]
  · isplitl [Tds]; · iexact Tds
    isplitl [Tdr]; · iexact Tdr
    isplitl [Tac]; · iexact Tac
    iexact Tar
  isplitr; · iexact HR
  isplitl [Hw Hp H1]
  · isplitl [Hw]; · iexact Hw
    isplitr; · (rw [emp0 (le_refl 0)]; iempintro)
    isplitr; · (rw [emp0 (le_refl 0)]; iempintro)
    isplitl [Hp]; · iexact Hp
    iexact H1
  isplitl [Hs]; · iexact Hs
  isplitl [H0]; · iexact H0
  isplitl [H2]; · iexact H2
  isplitl [H3]; · iexact H3
  isplitl [Cb Pb Hb H4]
  · isplitl [Cb Pb Hb]
    · isplitl [Cb Pb]
      · isplitl [Cb]; · iexact Cb
        iexact Pb
      iexact Hb
    iexact H4
  isplitl [Ca]; · iexact Ca
  isplitl [Par]; · iexact Par
  isplitl [Cd]; · iexact Cd
  isplitl [Pdr]; · iexact Pdr
  isplitl [Pds]; · iexact Pds
  isplitl [Pas]; · iexact Pas
  isplitl [Po]; · iexact Po
  isplitl [Hrv]; · iexact Hrv
  isplitl [Har]; · iexact Har
  iexact H6

/-- What a device keeps of the region: its unscoped counters at zero and the weights as they were. -/
def kept (c : Dev nD) : sProp 𝕄 := iprop(unscopedSems0 c ∗ (((c : Thread nD τ).loc main_arg1) ↦{fullShare} garr m ρ c))

/-- What is held after the last point gives the counters and the scratch buffers back. -/
theorem phi_exit (c : Dev nD) :
    (dats m ρ 0 c).Φ (Fin.last cfg0.N) ⊢ iprop(kept m ρ c ∗ Pipeline.ownSems0 osem c ∗ Pipeline.scopedRest cfg0.spec c) := by
  rw [show (dats m ρ 0 c).Φ (Fin.last cfg0.N) = Done m ρ c from by dsimp only [dats]; rfl, scoped_any]
  unfold Done kept
  rw [← sems0_eq (F := F) c]
  iintro ⟨H, ⟨Hu, Ho⟩, Hg⟩
  isplitl [Hu Hg]
  · isplitl [Hu]; · iexact Hu
    iexact Hg
  isplitl [Ho]; · iexact Ho
  iexact H

/-- The pipeline's own waits stand below everything owed. -/
theorem waits (c : Dev nD) : (levAts L lv : sProp 𝕄) ⊢ Pipeline.cellsWaits cfgs (dats m ρ) () 0 c :=
  Pipeline.cellsWaits_intro cfgs (dats m ρ) () 0 c fun w s t => by
    have hq : (((cfgs 0).win w).sem s).val < 38 := by revert w s; decide
    have ho : ∃ a b d, (dats m ρ 0 c).owed t = Owe c a b d := by
      show ∃ a b d, owedS c t.val = Owe c a b d
      unfold owedS
      by_cases h0 : t.val = 0
      · exact ⟨1, 0, 1, by rw [if_pos h0]; rfl⟩
      · by_cases h1 : t.val = 16
        · exact ⟨32, 32, 32, by rw [if_neg h0, if_pos h1]; exact (Owe_none c).symm⟩
        · exact ⟨32, 8 * (t.val / 4), 1, by rw [if_neg h0, if_neg h1]⟩
    obtain ⟨a, b, d, h⟩ := ho
    rw [h]
    exact mayWait_lo c _ hq a b d

/-- Every window is held whole. -/
theorem share_eq (c : Dev nD) (w : Fin cfg0.W) : (dats m ρ 0 c).share w = fullShare := by
  unfold Dat.share
  split <;> rfl

/-! ## The run -/

/-- A window's array as the grid leaves it. -/
def finalA (c : Dev nD) (w : Fin cfg0.W) : Buf (Elt F) ((cfg0.win w).arr.view.loc (c : Thread nD τ)) := (dats m ρ 0 c).arrAt w cfg0.N

/-- The final memory: each window's array as the grid leaves it, the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = garr m ρ c

/-- What is read of `kept` at a final state. -/
theorem kept_read (c : Dev nD) (s' : Phys nD τ sig (Elt F)) : iprop(kept m ρ c ∗ emp ∗ SI s')
    ⊢ |={Set.univ}=> iprop(⌜(∀ sm : SemLoc sig, sm.isScoped .tc = false → s'.mem.sem ((c.tc : Thread nD τ), sm) = 0)
      ∧ s'.mem.mem ((c : Thread nD τ).loc main_arg1) = garr m ρ c⌝ ∗ SI s') := by
  unfold kept
  iintro ⟨⟨Hu, Hg⟩, -, HSI⟩
  imod (Pipeline.unscopedSems0_read (X := unscopedSems0 c) (c := c) fupd_intro s') $$ [Hu HSI] with ⟨%h1, HSI⟩
  · isplitl [Hu] <;> iassumption
  ihave H := (pointsTo_read_all ({()} : Finset Unit) (fun _ => (c : Thread nD τ).loc main_arg1) (fun _ => garr m ρ c) s') $$ [Hg HSI]
  · isplitl [Hg]; · (rw [bigSep_singleton]; iexact Hg)
    iexact HSI
  icases H with ⟨%h2, HSI⟩
  imodintro
  isplitr
  · ipureintro; exact ⟨h1, h2 () (Finset.mem_singleton_self _)⟩
  iexact HSI

/-- At the compiled mesh of thirty-two devices, for any float values, from any memory with zero counters: every weakly fair
    execution of @main terminates, and every final state has each device's result array at the computed contents, the
    arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := kept m ρ) (Z := fun _ => iprop(emp))
    (hX := start_intro m ρ) (hin := phi0_intro m ρ) (hout := phi_exit m ρ)
    (QY := fun c s => (∀ sm : SemLoc sig, sm.isScoped .tc = false → s.sem ((c.tc : Thread nD τ), sm) = 0)
      ∧ s.mem ((c : Thread nD τ).loc main_arg1) = garr m ρ c)
    (hY := kept_read m ρ)
    (hQ := fun _ h hs => ⟨fun c => ⟨(h c).1, (h c).2.2.2⟩, sem_eq_zero hs fun c => (h c).2.2.1⟩)

/-- The activations' array after the run holds what it held. -/
theorem finalA_x (c : Dev nD) : finalA m ρ c (0 : Fin 2) = (s₀ m ρ).mem ((cfg0.win 0).arr.view.loc (c : Thread nD τ)) :=
  (dats (F := F) m ρ 0 c).arrAt_in (0 : Fin 2) rfl _

end Cert.KProof

end
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 16384

noncomputable section

/-! The frames: the kernel, its idealization and the reference run to the end, keep their arguments, and leave every
    semaphore counter at zero. -/

namespace Cert.KProof

open Idealize.ShloMosaic Idealize.ShloMosaic.TcCoe Idealize.SL.Sem

open Cert.KernelIdeal in
/-- For any float values the kernel terminates on every device, its arguments end unchanged, every counter ends at zero. -/
theorem frame_at {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono
    (fun _ h => ⟨fun c => ⟨((h.1 c).1 0).trans (finalA_x m ρ c), (h.1 c).2⟩, h.2⟩) (run_main m ρ)

/-- The idealized kernel terminates on every device, its arguments end unchanged, every counter ends at zero. -/
theorem frame_kernelIdeal : Cert.quiescent_KernelIdeal (hKernelIdeal := Cert.KernelIdeal.Gen.facts) := fun m ρ _ =>
  frame_at (F := Ideal) m ρ

section SameText

variable [hK : Cert.Kernel.Facts] [hI : Cert.KernelIdeal.Facts]

/-- The two printed programs have the same text: their body tables agree, -/
theorem bodies_same : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- and so do the tables of @main. -/
theorem tables_same : Cert.Kernel.defs (F := Bits) = Cert.KernelIdeal.defs (F := Bits) := by
  unfold Cert.Kernel.defs Cert.KernelIdeal.defs
  rw [bodies_same]
  rfl

end SameText

/-- The kernel on bit patterns terminates on every device, its arguments end unchanged, every counter ends at zero. -/
theorem frame_kernel : Cert.quiescent_Kernel (hKernel := Cert.Kernel.Gen.facts) := fun m ρ _ => by
  rw [tables_same (hK := Cert.Kernel.Gen.facts) (hI := Cert.KernelIdeal.Gen.facts)]
  exact frame_at (F := Bits) m ρ

/-- The reference terminates, its arguments end unchanged, and it declares no semaphore. -/
theorem frame_reference : Cert.quiescent_ReferenceIdeal (hReferenceIdeal := Cert.ReferenceIdeal.Gen.facts) := fun m ρ _ =>
  (θ_run Cert.ReferenceIdeal.defs _ _).mono
    (fun _ h => ⟨fun c => ⟨(h c).2.1, (h c).2.2⟩, funext fun g => by
      rcases g with ⟨_, (q | q)⟩ <;> exact q.elim0⟩) (Cert.ReferenceIdeal.Value.run (F := Ideal) m ρ)

end Cert.KProof

end
-- ==== Proof.Pays.lean ====
module

public import proofs.«01_k».proof.Proof.Base
public import Idealize.ShloMosaic.Lib.Pointwise
public import Idealize.ShloMosaic.PureOps.Ideal.Laws

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! What the kernel's payloads hold at an index, floats read as extended reals. -/

/-- The printed constants: 127, −127 and the least value. -/
theorem c127 : Ideal.ofBits FTy.f32 0x42FE0000#32 = ((127 : ℝ) : EReal) := by
  simp [Ideal.ofBits, Ideal.ieee, -EReal.coe_mul]; norm_num

/-- The literal of the lower clip bound is −127. -/
theorem cm127 : Ideal.ofBits FTy.f32 0xC2FE0000#32 = ((-127 : ℝ) : EReal) := by
  simp [Ideal.ofBits, Ideal.ieee, -EReal.coe_mul]; norm_num

/-- The literal from which a maximum starts is −∞. -/
theorem cbot : Ideal.ofBits FTy.f32 0xFF800000#32 = (⊥ : EReal) := by
  simp [Ideal.ofBits, Ideal.ieee]

/-- One step's product of a block of activations and a block of weights. -/
theorem pay66_apply (x : Vec Ideal S1x128x1024 .f32) (w : Vec Ideal S1x1024x2048 .f32) (i : Fin 128) (b : Fin 2048) :
    k0_pay66 x w (ix2 i b) = ∑ a : Fin 1024, x (ix3 0 i a) * w (ix3 0 a b) := by
  pointwise [k0_pay66]

/-- The first product of a column group, at an index. -/
theorem pay67_apply (x : Vec Ideal S1x128x1024 .f32) (w : Vec Ideal S1x1024x2048 .f32) (i : Fin 128) (b : Fin 2048) :
    k0_pay67 x w (ix2 i b) = ∑ a : Fin 1024, x (ix3 0 i a) * w (ix3 0 a b) := by
  pointwise [k0_pay67]
  exact pay66_apply x w i b

/-- A later product of a column group added to the running one, at an index. -/
theorem pay68_apply (x : Vec Ideal S1x128x1024 .f32) (w : Vec Ideal S1x1024x2048 .f32) (y : Vec Ideal S128x2048 .f32) (i : Fin 128) (b : Fin 2048) :
    k0_pay68 x w y (ix2 i b) = y (ix2 i b) + ∑ a : Fin 1024, x (ix3 0 i a) * w (ix3 0 a b) := by
  pointwise [k0_pay68]
  rw [pay66_apply x w i b]

/-- The running maximum, at an index: the larger of the old one and the rectified product. -/
theorem pay58_apply (v y : Vec Ideal S128x2048 .f32) (j : S128x2048.Idx) : k0_pay58 v y j = max (y j) (max (v j) 0) := by
  pointwise [k0_pay58, k0_pay57]

/-- The running maximum starts at zero. -/
theorem pay8_apply (j : S128x2048.Idx) : (k0_pay8 (F := Ideal)) j = 0 := by
  pointwise [k0_pay8]

/-- The greatest of a device's running maxima, and the greatest of all devices', each by what bounds it. -/
theorem pay10_le (v : Vec Ideal S128x2048 .f32) (j : S8x128.Idx) (x : EReal) :
    k0_pay10 v j ≤ x ↔ ∀ (i : Fin 128) (b : Fin 2048), v (ix2 i b) ≤ x := by
  have h : k0_pay10 v j = Finset.fold max (⊥ : EReal) (fun p : Fin 128 × Fin 2048 => v (ix2 p.1 p.2)) Finset.univ := by
    pointwise [k0_pay10]
    rw [← cbot]
  rw [h, Finset.fold_max_le]
  exact ⟨fun q i b => q.2 (i, b) (Finset.mem_univ _), fun q => ⟨bot_le, fun p _ => q p.1 p.2⟩⟩

/-- The largest value of all the rows is below `x` when every entry is. -/
theorem pay12_le (v : Vec Ideal S32x128 .f32) (x : EReal) :
    k0_pay12 v ≤ x ↔ ∀ (i : Fin 32) (b : Fin 128), v (ix2 i b) ≤ x := by
  have h : k0_pay12 v = Finset.fold max (⊥ : EReal) (fun p : Fin 32 × Fin 128 => v (ix2 p.1 p.2)) Finset.univ := by
    pointwise [k0_pay12]
    rw [← cbot]
  rw [h, Finset.fold_max_le]
  exact ⟨fun q i b => q.2 (i, b) (Finset.mem_univ _), fun q => ⟨bot_le, fun p _ => q p.1 p.2⟩⟩

/-- The scale is the largest value over 127. -/
theorem pay13_apply (v : Vec Ideal S32x128 .f32) : k0_pay13 v = Ideal.div (k0_pay12 v) ((127 : ℝ) : EReal) := by
  pointwise [k0_pay13]
  rw [c127]

/-- The reciprocal of the scale is 127 over the largest value. -/
theorem pay14_apply (v : Vec Ideal S32x128 .f32) : k0_pay14 v = Ideal.div ((127 : ℝ) : EReal) (k0_pay12 v) := by
  pointwise [k0_pay14]
  rw [c127]

/-- A tile quantised and scaled back, at an index. -/
theorem pay16_apply (s t : Ideal .f32) (v : Vec Ideal S1x128x256 .bf16) (i : Fin 128) (b : Fin 256) :
    k0_pay16 s t v (ix2 i b) = min ((127 : ℝ) : EReal) (max 0 (Ideal.liftRound Ideal.roundHalfEven (v (ix3 0 i b) * t))) * s := by
  pointwise [k0_pay16]
  rw [c127]

/-- The `u`-th tile of a column group, at an index. -/
theorem cut_apply (v : Vec Ideal S128x2048 .bf16) (u : Fin 8) (i : Fin 128) (b : Fin 256) :
    cut (F := Ideal) v u (ix3 0 i b) = v (ix2 i ⟨256 * u.val + b.val, by omega⟩) := by
  pointwise [cut]

/-- The rectified product, at an index. -/
theorem pay59_apply (v : Vec Ideal S128x2048 .f32) (j : S128x2048.Idx) : k0_pay59 v j = max (v j) 0 := by
  pointwise [k0_pay59, k0_pay57]

/-- A block of the activations with a leading axis, at an index. -/
theorem pay4_apply (v : Vec Ideal S128x1024 .f32) (i : Fin 128) (a : Fin 1024) : k0_pay4 v (ix3 0 i a) = v (ix2 i a) := by
  pointwise [k0_pay4]

end Cert.KProof

end
-- ==== Proof.Blocks.lean ====
module

public import proofs.«01_k».proof.Proof.Pays
public import Idealize.ShloMosaic.Lib.Pointwise.Sums
public import Idealize.ShloMosaic.Lib.ValueLayout

@[expose] public section

set_option maxRecDepth 16384
set_option pp.deepTerms false
set_option pp.deepTerms.threshold 6

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Which entries of the two arrays the kernel's blocks hold, and its running product as a sum over the inner dimension. -/

section

variable (mI : (ℓ : Loc nD τ sig) → Buf (Elt Ideal) ℓ) (ρI : Dev nD → PrngReg)

/-- Device `c`'s rows of activations, and its copy of the weights. -/
def X (c : Dev nD) : S128x4096.Idx → EReal := mI ((c : Thread nD τ).loc main_arg0)
/-- The weights on device `c`. -/
def W (c : Dev nD) : S4096x8192.Idx → EReal := mI ((c : Thread nD τ).loc main_arg1)

/-- The `k`-th block of the activations, at an index: the activations there. -/
theorem xBlk_apply (c : Dev nD) (k : Fin 4) (i : Fin 128) (a : Fin 1024) :
    xBlk (F := Ideal) mI ρI c k (ix3 0 i a) = X mI c (ix2 i ⟨1024 * k.val + a.val, by omega⟩) := by
  refine (pay4_apply _ i a).trans ?_
  refine congrArg (X mI c) ?_
  funext d
  apply Fin.ext
  match d with
  | 0 => show 0 * 128 + 1 * (0 + 1 * i.val) = i.val; omega
  | 1 => show 0 * 4096 + 1 * (1024 * k.val + 1 * a.val) = 1024 * k.val + a.val; omega

/-- The `j`-th block of the weights, at an index: the weights there. -/
theorem wBlk_apply (c : Dev nD) (j : ℕ) (hj : j < 16) (a : Fin 1024) (b : Fin 2048) :
    wBlk (F := Ideal) mI ρI c j (ix3 0 a b) = W mI c (ix2 ⟨1024 * (j % 4) + a.val, by omega⟩ ⟨2048 * (j / 4) + b.val, by omega⟩) := by
  have e : (Shape.reshapeEquiv squeezes_S1x1024x2048_S1024x2048.numel_eq).symm (ix3 (0 : Fin 1) a b) = (ix2 a b : S1024x2048.Idx) :=
    (Equiv.symm_apply_eq _).mpr (ValueIdx.reshapeEquiv_ix2_1ab _ a b).symm
  unfold wBlk
  rw [e]
  refine congrArg (W mI c) ?_
  have hb : (bl j).val = j := Nat.mod_eq_of_lt hj
  funext d
  apply Fin.ext
  match d with
  | 0 => show 1024 * ((bl j).val % 4) + 1 * a.val = 1024 * (j % 4) + a.val
         rw [hb]; omega
  | 1 => show 2048 * ((bl j).val / 4) + 1 * b.val = 2048 * (j / 4) + b.val
         rw [hb]; omega

/-! Against whole arrays `A` (activations) and `B` (weights) of which device `c` holds its rows and a copy. -/

/-- The row of the whole arrays that is row `i` of device `c`'s, and the column that is column `b` of its block of results. -/
def rowOf (c : Dev nD) (i : Fin 128) : Fin 4096 := ⟨128 * c.val + i.val, by have : c.val < 32 := c.isLt; omega⟩
/-- The column of the whole product that is column `b` of device `c`'s part. -/
def colOf (c : Dev nD) (b : Fin 256) : Fin 8192 := ⟨256 * c.val + b.val, by have : c.val < 32 := c.isLt; omega⟩

/-- An entry of the product `A B`. -/
def prod (A : (⟨2, ![4096, 4096]⟩ : Shape).Idx → EReal) (B : S4096x8192.Idx → EReal) (r : Fin 4096) (n : Fin 8192) : EReal :=
  ∑ k : Fin 4096, A (ix2 r k) * B (ix2 k n)

/-- An entry of the rectified product. -/
def rect (A : (⟨2, ![4096, 4096]⟩ : Shape).Idx → EReal) (B : S4096x8192.Idx → EReal) (r : Fin 4096) (n : Fin 8192) : EReal :=
  max (prod A B r n) 0

/-- A rectified product is not negative. -/
theorem rect_nonneg (A : (⟨2, ![4096, 4096]⟩ : Shape).Idx → EReal) (B : S4096x8192.Idx → EReal) (r : Fin 4096) (n : Fin 8192) : 0 ≤ rect A B r n :=
  le_max_right _ _

/-- Device `c` holds rows `128 c …` of `A`, and all of `B`. -/
structure Holds (A : (⟨2, ![4096, 4096]⟩ : Shape).Idx → EReal) (B : S4096x8192.Idx → EReal) : Prop where
  x : ∀ (c : Dev nD) (i : Fin 128) (k : Fin 4096), X mI c (ix2 i k) = A (ix2 (rowOf c i) k)
  w : ∀ c : Dev nD, W mI c = B

variable {mI}
variable {A : (⟨2, ![4096, 4096]⟩ : Shape).Idx → EReal} {B : S4096x8192.Idx → EReal} (H : Holds mI A B)

omit mI ρI in
/-- An entry read through the view of the row is an entry of the row buffer. -/
theorem asR_read (V : Vec Ideal S8x128 .f32) (i : S1x128.Idx) :
    ∃ j : S8x128.Idx, (asR : Memref sig .tc .vmem S1x128 .f32).view.read (Elt Ideal) V i = V j :=
  ⟨(asR : Memref sig .tc .vmem S1x128 .f32).view.emb i, rfl⟩

/-- An entry of device `c`'s row among all rows is an entry of what it put in its row buffer. -/
theorem row_is (c : Fin 32) (l : Fin 128) : ∃ j, gall (F := Ideal) mI ρI (ix2 c l) = k0_pay10 (vm (F := Ideal) mI ρI c 4) j := by
  have h := asR_read (abuf (F := Ideal) mI ρI c) (fun | 0 => (⟨0, Nat.one_pos⟩ : Fin 1) | 1 => l)
  unfold gall arow
  exact h

include H

/-- The part of an entry of the product that the step of group `g` and inner block `k` adds. -/
theorem step_apply (c : Dev nD) (g k : ℕ) (hg : g < 4) (hk : k < 4) (i : Fin 128) (b : Fin 2048) :
    ∑ a : Fin 1024, xBlk (F := Ideal) mI ρI c (sl (4 * g + k)) (ix3 0 i a) * wBlk (F := Ideal) mI ρI c (4 * g + k) (ix3 0 a b)
      = ∑ a : Fin 1024, A (ix2 (rowOf c i) ⟨k * 1024 + a.val, by omega⟩)
          * B (ix2 ⟨k * 1024 + a.val, by omega⟩ ⟨2048 * g + b.val, by omega⟩) := by
  have hi := sl_val (4 * g + k)
  refine Finset.sum_congr rfl fun a _ => ?_
  rw [xBlk_apply, wBlk_apply mI ρI c (4 * g + k) (by omega), H.x, H.w]
  have e1 : (⟨1024 * (sl (4 * g + k)).val + a.val, by have := (sl (4 * g + k)).isLt; omega⟩ : Fin 4096) = ⟨k * 1024 + a.val, by omega⟩ :=
    Fin.ext (by dsimp only; omega)
  have e2 : (⟨1024 * ((4 * g + k) % 4) + a.val, by omega⟩ : Fin 4096) = ⟨k * 1024 + a.val, by omega⟩ := Fin.ext (by dsimp only; omega)
  have e3 : (⟨2048 * ((4 * g + k) / 4) + b.val, by omega⟩ : Fin 8192) = ⟨2048 * g + b.val, by omega⟩ := Fin.ext (by dsimp only; omega)
  rw [e1, e2, e3]

/-- The running product at the end of column group `g` is the product. -/
theorem yg_apply (c : Dev nD) (g : ℕ) (hg : g < 4) (i : Fin 128) (b : Fin 2048) :
    yg (F := Ideal) mI ρI c (4 * g + 4) (ix2 i b)
      = prod A B (rowOf c i) ⟨2048 * g + b.val, by omega⟩ := by
  have s1 : yg (F := Ideal) mI ρI c (4 * g + 0 + 1) = k0_pay67 (xBlk mI ρI c (sl (4 * g + 0))) (wBlk mI ρI c (4 * g + 0)) := by
    exact (yg.eq_2 mI ρI c (4 * g + 0)).trans (if_pos (by omega))
  have s2 (k : ℕ) (h0 : 0 < k) (hk : k < 4) : yg (F := Ideal) mI ρI c (4 * g + k + 1)
      = k0_pay68 (xBlk mI ρI c (sl (4 * g + k))) (wBlk mI ρI c (4 * g + k)) (yg mI ρI c (4 * g + k)) := by
    exact (yg.eq_2 mI ρI c (4 * g + k)).trans (if_neg (by omega))
  rw [show 4 * g + 4 = 4 * g + 3 + 1 from rfl, s2 3 (by omega) (by omega), pay68_apply,
    show 4 * g + 3 = 4 * g + 2 + 1 from rfl, s2 2 (by omega) (by omega), pay68_apply,
    show 4 * g + 2 = 4 * g + 1 + 1 from rfl, s2 1 (by omega) (by omega), pay68_apply,
    show 4 * g + 1 = 4 * g + 0 + 1 from rfl, s1, pay67_apply]
  have t0 := step_apply ρI H c g 0 hg (by omega) i b
  have t1 := step_apply ρI H c g 1 hg (by omega) i b
  have t2 := step_apply ρI H c g 2 hg (by omega) i b
  have t3 := step_apply ρI H c g 3 hg (by omega) i b
  refine (congrArg₂ (· + ·) (congrArg₂ (· + ·) (congrArg₂ (· + ·) t0 t1) t2) t3).trans ?_
  unfold prod
  rw [Fin.sum_univ_tiles 4 1024 rfl, Fin.sum_univ_four]
  rfl

/-- What bounds a device's running maximum. -/
theorem vm_le (c : Dev nD) (i : Fin 128) (b : Fin 2048) (x : EReal) :
    vm (F := Ideal) mI ρI c 4 (ix2 i b) ≤ x ↔ 0 ≤ x ∧ ∀ g : Fin 4,
      rect A B (rowOf c i) ⟨2048 * g.val + b.val, by omega⟩ ≤ x := by
  have h (n : ℕ) (hn : n ≤ 4) : vm (F := Ideal) mI ρI c n (ix2 i b) ≤ x ↔ 0 ≤ x ∧ ∀ g : Fin 4, g.val < n →
      rect A B (rowOf c i) ⟨2048 * g.val + b.val, by omega⟩ ≤ x := by
    induction n with
    | zero => rw [vm, pay8_apply]; exact ⟨fun q => ⟨q, fun g hg => absurd hg (by omega)⟩, fun q => q.1⟩
    | succ n ih =>
      rw [vm, pay58_apply, max_le_iff, ih (by omega), yg_apply ρI H c n (by omega) i b]
      constructor
      · rintro ⟨⟨q0, q⟩, q1⟩
        refine ⟨q0, fun g hg => ?_⟩
        rcases Nat.lt_succ_iff_lt_or_eq.mp hg with e | e
        · exact q g e
        · subst e; exact q1
      · rintro ⟨q0, q⟩
        exact ⟨⟨q0, fun g hg => q g (by omega)⟩, q ⟨n, by omega⟩ (by dsimp only; omega)⟩
  refine (h 4 le_rfl).trans (and_congr_right fun _ => forall_congr' fun g => ⟨fun q => q g.isLt, fun q _ => q⟩)

/-- The greatest of all devices' maxima is bounded by what bounds every entry of the rectified product. -/
theorem amax_le (x : EReal) : k0_pay12 (gall (F := Ideal) mI ρI) ≤ x ↔ ∀ (r : Fin 4096) (n : Fin 8192), rect A B r n ≤ x := by
  have hrow (c : Fin 32) (l : Fin 128) : gall (F := Ideal) mI ρI (ix2 c l) ≤ x ↔ ∀ (i : Fin 128) (b : Fin 2048), vm (F := Ideal) mI ρI c 4 (ix2 i b) ≤ x := by
    obtain ⟨j, hj⟩ := row_is ρI c l (mI := mI)
    rw [hj]
    exact pay10_le (vm (F := Ideal) mI ρI c 4) j x
  rw [pay12_le]
  constructor
  · intro q r n
    have h1 := (hrow ⟨r.val / 128, by omega⟩ 0).mp (q _ 0) ⟨r.val % 128, Nat.mod_lt _ (by decide)⟩ ⟨n.val % 2048, by omega⟩
    have h2 := ((vm_le ρI H _ _ _ x).mp h1).2 ⟨n.val / 2048, by omega⟩
    have e1 : rowOf (⟨r.val / 128, by omega⟩ : Fin 32) ⟨r.val % 128, Nat.mod_lt _ (by decide)⟩ = r := Fin.ext (by dsimp only [rowOf]; omega)
    have e2 : (⟨2048 * (n.val / 2048) + n.val % 2048, by omega⟩ : Fin 8192) = n := Fin.ext (by dsimp only; omega)
    dsimp only at h2
    rw [e1, e2] at h2
    exact h2
  · intro q c l
    refine (hrow c l).mpr fun i b => (vm_le ρI H _ _ _ x).mpr ⟨(rect_nonneg A B 0 0).trans (q 0 0), fun g => q _ _⟩

/-- The tile device `s` sends device `c`: rows of `s`, columns of `c`, of the rectified product. -/
theorem tile_apply (s c : Dev nD) (i : Fin 128) (b : Fin 256) :
    tile (F := Ideal) mI ρI s c (ix3 0 i b)
      = rect A B (rowOf s i) (colOf c b) := by
  have hc : c.val < 32 := c.isLt
  unfold tile
  rw [cut_apply, pay59_apply, yg_apply ρI H s (c.val / 8) (by omega)]
  have e : (⟨2048 * (c.val / 8) + (256 * (c.val % 8) + b.val), by omega⟩ : Fin 8192) = colOf c b :=
    Fin.ext (by dsimp only [colOf]; omega)
  unfold rect
  rw [← e]

end

end Cert.KProof

end
-- ==== Proof.Scalar.lean ====
module

public import Idealize.ShloMosaic.PureOps.Ideal
public import Idealize.ShloMosaic.PureOps.Ideal.Laws

@[expose] public section

noncomputable section

/-! Quantising by a reciprocal scale and clipping from below at zero, against quantising by a division and clipping from
    below at −127: for a value between zero and the greatest magnitude, the same, at every extended real. -/

namespace Cert.KProof

open Idealize.ShloMosaic

/-- Rounding to the nearest integer keeps a nonnegative real nonnegative. -/
theorem roundHalfEven_nonneg {r : ℝ} (h : 0 ≤ r) : 0 ≤ Ideal.roundHalfEven r := by
  have hf : 0 ≤ ⌊r⌋ := Int.floor_nonneg.mpr h
  unfold Ideal.roundHalfEven
  dsimp only
  split_ifs <;> omega

/-- A value between zero and the greatest magnitude `g`, quantised and scaled back, the two ways. -/
theorem quant_eq (R g : EReal) (h0 : 0 ≤ R) (hg : R ≤ g) :
    min ((127 : ℝ) : EReal) (max 0 (Ideal.liftRound Ideal.roundHalfEven (R * Ideal.div ((127 : ℝ) : EReal) g))) * Ideal.div g ((127 : ℝ) : EReal)
      = min ((127 : ℝ) : EReal) (max ((-127 : ℝ) : EReal) (Ideal.liftRound Ideal.roundHalfEven (Ideal.div R (Ideal.div g ((127 : ℝ) : EReal))))) * Ideal.div g ((127 : ℝ) : EReal) := by
  have h127 : ((127 : ℝ) : EReal) ≠ 0 := by norm_num
  have hr0 : Ideal.liftRound Ideal.roundHalfEven 0 = 0 := by
    have : Ideal.roundHalfEven 0 = 0 := by simp [Ideal.roundHalfEven]
    rw [show (0 : EReal) = ((0 : ℝ) : EReal) from rfl, Ideal.liftRound_coe, this]; simp
  have hclip0 : min ((127 : ℝ) : EReal) (max ((-127 : ℝ) : EReal) 0) = 0 := by
    rw [max_eq_right (by norm_num), min_eq_right (by norm_num)]
  have hclip1 : min ((127 : ℝ) : EReal) (max 0 0) = 0 := by
    rw [max_self, min_eq_right (by norm_num)]
  induction g with
  | bot => exact absurd (le_antisymm hg bot_le ▸ h0) (by simp)
  | top =>
    have hd : Ideal.div (⊤ : EReal) ((127 : ℝ) : EReal) = ⊤ := by
      unfold Ideal.div
      rw [if_neg h127, ← EReal.coe_inv]
      exact EReal.top_mul_coe_of_pos (by norm_num)
    have hi : Ideal.div ((127 : ℝ) : EReal) ⊤ = 0 := by
      unfold Ideal.div
      rw [if_neg (by simp), EReal.inv_top, mul_zero]
    have hj : Ideal.div R ⊤ = 0 := by
      unfold Ideal.div
      rw [if_neg (by simp), EReal.inv_top, mul_zero]
    rw [hd, hi, hj, mul_zero, hr0, hclip0, hclip1]
  | coe g =>
    induction R with
    | bot => exact absurd h0 (by simp)
    | top => exact absurd hg (by simp)
    | coe R =>
      have hR : 0 ≤ R := by exact_mod_cast h0
      have hRg : R ≤ g := by exact_mod_cast hg
      have hd : Ideal.div ((g : ℝ) : EReal) ((127 : ℝ) : EReal) = ((g / 127 : ℝ) : EReal) := by
        unfold Ideal.div
        rw [if_neg h127, ← EReal.coe_inv, ← EReal.coe_mul, div_eq_mul_inv]
      rcases (hR.trans hRg).eq_or_lt with h | h
      · subst h
        rw [hd]; simp
      · have hg0 : ((g : ℝ) : EReal) ≠ 0 := by exact_mod_cast h.ne'
        have hs0 : ((g / 127 : ℝ) : EReal) ≠ 0 := by exact_mod_cast (div_pos h (by norm_num)).ne'
        have hi : Ideal.div ((127 : ℝ) : EReal) (g : EReal) = ((127 / g : ℝ) : EReal) := by
          unfold Ideal.div
          rw [if_neg hg0, ← EReal.coe_inv, ← EReal.coe_mul, div_eq_mul_inv]
        have hj : Ideal.div (R : EReal) ((g / 127 : ℝ) : EReal) = ((R / (g / 127) : ℝ) : EReal) := by
          unfold Ideal.div
          rw [if_neg hs0, ← EReal.coe_inv, ← EReal.coe_mul, ← div_eq_mul_inv]
        have he : R * (127 / g) = R / (g / 127) := by field_simp
        have hn : (0 : ℝ) ≤ (Ideal.roundHalfEven (R / (g / 127)) : ℝ) := by
          exact_mod_cast roundHalfEven_nonneg (div_nonneg hR (div_pos h (by norm_num)).le)
        rw [hd, hi, hj, ← EReal.coe_mul, he, Ideal.liftRound_coe, max_eq_right (by exact_mod_cast hn),
          max_eq_right (by exact_mod_cast (show (-127 : ℝ) ≤ 0 by norm_num).trans hn)]

end Cert.KProof

end
-- ==== Proof.Ref.lean ====
module

public import proofs.«01_k».proof.Proof.Blocks
public import proofs.«01_k».proof.Proof.Scalar
public import proofs.«01_k».proof.Proof.Gen.ReferenceIdeal
public import Idealize.ShloMosaic.Lib.Pointwise

@[expose] public section

set_option maxRecDepth 16384

noncomputable section

/-! The reference's result at an index. -/

namespace Cert.KProof

open Cert.ReferenceIdeal Cert.ReferenceIdeal.Gen Idealize.ShloMosaic

/-- The greatest of a table is bounded by what bounds every entry. -/
theorem fold_le {α β : Type} [Fintype α] [Fintype β] (f : α × β → EReal) (x : EReal) :
    Finset.fold max (⊥ : EReal) f Finset.univ ≤ x ↔ ∀ a b, f (a, b) ≤ x := by
  rw [Finset.fold_max_le]
  exact ⟨fun q a b => q.2 (a, b) (Finset.mem_univ _), fun q => ⟨bot_le, fun p _ => q p.1 p.2⟩⟩

/-- The reference's rectified product, its scale, and its result, of whole arrays. -/
def refRect (A : FVec Ideal S4096x4096 .f32) (B : FVec Ideal S4096x8192 .f32) : FVec Ideal S4096x8192 .f32 :=
  maximumf (Host.dotGeneral dot_S4096x4096_S4096x8192_S4096x8192_1_0_0_1_n_n none A B)
    (broadcastInDim S4096x8192 ![] bcast_S_S4096x8192 (constant S_ .f32 0x00000000#32))

/-- The largest absolute value of the reference's rectified product. -/
def refMax (A : FVec Ideal S4096x4096 .f32) (B : FVec Ideal S4096x8192 .f32) : FVec Ideal S_ .f32 :=
  Host.reduce FloatOps.maximumf (Host.absf (refRect A B)) (constant S_ .f32 0xFF800000#32) reducesTo_S4096x8192_S_d0_1 h_S_

/-- The reference's scale: that value over 127. -/
def refScale (A : FVec Ideal S4096x4096 .f32) (B : FVec Ideal S4096x8192 .f32) : FVec Ideal S_ .f32 :=
  Host.divf (refMax A B) (constant S_ .f32 0x42FE0000#32)

/-- The reference's result. -/
def refOut (A : FVec Ideal S4096x4096 .f32) (B : FVec Ideal S4096x8192 .f32) : FVec Ideal S4096x8192 .f32 :=
  mulf (minimumf (broadcastInDim S4096x8192 ![] bcast_S_S4096x8192 (id (constant S_ .f32 0x42FE0000#32)))
      (maximumf (broadcastInDim S4096x8192 ![] bcast_S_S4096x8192 (id (constant S_ .f32 0xC2FE0000#32)))
        (Host.roundeven (Host.divf (refRect A B) (broadcastInDim S4096x8192 ![] bcast_S_S4096x8192 (refScale A B))))))
    (broadcastInDim S4096x8192 ![] bcast_S_S4096x8192 (refScale A B))

variable (A : FVec Ideal S4096x4096 .f32) (B : FVec Ideal S4096x8192 .f32)

/-- The reference's rectified product, at an index. -/
theorem refRect_apply (r : Fin 4096) (n : Fin 8192) : refRect A B (ix2 r n) = rect A B r n := by
  unfold rect prod
  pointwise [refRect]

/-- The reference's greatest magnitude is bounded by what bounds every entry of the rectified product. -/
theorem refMax_le (j : S_.Idx) (x : EReal) : refMax A B j ≤ x ↔ ∀ (r : Fin 4096) (n : Fin 8192), rect A B r n ≤ x := by
  have h : refMax A B j = Finset.fold max (⊥ : EReal) (fun p : Fin 4096 × Fin 8192 => rect A B p.1 p.2) Finset.univ := by
    pointwise [refMax]
    rw [cbot]
    congr 1
    funext k
    have ha : ∀ y : EReal, 0 ≤ y → (FloatOps.absf (F := Ideal) (φ := .f32) y : EReal) = y := fun y hy => by
      rw [Ideal.absf_def]; exact max_eq_left ((EReal.neg_le_neg_iff.mpr hy).trans (by simpa using hy))
    rw [refRect_apply, ha _ (rect_nonneg A B k.1 k.2)]
  rw [h, fold_le]

/-- The reference's result, at an index: divide by the scale, round, clip, multiply by the scale. -/
theorem refOut_apply (r : Fin 4096) (n : Fin 8192) : refOut A B (ix2 r n)
    = min ((127 : ℝ) : EReal) (max ((-127 : ℝ) : EReal) (Ideal.liftRound Ideal.roundHalfEven
        (Ideal.div (rect A B r n) (Ideal.div (refMax A B ix0) ((127 : ℝ) : EReal))))) * Ideal.div (refMax A B ix0) ((127 : ℝ) : EReal) := by
  pointwise [refOut, refScale]
  rw [refRect_apply, c127]
  show min (Ideal.ofBits FTy.f32 0x42FE0000#32) (max (Ideal.ofBits FTy.f32 0xC2FE0000#32) _) * _ = _
  rw [c127, cm127]

end Cert.KProof

end
-- ==== Proof.Value.lean ====
module

public import proofs.«01_k».proof.Defs
public import proofs.«01_k».proof.Proof.Frames
public import proofs.«01_k».proof.Proof.Ref
public import Idealize.ShloMosaic.Lib.Pipeline.ValueKit.Geometry
public import Idealize.ShloMosaic.Lib.LayoutAt

@[expose] public section

set_option maxRecDepth 16384

noncomputable section

/-! The value claim: device `c`'s result is column block `c` of the reference's. -/

namespace Cert.KProof

open Idealize.ShloMosaic Idealize.ShloMosaic.TcCoe Idealize.SL.Sem

section

open Cert.KernelIdeal Cert.KernelIdeal.Gen

/-- The result's array is written back once, whole, after the last grid point. -/
theorem result_whole : (cfg0.win 1).WholeAt (⟨15, by decide⟩ : Fin cfg0.grid.N) := by
  show win0_1.WholeAt (⟨15, by decide⟩ : Fin grid0.N)
  decide +kernel

/-- The result's array after the run holds what the last grid point leaves in its staging buffer. -/
theorem finalA_out {F : FTy → Type} [FloatOps F] (m : (ℓ : Loc nD τ sig) → Buf (Elt F) ℓ) (ρ : Dev nD → PrngReg) (c : Dev nD) :
    finalA m ρ c (1 : Fin 2) = outV m ρ c :=
  (dats (F := F) m ρ 0 c).arrAt_eq_of_after_last (1 : Fin 2) (⟨15, by decide⟩ : Fin cfg0.grid.N) result_whole (outV m ρ c) (fun j => rfl)

variable {mI : (ℓ : Loc nD τ sig) → Buf (Elt Ideal) ℓ} (ρI : Dev nD → PrngReg)
variable {A : (⟨2, ![4096, 4096]⟩ : Shape).Idx → EReal} {B : S4096x8192.Idx → EReal} (H : Holds mI A B)
include H

/-- The kernel's greatest maximum and the reference's greatest magnitude are the same. -/
theorem amax_eq : k0_pay12 (gall (F := Ideal) mI ρI) = refMax A B ix0 :=
  le_antisymm ((amax_le ρI H _).mpr ((refMax_le A B ix0 _).mp le_rfl)) ((refMax_le A B ix0 _).mpr ((amax_le ρI H _).mp le_rfl))

/-- What device `c` computes from the tile of device `s` is the reference's result at those rows and columns. -/
theorem outT_apply (c s : Dev nD) (i : Fin 128) (b : Fin 256) :
    outT (F := Ideal) mI ρI c s (ix2 i b) = refOut A B (ix2 (rowOf s i) (colOf c b)) := by
  unfold outT
  rw [pay16_apply, pay13_apply, pay14_apply, tile_apply ρI H, amax_eq ρI H, refOut_apply]
  exact quant_eq _ _ (rect_nonneg A B _ _) ((refMax_le A B ix0 _).mp le_rfl _ _)

/-- Device `c`'s result, entry by entry. -/
theorem outV_apply (c : Dev nD) (i : Fin 4096) (b : Fin 256) :
    outV (F := Ideal) mI ρI c (ix2 i b) = refOut A B (ix2 i (colOf c b)) := by
  have h := outT_apply ρI H c (D (i.val / 128)) ⟨i.val % 128, Nat.mod_lt _ (by decide)⟩ b
  have e : rowOf (D (i.val / 128)) ⟨i.val % 128, Nat.mod_lt _ (by decide)⟩ = i := Fin.ext (by
    dsimp only [rowOf]; rw [D_val]; omega)
  rw [e] at h
  refine Eq.trans ?_ h
  unfold outV
  refine congrArg (outT (F := Ideal) mI ρI c (D (i.val / 128))) ?_
  funext d
  match d with
  | 0 => rfl
  | 1 => rfl

/-- Device `c`'s result is column block `c` of the reference's. -/
theorem outV_block (c : Dev nD) :
    outV (F := Ideal) mI ρI c = Layout.block ⟨2, ![4096, 256]⟩ ⟨2, ![4096, 8192]⟩ 1 32 c (refOut A B) := by
  funext j
  rw [Layout.block_apply]
  have e : j = ix2 (j 0) (j 1) := by
    funext d
    match d with
    | 0 => rfl
    | 1 => rfl
  rw [e]
  refine (outV_apply ρI H c (j 0) (j 1)).trans (congrArg (refOut A B) ?_)
  funext d
  apply Fin.ext
  match d with
  | 0 => rfl
  | 1 => show 256 * c.val + (j 1).val = c.val * 256 + (j 1).val
         omega

end

/-- The idealized kernel's results are the blocks of the idealized reference's. -/
theorem value : Cert.algebraic_KernelIdeal_ReferenceIdeal (hKernelIdeal := Cert.KernelIdeal.Gen.facts)
    (hReferenceIdeal := Cert.ReferenceIdeal.Gen.facts) := fun m ρ m' ρ' _ hin => by
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    { x := fun c i k => by
        refine (congrFun (hin c).1 (ix2 i k)).trans ?_
        rw [Layout.block_apply]
        refine congrArg (m' (((0 : Dev Cert.ReferenceIdeal.nD).tc : Thread Cert.ReferenceIdeal.nD Cert.ReferenceIdeal.τ).loc Cert.ReferenceIdeal.main_arg0)) ?_
        funext d
        apply Fin.ext
        match d with
        | 0 => show c.val * 128 + i.val = 128 * c.val + i.val
               omega
        | 1 => rfl
      w := fun c => (hin c).2 }
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨((h.1 c).1 1).trans ((finalA_out m ρ c).trans (outV_block ρ H c)), ((h.1 c).1 0).trans (finalA_x m ρ c), (h.1 c).2⟩)
      (run_main m ρ)
  · exact (θ_run (Cert.ReferenceIdeal.defs (F := Ideal)) _ _).mono (fun _ h => h 0) (Cert.ReferenceIdeal.Value.run (F := Ideal) m' ρ')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.KProof.frame_kernel, Cert.KProof.frame_kernelIdeal, Cert.KProof.frame_reference, trivial, Cert.KProof.value⟩

end Cert.Proof

end
